-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v51) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v111_0)) (v1 : (c : Dev Cert.Kernel3Ideal.nD) → Buf (Elt Ideal) ((c.tc : Thread Cert.Kernel3Ideal.nD Cert.Kernel3Ideal.τ).loc Cert.Kernel3Ideal.main_v111_1)) (v2 : (c : Dev Cert.Kernel3Ideal.nD) → Buf (Elt Ideal) ((c.tc : Thread Cert.Kernel3Ideal.nD Cert.Kernel3Ideal.τ).loc Cert.Kernel3Ideal.main_v111_2)) (v3 : (c : Dev Cert.Kernel3Ideal.nD) → Buf (Elt Ideal) ((c.tc : Thread Cert.Kernel3Ideal.nD Cert.Kernel3Ideal.τ).loc Cert.Kernel3Ideal.main_v113)) (v4 : (c : Dev Cert.Kernel3Ideal.nD) → Buf (Elt Ideal) ((c.tc : Thread Cert.Kernel3Ideal.nD Cert.Kernel3Ideal.τ).loc Cert.Kernel3Ideal.main_v120)) (v5 : (c : Dev Cert.Kernel3Ideal.nD) → Buf (Elt Ideal) ((c.tc : Thread Cert.Kernel3Ideal.nD Cert.Kernel3Ideal.τ).loc Cert.Kernel3Ideal.main_v117)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v111_0) = v0 c
          ∧ r.2.mem ((c.tc : Thread Cert.Kernel3Ideal.nD Cert.Kernel3Ideal.τ).loc Cert.Kernel3Ideal.main_v111_1) = v1 c
          ∧ r.2.mem ((c.tc : Thread Cert.Kernel3Ideal.nD Cert.Kernel3Ideal.τ).loc Cert.Kernel3Ideal.main_v111_2) = v2 c
          ∧ r.2.mem ((c.tc : Thread Cert.Kernel3Ideal.nD Cert.Kernel3Ideal.τ).loc Cert.Kernel3Ideal.main_v113) = v3 c
          ∧ r.2.mem ((c.tc : Thread Cert.Kernel3Ideal.nD Cert.Kernel3Ideal.τ).loc Cert.Kernel3Ideal.main_v120) = v4 c
          ∧ r.2.mem ((c.tc : Thread Cert.Kernel3Ideal.nD Cert.Kernel3Ideal.τ).loc Cert.Kernel3Ideal.main_v117) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v75) = v0 c
          ∧ r.2.mem ((c.tc : Thread Cert.Reference3Ideal.nD Cert.Reference3Ideal.τ).loc Cert.Reference3Ideal.main_v76) = v1 c
          ∧ r.2.mem ((c.tc : Thread Cert.Reference3Ideal.nD Cert.Reference3Ideal.τ).loc Cert.Reference3Ideal.main_v78) = v2 c
          ∧ r.2.mem ((c.tc : Thread Cert.Reference3Ideal.nD Cert.Reference3Ideal.τ).loc Cert.Reference3Ideal.main_v80) = v3 c
          ∧ r.2.mem ((c.tc : Thread Cert.Reference3Ideal.nD Cert.Reference3Ideal.τ).loc Cert.Reference3Ideal.main_v81) = v4 c
          ∧ r.2.mem ((c.tc : Thread Cert.Reference3Ideal.nD Cert.Reference3Ideal.τ).loc Cert.Reference3Ideal.main_v82) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_scores.lean ====
abbrev S2x8192x8x96 : Shape := ⟨4, ![2, 8192, 8, 96]⟩
abbrev S2x256x8x96 : Shape := ⟨4, ![2, 256, 8, 96]⟩
abbrev S2x256x8x64 : Shape := ⟨4, ![2, 256, 8, 64]⟩
abbrev S2x8192x8x64 : Shape := ⟨4, ![2, 8192, 8, 64]⟩
abbrev S2x16640x8x96 : Shape := ⟨4, ![2, 16640, 8, 96]⟩
abbrev S_ : Shape := ⟨0, ![]⟩

class Facts : Prop where
  concatenates_S2x8192x8x96_S2x256x8x96_S2x8192x8x96_S2x16640x8x96_d1 : Shape.Concatenates [S2x8192x8x96, S2x256x8x96, S2x8192x8x96] S2x16640x8x96 1
  bcast_S_S2x16640x8x96 : S_.BroadcastsInDim S2x16640x8x96 (![] : Fin 0 → Fin S2x16640x8x96.rank)

variable [Facts]

def fn {F : FTy → Type} [FloatOps F] (main_arg0 : FVec F S2x8192x8x96 .f32) (main_arg1 : FVec F S2x256x8x96 .f32) (main_arg2 : FVec F S2x256x8x64 .f32) (main_arg3 : FVec F S2x8192x8x96 .f32) (main_arg4 : FVec F S2x8192x8x64 .f32) : IVec S2x16640x8x96 1 :=
  let main_v0 : FVec F S2x16640x8x96 .f32 := concatenate S2x16640x8x96 1 [⟨S2x8192x8x96, main_arg0⟩, ⟨S2x256x8x96, main_arg1⟩, ⟨S2x8192x8x96, main_arg3⟩] concatenates_S2x8192x8x96_S2x256x8x96_S2x8192x8x96_S2x16640x8x96_d1
  let main_v1 : FVec F S2x16640x8x96 .f32 := Host.absf main_v0
  let main_cst : FVec F S_ .f32 := constant S_ .f32 0x7F800000#32
  let main_v2 : FVec F S2x16640x8x96 .f32 := broadcastInDim S2x16640x8x96 ![] bcast_S_S2x16640x8x96 main_cst
  let main_v3 : IVec S2x16640x8x96 1 := cmpf .olt main_v1 main_v2
  main_v3
-- ==== Kernel.lean ====
abbrev S2x8192x8x96 : Shape := ⟨4, ![2, 8192, 8, 96]⟩
abbrev S2x256x8x96 : Shape := ⟨4, ![2, 256, 8, 96]⟩
abbrev S2x256x8x64 : Shape := ⟨4, ![2, 256, 8, 64]⟩
abbrev S2x8192x8x64 : Shape := ⟨4, ![2, 8192, 8, 64]⟩
abbrev S_ : Shape := ⟨0, ![]⟩
abbrev S2x8192x8x32 : Shape := ⟨4, ![2, 8192, 8, 32]⟩
abbrev S2x8192x8x128 : Shape := ⟨4, ![2, 8192, 8, 128]⟩
abbrev S2x8192x1024 : Shape := ⟨3, ![2, 8192, 1024]⟩
abbrev S2x256x8x32 : Shape := ⟨4, ![2, 256, 8, 32]⟩
abbrev S2x256x8x128 : Shape := ⟨4, ![2, 256, 8, 128]⟩
abbrev S2x256x1024 : Shape := ⟨3, ![2, 256, 1024]⟩
abbrev S2x256x8x1 : Shape := ⟨4, ![2, 256, 8, 1]⟩
abbrev S2x256x8x15 : Shape := ⟨4, ![2, 256, 8, 15]⟩
abbrev S2x256x8x80 : Shape := ⟨4, ![2, 256, 8, 80]⟩
abbrev S2x256x640 : Shape := ⟨3, ![2, 256, 640]⟩
abbrev S2x640x256 : Shape := ⟨3, ![2, 640, 256]⟩
abbrev S2x8192x8x1 : Shape := ⟨4, ![2, 8192, 8, 1]⟩
abbrev S2x8192x8x15 : Shape := ⟨4, ![2, 8192, 8, 15]⟩
abbrev S2x8192x8x80 : Shape := ⟨4, ![2, 8192, 8, 80]⟩
abbrev S2x8192x640 : Shape := ⟨3, ![2, 8192, 640]⟩
abbrev S2x640x8192 : Shape := ⟨3, ![2, 640, 8192]⟩
abbrev S2x8192x512 : Shape := ⟨3, ![2, 8192, 512]⟩
abbrev S1x256x1024 : Shape := ⟨3, ![1, 256, 1024]⟩
abbrev S1x640x256 : Shape := ⟨3, ![1, 640, 256]⟩
abbrev S1x8192x1024 : Shape := ⟨3, ![1, 8192, 1024]⟩
abbrev S1x640x8192 : Shape := ⟨3, ![1, 640, 8192]⟩
abbrev S1x256x512 : Shape := ⟨3, ![1, 256, 512]⟩
abbrev S512x256 : Shape := ⟨2, ![512, 256]⟩
abbrev S256x256 : Shape := ⟨2, ![256, 256]⟩
abbrev S1x256x128 : Shape := ⟨3, ![1, 256, 128]⟩
abbrev S256x128 : Shape := ⟨2, ![256, 128]⟩
abbrev S1x512x128 : Shape := ⟨3, ![1, 512, 128]⟩
abbrev S512x128 : Shape := ⟨2, ![512, 128]⟩
abbrev S256 : Shape := ⟨1, ![256]⟩
abbrev S1x256 : Shape := ⟨2, ![1, 256]⟩
abbrev S1x80x256 : Shape := ⟨3, ![1, 80, 256]⟩
abbrev S80x256 : Shape := ⟨2, ![80, 256]⟩
abbrev S1x80x512 : Shape := ⟨3, ![1, 80, 512]⟩
abbrev S80x512 : Shape := ⟨2, ![80, 512]⟩
abbrev S64x256 : Shape := ⟨2, ![64, 256]⟩
abbrev S256x512 : Shape := ⟨2, ![256, 512]⟩

abbrev nBuf : Space → Nat
  | .hbm => 43
  | .vmem => 34
  | .smem => 0
  | _ => 0

abbrev bufTy : (tb : Table) → Fin (tcTables nBuf tb) → BufTy
  | .hbm, ⟨0, _⟩ => ⟨S2x8192x8x96, .f32⟩
  | .hbm, ⟨1, _⟩ => ⟨S2x256x8x96, .f32⟩
  | .hbm, ⟨2, _⟩ => ⟨S2x256x8x64, .f32⟩
  | .hbm, ⟨3, _⟩ => ⟨S2x8192x8x96, .f32⟩
  | .hbm, ⟨4, _⟩ => ⟨S2x8192x8x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S2x8192x8x96, .f32⟩
  | .hbm, ⟨10, _⟩ => ⟨S2x8192x8x96, .f32⟩
  | .hbm, ⟨11, _⟩ => ⟨S_, .f32⟩
  | .hbm, ⟨12, _⟩ => ⟨S2x8192x8x32, .f32⟩
  | .hbm, ⟨13, _⟩ => ⟨S2x8192x8x128, .f32⟩
  | .hbm, ⟨14, _⟩ => ⟨S2x8192x1024, .f32⟩
  | .hbm, ⟨15, _⟩ => ⟨S2x8192x1024, .bf16⟩
  | .hbm, ⟨16, _⟩ => ⟨S_, .f32⟩
  | .hbm, ⟨17, _⟩ => ⟨S2x256x8x32, .f32⟩
  | .hbm, ⟨18, _⟩ => ⟨S2x256x8x128, .f32⟩
  | .hbm, ⟨19, _⟩ => ⟨S2x256x1024, .f32⟩
  | .hbm, ⟨20, _⟩ => ⟨S2x256x1024, .bf16⟩
  | .hbm, ⟨21, _⟩ => ⟨S_, .f32⟩
  | .hbm, ⟨22, _⟩ => ⟨S2x256x8x1, .f32⟩
  | .hbm, ⟨23, _⟩ => ⟨S_, .f32⟩
  | .hbm, ⟨24, _⟩ => ⟨S2x256x8x15, .f32⟩
  | .hbm, ⟨25, _⟩ => ⟨S2x256x8x80, .f32⟩
  | .hbm, ⟨26, _⟩ => ⟨S2x256x640, .f32⟩
  | .hbm, ⟨27, _⟩ => ⟨S2x640x256, .f32⟩
  | .hbm, ⟨28, _⟩ => ⟨S2x640x256, .bf16⟩
  | .hbm, ⟨29, _⟩ => ⟨S_, .f32⟩
  | .hbm, ⟨30, _⟩ => ⟨S2x8192x8x32, .f32⟩
  | .hbm, ⟨31, _⟩ => ⟨S2x8192x8x128, .f32⟩
  | .hbm, ⟨32, _⟩ => ⟨S2x8192x1024, .f32⟩
  | .hbm, ⟨33, _⟩ => ⟨S2x8192x1024, .bf16⟩
  | .hbm, ⟨34, _⟩ => ⟨S_, .f32⟩
  | .hbm, ⟨35, _⟩ => ⟨S2x8192x8x1, .f32⟩
  | .hbm, ⟨36, _⟩ => ⟨S_, .f32⟩
  | .hbm, ⟨37, _⟩ => ⟨S2x8192x8x15, .f32⟩
  | .hbm, ⟨38, _⟩ => ⟨S2x8192x8x80, .f32⟩
  | .hbm, ⟨39, _⟩ => ⟨S2x8192x640, .f32⟩
  | .hbm, ⟨40, _⟩ => ⟨S2x640x8192, .f32⟩
  | .hbm, ⟨41, _⟩ => ⟨S2x640x8192, .bf16⟩
  | .hbm, ⟨42, _⟩ => ⟨S2x8192x512, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x640x256, .bf16⟩
  | .local _ .vmem, ⟨5, _⟩ => ⟨S1x640x256, .bf16⟩
  | .local _ .vmem, ⟨6, _⟩ => ⟨S1x8192x1024, .bf16⟩
  | .local _ .vmem, ⟨7, _⟩ => ⟨S1x640x8192, .bf16⟩
  | .local _ .vmem, ⟨8, _⟩ => ⟨S1x256x512, .bf16⟩
  | .local _ .vmem, ⟨9, _⟩ => ⟨S1x256x512, .bf16⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x256, .f32⟩
  | .local _ .vmem, ⟨25, _⟩ => ⟨S512x256, .f32⟩
  | .local _ .vmem, ⟨26, _⟩ => ⟨S256x256, .f32⟩
  | .local _ .vmem, ⟨27, _⟩ => ⟨S256x256, .f32⟩
  | .local _ .vmem, ⟨28, _⟩ => ⟨S256x256, .f32⟩
  | .local _ .vmem, ⟨29, _⟩ => ⟨S256x256, .f32⟩
  | .local _ .vmem, ⟨30, _⟩ => ⟨S256x256, .f32⟩
  | .local _ .vmem, ⟨31, _⟩ => ⟨S256x256, .f32⟩
  | .local _ .vmem, ⟨32, _⟩ => ⟨S256x256, .f32⟩
  | .local _ .vmem, ⟨33, _⟩ => ⟨S256x256, .f32⟩
  | _, _ => ⟨S2x8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_scratch9 : Ref sig .tc := ⟨.vmem, 19, rfl⟩
abbrev cc0_scratch10 : Ref sig .tc := ⟨.vmem, 20, rfl⟩
abbrev cc0_scratch11 : Ref sig .tc := ⟨.vmem, 21, rfl⟩
abbrev cc0_scratch12 : Ref sig .tc := ⟨.vmem, 22, rfl⟩
abbrev cc0_scratch13 : Ref sig .tc := ⟨.vmem, 23, rfl⟩
abbrev cc0_scratch14 : Ref sig .tc := ⟨.vmem, 24, rfl⟩
abbrev cc0_scratch15 : Ref sig .tc := ⟨.vmem, 25, rfl⟩
abbrev cc0_scratch16 : Ref sig .tc := ⟨.vmem, 26, rfl⟩
abbrev cc0_scratch17 : Ref sig .tc := ⟨.vmem, 27, rfl⟩
abbrev cc0_scratch18 : Ref sig .tc := ⟨.vmem, 28, rfl⟩
abbrev cc0_scratch19 : Ref sig .tc := ⟨.vmem, 29, rfl⟩
abbrev cc0_scratch20 : Ref sig .tc := ⟨.vmem, 30, rfl⟩
abbrev cc0_scratch21 : Ref sig .tc := ⟨.vmem, 31, rfl⟩
abbrev cc0_scratch22 : Ref sig .tc := ⟨.vmem, 32, rfl⟩
abbrev cc0_scratch23 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 1, 32], ![false, false, false]⟩

def k0_mult1 : BitVec 32 :=
  let c0_i32 : BitVec 32 := 0#32
  c0_i32
def k0_mult2 : BitVec 32 :=
  let c0_i32_34 : BitVec 32 := 0#32
  c0_i32_34
def k0_mult3 : BitVec 32 :=
  let c0_i32_48 : BitVec 32 := 0#32
  c0_i32_48
def k0_mult4 : BitVec 32 :=
  let c0_i32_62 : BitVec 32 := 0#32
  c0_i32_62
def k0_mult5 : BitVec 32 :=
  let c0_i32_76 : BitVec 32 := 0#32
  c0_i32_76
def k0_mult6 : BitVec 32 :=
  let c0_i32_90 : BitVec 32 := 0#32
  c0_i32_90
def k0_mult7 : BitVec 32 :=
  let c0_i32_104 : BitVec 32 := 0#32
  c0_i32_104
def k0_mult8 : BitVec 32 :=
  let c0_i32_118 : BitVec 32 := 0#32
  c0_i32_118
def k0_mult9 : BitVec 32 :=
  let c512_i32 : BitVec 32 := 512#32
  c512_i32
def k0_mult10 : BitVec 32 :=
  let c0_i32_140 : BitVec 32 := 0#32
  c0_i32_140
def k0_mult11 : BitVec 32 :=
  let c512_i32_144 : BitVec 32 := 512#32
  c512_i32_144
def k0_mult12 : BitVec 32 :=
  let c0_i32_158 : BitVec 32 := 0#32
  c0_i32_158
def k0_mult13 : BitVec 32 :=
  let c512_i32_162 : BitVec 32 := 512#32
  c512_i32_162
def k0_mult14 : BitVec 32 :=
  let c0_i32_176 : BitVec 32 := 0#32
  c0_i32_176
def k0_mult15 : BitVec 32 :=
  let c512_i32_180 : BitVec 32 := 512#32
  c512_i32_180
def k0_mult16 : BitVec 32 :=
  let c0_i32_194 : BitVec 32 := 0#32
  c0_i32_194
def k0_mult17 : BitVec 32 :=
  let c512_i32_198 : BitVec 32 := 512#32
  c512_i32_198
def k0_mult18 : BitVec 32 :=
  let c0_i32_212 : BitVec 32 := 0#32
  c0_i32_212
def k0_mult19 : BitVec 32 :=
  let c512_i32_216 : BitVec 32 := 512#32
  c512_i32_216
def k0_mult20 : BitVec 32 :=
  let c0_i32_230 : BitVec 32 := 0#32
  c0_i32_230
def k0_mult21 : BitVec 32 :=
  let c512_i32_234 : BitVec 32 := 512#32
  c512_i32_234
def k0_mult22 : BitVec 32 :=
  let c0_i32_248 : BitVec 32 := 0#32
  c0_i32_248
def k0_mult23 : BitVec 32 :=
  let c512_i32_252 : BitVec 32 := 512#32
  c512_i32_252
def k0_mult24 : BitVec 32 :=
  let c0_i32_266 : BitVec 32 := 0#32
  c0_i32_266
@[reducible] def k0_t1_loop : Scf.Loop 32 :=
  let c0_i32_270 : BitVec 32 := 0#32
  let c2_i32 : BitVec 32 := 2#32
  let v400 : BitVec 32 := Scalar.addi c0_i32_270 c2_i32
  let c1_i32 : BitVec 32 := 1#32
  ⟨c0_i32_270, v400, c1_i32⟩
def k0_mult25 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c0_i32_529 : BitVec 32 := 0#32
  let v986 : BitVec 32 := Scalar.addi v985 c0_i32_529
  let c512_i32_530 : BitVec 32 := 512#32
  let v987 : BitVec 32 := Scalar.muli v986 c512_i32_530
  v987
def k0_off1 (k0_t1 : Fin k0_t1_loop.trips) (c0_i32_529 : BitVec 32) : Fin 3 → Nat :=
  let c0_531 : Index := 0#32
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let v986 : BitVec 32 := Scalar.addi v985 c0_i32_529
  let c512_i32_530 : BitVec 32 := 512#32
  let v987 : BitVec 32 := Scalar.muli v986 c512_i32_530
  let v988 : BitVec 32 := v987
  let v989 : Index := Scalar.indexCast v988
  let c0_532 : Index := 0#32
  ![0, v989.toNat, 0]
def k0_mult26 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c0_i32_529 : BitVec 32 := 0#32
  let v986 : BitVec 32 := Scalar.addi v985 c0_i32_529
  let c1_i32_537 : BitVec 32 := 1#32
  let v998 : BitVec 32 := Scalar.subi v986 c1_i32_537
  let c512_i32_540 : BitVec 32 := 512#32
  let v1009 : BitVec 32 := Scalar.muli v998 c512_i32_540
  v1009
def k0_off2 (k0_t1 : Fin k0_t1_loop.trips) (c0_i32_529 : BitVec 32) : Fin 3 → Nat :=
  let c0_541 : Index := 0#32
  let c0_542 : Index := 0#32
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let v986 : BitVec 32 := Scalar.addi v985 c0_i32_529
  let c1_i32_537 : BitVec 32 := 1#32
  let v998 : BitVec 32 := Scalar.subi v986 c1_i32_537
  let c512_i32_540 : BitVec 32 := 512#32
  let v1009 : BitVec 32 := Scalar.muli v998 c512_i32_540
  let v1010 : BitVec 32 := v1009
  let v1011 : Index := Scalar.indexCast v1010
  ![0, 0, v1011.toNat]
def k0_mult27 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c0_i32_529 : BitVec 32 := 0#32
  let v986 : BitVec 32 := Scalar.addi v985 c0_i32_529
  let c512_i32_544 : BitVec 32 := 512#32
  let v1016 : BitVec 32 := Scalar.muli v986 c512_i32_544
  v1016
def k0_off3 (k0_t1 : Fin k0_t1_loop.trips) (c0_i32_529 : BitVec 32) : Fin 3 → Nat :=
  let c0_545 : Index := 0#32
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let v986 : BitVec 32 := Scalar.addi v985 c0_i32_529
  let c512_i32_544 : BitVec 32 := 512#32
  let v1016 : BitVec 32 := Scalar.muli v986 c512_i32_544
  let v1017 : BitVec 32 := v1016
  let v1018 : Index := Scalar.indexCast v1017
  let c128_546 : Index := 128#32
  ![0, v1018.toNat, 128]
def k0_mult28 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c0_i32_529 : BitVec 32 := 0#32
  let v986 : BitVec 32 := Scalar.addi v985 c0_i32_529
  let c1_i32_551 : BitVec 32 := 1#32
  let v1027 : BitVec 32 := Scalar.subi v986 c1_i32_551
  let c512_i32_554 : BitVec 32 := 512#32
  let v1038 : BitVec 32 := Scalar.muli v1027 c512_i32_554
  v1038
def k0_off4 (k0_t1 : Fin k0_t1_loop.trips) (c0_i32_529 : BitVec 32) : Fin 3 → Nat :=
  let c0_555 : Index := 0#32
  let c80_556 : Index := 80#32
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let v986 : BitVec 32 := Scalar.addi v985 c0_i32_529
  let c1_i32_551 : BitVec 32 := 1#32
  let v1027 : BitVec 32 := Scalar.subi v986 c1_i32_551
  let c512_i32_554 : BitVec 32 := 512#32
  let v1038 : BitVec 32 := Scalar.muli v1027 c512_i32_554
  let v1039 : BitVec 32 := v1038
  let v1040 : Index := Scalar.indexCast v1039
  ![0, 80, v1040.toNat]
def k0_mult29 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c0_i32_529 : BitVec 32 := 0#32
  let v986 : BitVec 32 := Scalar.addi v985 c0_i32_529
  let c512_i32_558 : BitVec 32 := 512#32
  let v1045 : BitVec 32 := Scalar.muli v986 c512_i32_558
  v1045
def k0_off5 (k0_t1 : Fin k0_t1_loop.trips) (c0_i32_529 : BitVec 32) : Fin 3 → Nat :=
  let c0_559 : Index := 0#32
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let v986 : BitVec 32 := Scalar.addi v985 c0_i32_529
  let c512_i32_558 : BitVec 32 := 512#32
  let v1045 : BitVec 32 := Scalar.muli v986 c512_i32_558
  let v1046 : BitVec 32 := v1045
  let v1047 : Index := Scalar.indexCast v1046
  let c256_560 : Index := 256#32
  ![0, v1047.toNat, 256]
def k0_mult30 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c0_i32_529 : BitVec 32 := 0#32
  let v986 : BitVec 32 := Scalar.addi v985 c0_i32_529
  let c1_i32_565 : BitVec 32 := 1#32
  let v1056 : BitVec 32 := Scalar.subi v986 c1_i32_565
  let c512_i32_568 : BitVec 32 := 512#32
  let v1067 : BitVec 32 := Scalar.muli v1056 c512_i32_568
  v1067
def k0_off6 (k0_t1 : Fin k0_t1_loop.trips) (c0_i32_529 : BitVec 32) : Fin 3 → Nat :=
  let c0_569 : Index := 0#32
  let c160_570 : Index := 160#32
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let v986 : BitVec 32 := Scalar.addi v985 c0_i32_529
  let c1_i32_565 : BitVec 32 := 1#32
  let v1056 : BitVec 32 := Scalar.subi v986 c1_i32_565
  let c512_i32_568 : BitVec 32 := 512#32
  let v1067 : BitVec 32 := Scalar.muli v1056 c512_i32_568
  let v1068 : BitVec 32 := v1067
  let v1069 : Index := Scalar.indexCast v1068
  ![0, 160, v1069.toNat]
def k0_mult31 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c0_i32_529 : BitVec 32 := 0#32
  let v986 : BitVec 32 := Scalar.addi v985 c0_i32_529
  let c512_i32_572 : BitVec 32 := 512#32
  let v1074 : BitVec 32 := Scalar.muli v986 c512_i32_572
  v1074
def k0_off7 (k0_t1 : Fin k0_t1_loop.trips) (c0_i32_529 : BitVec 32) : Fin 3 → Nat :=
  let c0_573 : Index := 0#32
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let v986 : BitVec 32 := Scalar.addi v985 c0_i32_529
  let c512_i32_572 : BitVec 32 := 512#32
  let v1074 : BitVec 32 := Scalar.muli v986 c512_i32_572
  let v1075 : BitVec 32 := v1074
  let v1076 : Index := Scalar.indexCast v1075
  let c384_574 : Index := 384#32
  ![0, v1076.toNat, 384]
def k0_mult32 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c0_i32_529 : BitVec 32 := 0#32
  let v986 : BitVec 32 := Scalar.addi v985 c0_i32_529
  let c1_i32_579 : BitVec 32 := 1#32
  let v1085 : BitVec 32 := Scalar.subi v986 c1_i32_579
  let c512_i32_582 : BitVec 32 := 512#32
  let v1096 : BitVec 32 := Scalar.muli v1085 c512_i32_582
  v1096
def k0_off8 (k0_t1 : Fin k0_t1_loop.trips) (c0_i32_529 : BitVec 32) : Fin 3 → Nat :=
  let c0_583 : Index := 0#32
  let c240_584 : Index := 240#32
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let v986 : BitVec 32 := Scalar.addi v985 c0_i32_529
  let c1_i32_579 : BitVec 32 := 1#32
  let v1085 : BitVec 32 := Scalar.subi v986 c1_i32_579
  let c512_i32_582 : BitVec 32 := 512#32
  let v1096 : BitVec 32 := Scalar.muli v1085 c512_i32_582
  let v1097 : BitVec 32 := v1096
  let v1098 : Index := Scalar.indexCast v1097
  ![0, 240, v1098.toNat]
def k0_mult33 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c0_i32_529 : BitVec 32 := 0#32
  let v986 : BitVec 32 := Scalar.addi v985 c0_i32_529
  let c512_i32_586 : BitVec 32 := 512#32
  let v1103 : BitVec 32 := Scalar.muli v986 c512_i32_586
  v1103
def k0_off9 (k0_t1 : Fin k0_t1_loop.trips) (c0_i32_529 : BitVec 32) : Fin 3 → Nat :=
  let c0_587 : Index := 0#32
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let v986 : BitVec 32 := Scalar.addi v985 c0_i32_529
  let c512_i32_586 : BitVec 32 := 512#32
  let v1103 : BitVec 32 := Scalar.muli v986 c512_i32_586
  let v1104 : BitVec 32 := v1103
  let v1105 : Index := Scalar.indexCast v1104
  let c512_588 : Index := 512#32
  ![0, v1105.toNat, 512]
def k0_mult34 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c0_i32_529 : BitVec 32 := 0#32
  let v986 : BitVec 32 := Scalar.addi v985 c0_i32_529
  let c1_i32_593 : BitVec 32 := 1#32
  let v1114 : BitVec 32 := Scalar.subi v986 c1_i32_593
  let c512_i32_596 : BitVec 32 := 512#32
  let v1125 : BitVec 32 := Scalar.muli v1114 c512_i32_596
  v1125
def k0_off10 (k0_t1 : Fin k0_t1_loop.trips) (c0_i32_529 : BitVec 32) : Fin 3 → Nat :=
  let c0_597 : Index := 0#32
  let c320_598 : Index := 320#32
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let v986 : BitVec 32 := Scalar.addi v985 c0_i32_529
  let c1_i32_593 : BitVec 32 := 1#32
  let v1114 : BitVec 32 := Scalar.subi v986 c1_i32_593
  let c512_i32_596 : BitVec 32 := 512#32
  let v1125 : BitVec 32 := Scalar.muli v1114 c512_i32_596
  let v1126 : BitVec 32 := v1125
  let v1127 : Index := Scalar.indexCast v1126
  ![0, 320, v1127.toNat]
def k0_mult35 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c0_i32_529 : BitVec 32 := 0#32
  let v986 : BitVec 32 := Scalar.addi v985 c0_i32_529
  let c512_i32_600 : BitVec 32 := 512#32
  let v1132 : BitVec 32 := Scalar.muli v986 c512_i32_600
  v1132
def k0_off11 (k0_t1 : Fin k0_t1_loop.trips) (c0_i32_529 : BitVec 32) : Fin 3 → Nat :=
  let c0_601 : Index := 0#32
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let v986 : BitVec 32 := Scalar.addi v985 c0_i32_529
  let c512_i32_600 : BitVec 32 := 512#32
  let v1132 : BitVec 32 := Scalar.muli v986 c512_i32_600
  let v1133 : BitVec 32 := v1132
  let v1134 : Index := Scalar.indexCast v1133
  let c640_602 : Index := 640#32
  ![0, v1134.toNat, 640]
def k0_mult36 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c0_i32_529 : BitVec 32 := 0#32
  let v986 : BitVec 32 := Scalar.addi v985 c0_i32_529
  let c1_i32_607 : BitVec 32 := 1#32
  let v1143 : BitVec 32 := Scalar.subi v986 c1_i32_607
  let c512_i32_610 : BitVec 32 := 512#32
  let v1154 : BitVec 32 := Scalar.muli v1143 c512_i32_610
  v1154
def k0_off12 (k0_t1 : Fin k0_t1_loop.trips) (c0_i32_529 : BitVec 32) : Fin 3 → Nat :=
  let c0_611 : Index := 0#32
  let c400_612 : Index := 400#32
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let v986 : BitVec 32 := Scalar.addi v985 c0_i32_529
  let c1_i32_607 : BitVec 32 := 1#32
  let v1143 : BitVec 32 := Scalar.subi v986 c1_i32_607
  let c512_i32_610 : BitVec 32 := 512#32
  let v1154 : BitVec 32 := Scalar.muli v1143 c512_i32_610
  let v1155 : BitVec 32 := v1154
  let v1156 : Index := Scalar.indexCast v1155
  ![0, 400, v1156.toNat]
def k0_mult37 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c0_i32_529 : BitVec 32 := 0#32
  let v986 : BitVec 32 := Scalar.addi v985 c0_i32_529
  let c512_i32_614 : BitVec 32 := 512#32
  let v1161 : BitVec 32 := Scalar.muli v986 c512_i32_614
  v1161
def k0_off13 (k0_t1 : Fin k0_t1_loop.trips) (c0_i32_529 : BitVec 32) : Fin 3 → Nat :=
  let c0_615 : Index := 0#32
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let v986 : BitVec 32 := Scalar.addi v985 c0_i32_529
  let c512_i32_614 : BitVec 32 := 512#32
  let v1161 : BitVec 32 := Scalar.muli v986 c512_i32_614
  let v1162 : BitVec 32 := v1161
  let v1163 : Index := Scalar.indexCast v1162
  let c768_616 : Index := 768#32
  ![0, v1163.toNat, 768]
def k0_mult38 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c0_i32_529 : BitVec 32 := 0#32
  let v986 : BitVec 32 := Scalar.addi v985 c0_i32_529
  let c1_i32_621 : BitVec 32 := 1#32
  let v1172 : BitVec 32 := Scalar.subi v986 c1_i32_621
  let c512_i32_624 : BitVec 32 := 512#32
  let v1183 : BitVec 32 := Scalar.muli v1172 c512_i32_624
  v1183
def k0_off14 (k0_t1 : Fin k0_t1_loop.trips) (c0_i32_529 : BitVec 32) : Fin 3 → Nat :=
  let c0_625 : Index := 0#32
  let c480_626 : Index := 480#32
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let v986 : BitVec 32 := Scalar.addi v985 c0_i32_529
  let c1_i32_621 : BitVec 32 := 1#32
  let v1172 : BitVec 32 := Scalar.subi v986 c1_i32_621
  let c512_i32_624 : BitVec 32 := 512#32
  let v1183 : BitVec 32 := Scalar.muli v1172 c512_i32_624
  let v1184 : BitVec 32 := v1183
  let v1185 : Index := Scalar.indexCast v1184
  ![0, 480, v1185.toNat]
def k0_mult39 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c0_i32_529 : BitVec 32 := 0#32
  let v986 : BitVec 32 := Scalar.addi v985 c0_i32_529
  let c512_i32_628 : BitVec 32 := 512#32
  let v1190 : BitVec 32 := Scalar.muli v986 c512_i32_628
  v1190
def k0_off15 (k0_t1 : Fin k0_t1_loop.trips) (c0_i32_529 : BitVec 32) : Fin 3 → Nat :=
  let c0_629 : Index := 0#32
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let v986 : BitVec 32 := Scalar.addi v985 c0_i32_529
  let c512_i32_628 : BitVec 32 := 512#32
  let v1190 : BitVec 32 := Scalar.muli v986 c512_i32_628
  let v1191 : BitVec 32 := v1190
  let v1192 : Index := Scalar.indexCast v1191
  let c896_630 : Index := 896#32
  ![0, v1192.toNat, 896]
def k0_mult40 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c0_i32_529 : BitVec 32 := 0#32
  let v986 : BitVec 32 := Scalar.addi v985 c0_i32_529
  let c1_i32_635 : BitVec 32 := 1#32
  let v1201 : BitVec 32 := Scalar.subi v986 c1_i32_635
  let c512_i32_638 : BitVec 32 := 512#32
  let v1212 : BitVec 32 := Scalar.muli v1201 c512_i32_638
  v1212
def k0_off16 (k0_t1 : Fin k0_t1_loop.trips) (c0_i32_529 : BitVec 32) : Fin 3 → Nat :=
  let c0_639 : Index := 0#32
  let c560_640 : Index := 560#32
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let v986 : BitVec 32 := Scalar.addi v985 c0_i32_529
  let c1_i32_635 : BitVec 32 := 1#32
  let v1201 : BitVec 32 := Scalar.subi v986 c1_i32_635
  let c512_i32_638 : BitVec 32 := 512#32
  let v1212 : BitVec 32 := Scalar.muli v1201 c512_i32_638
  let v1213 : BitVec 32 := v1212
  let v1214 : Index := Scalar.indexCast v1213
  ![0, 560, v1214.toNat]
def k0_mult41 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c1_i32_642 : BitVec 32 := 1#32
  let v1219 : BitVec 32 := Scalar.addi v985 c1_i32_642
  let c512_i32_643 : BitVec 32 := 512#32
  let v1220 : BitVec 32 := Scalar.muli v1219 c512_i32_643
  v1220
def k0_mult42 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c1_i32_642 : BitVec 32 := 1#32
  let v1219 : BitVec 32 := Scalar.addi v985 c1_i32_642
  let c1_i32_650 : BitVec 32 := 1#32
  let v1231 : BitVec 32 := Scalar.subi v1219 c1_i32_650
  let c512_i32_653 : BitVec 32 := 512#32
  let v1242 : BitVec 32 := Scalar.muli v1231 c512_i32_653
  v1242
def k0_mult43 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c1_i32_642 : BitVec 32 := 1#32
  let v1219 : BitVec 32 := Scalar.addi v985 c1_i32_642
  let c512_i32_657 : BitVec 32 := 512#32
  let v1249 : BitVec 32 := Scalar.muli v1219 c512_i32_657
  v1249
def k0_mult44 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c1_i32_642 : BitVec 32 := 1#32
  let v1219 : BitVec 32 := Scalar.addi v985 c1_i32_642
  let c1_i32_664 : BitVec 32 := 1#32
  let v1260 : BitVec 32 := Scalar.subi v1219 c1_i32_664
  let c512_i32_667 : BitVec 32 := 512#32
  let v1271 : BitVec 32 := Scalar.muli v1260 c512_i32_667
  v1271
def k0_mult45 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c1_i32_642 : BitVec 32 := 1#32
  let v1219 : BitVec 32 := Scalar.addi v985 c1_i32_642
  let c512_i32_671 : BitVec 32 := 512#32
  let v1278 : BitVec 32 := Scalar.muli v1219 c512_i32_671
  v1278
def k0_mult46 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c1_i32_642 : BitVec 32 := 1#32
  let v1219 : BitVec 32 := Scalar.addi v985 c1_i32_642
  let c1_i32_678 : BitVec 32 := 1#32
  let v1289 : BitVec 32 := Scalar.subi v1219 c1_i32_678
  let c512_i32_681 : BitVec 32 := 512#32
  let v1300 : BitVec 32 := Scalar.muli v1289 c512_i32_681
  v1300
def k0_mult47 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c1_i32_642 : BitVec 32 := 1#32
  let v1219 : BitVec 32 := Scalar.addi v985 c1_i32_642
  let c512_i32_685 : BitVec 32 := 512#32
  let v1307 : BitVec 32 := Scalar.muli v1219 c512_i32_685
  v1307
def k0_mult48 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c1_i32_642 : BitVec 32 := 1#32
  let v1219 : BitVec 32 := Scalar.addi v985 c1_i32_642
  let c1_i32_692 : BitVec 32 := 1#32
  let v1318 : BitVec 32 := Scalar.subi v1219 c1_i32_692
  let c512_i32_695 : BitVec 32 := 512#32
  let v1329 : BitVec 32 := Scalar.muli v1318 c512_i32_695
  v1329
def k0_mult49 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c1_i32_642 : BitVec 32 := 1#32
  let v1219 : BitVec 32 := Scalar.addi v985 c1_i32_642
  let c512_i32_699 : BitVec 32 := 512#32
  let v1336 : BitVec 32 := Scalar.muli v1219 c512_i32_699
  v1336
def k0_mult50 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c1_i32_642 : BitVec 32 := 1#32
  let v1219 : BitVec 32 := Scalar.addi v985 c1_i32_642
  let c1_i32_706 : BitVec 32 := 1#32
  let v1347 : BitVec 32 := Scalar.subi v1219 c1_i32_706
  let c512_i32_709 : BitVec 32 := 512#32
  let v1358 : BitVec 32 := Scalar.muli v1347 c512_i32_709
  v1358
def k0_mult51 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c1_i32_642 : BitVec 32 := 1#32
  let v1219 : BitVec 32 := Scalar.addi v985 c1_i32_642
  let c512_i32_713 : BitVec 32 := 512#32
  let v1365 : BitVec 32 := Scalar.muli v1219 c512_i32_713
  v1365
def k0_mult52 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c1_i32_642 : BitVec 32 := 1#32
  let v1219 : BitVec 32 := Scalar.addi v985 c1_i32_642
  let c1_i32_720 : BitVec 32 := 1#32
  let v1376 : BitVec 32 := Scalar.subi v1219 c1_i32_720
  let c512_i32_723 : BitVec 32 := 512#32
  let v1387 : BitVec 32 := Scalar.muli v1376 c512_i32_723
  v1387
def k0_mult53 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c1_i32_642 : BitVec 32 := 1#32
  let v1219 : BitVec 32 := Scalar.addi v985 c1_i32_642
  let c512_i32_727 : BitVec 32 := 512#32
  let v1394 : BitVec 32 := Scalar.muli v1219 c512_i32_727
  v1394
def k0_mult54 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c1_i32_642 : BitVec 32 := 1#32
  let v1219 : BitVec 32 := Scalar.addi v985 c1_i32_642
  let c1_i32_734 : BitVec 32 := 1#32
  let v1405 : BitVec 32 := Scalar.subi v1219 c1_i32_734
  let c512_i32_737 : BitVec 32 := 512#32
  let v1416 : BitVec 32 := Scalar.muli v1405 c512_i32_737
  v1416
def k0_mult55 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c1_i32_642 : BitVec 32 := 1#32
  let v1219 : BitVec 32 := Scalar.addi v985 c1_i32_642
  let c512_i32_741 : BitVec 32 := 512#32
  let v1423 : BitVec 32 := Scalar.muli v1219 c512_i32_741
  v1423
def k0_mult56 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c1_i32_642 : BitVec 32 := 1#32
  let v1219 : BitVec 32 := Scalar.addi v985 c1_i32_642
  let c1_i32_748 : BitVec 32 := 1#32
  let v1434 : BitVec 32 := Scalar.subi v1219 c1_i32_748
  let c512_i32_751 : BitVec 32 := 512#32
  let v1445 : BitVec 32 := Scalar.muli v1434 c512_i32_751
  v1445
def k0_mult57 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c2_i32_755 : BitVec 32 := 2#32
  let v1452 : BitVec 32 := Scalar.addi v985 c2_i32_755
  let c512_i32_756 : BitVec 32 := 512#32
  let v1453 : BitVec 32 := Scalar.muli v1452 c512_i32_756
  v1453
def k0_mult58 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c2_i32_755 : BitVec 32 := 2#32
  let v1452 : BitVec 32 := Scalar.addi v985 c2_i32_755
  let c1_i32_763 : BitVec 32 := 1#32
  let v1464 : BitVec 32 := Scalar.subi v1452 c1_i32_763
  let c512_i32_766 : BitVec 32 := 512#32
  let v1475 : BitVec 32 := Scalar.muli v1464 c512_i32_766
  v1475
def k0_mult59 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c2_i32_755 : BitVec 32 := 2#32
  let v1452 : BitVec 32 := Scalar.addi v985 c2_i32_755
  let c512_i32_770 : BitVec 32 := 512#32
  let v1482 : BitVec 32 := Scalar.muli v1452 c512_i32_770
  v1482
def k0_mult60 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c2_i32_755 : BitVec 32 := 2#32
  let v1452 : BitVec 32 := Scalar.addi v985 c2_i32_755
  let c1_i32_777 : BitVec 32 := 1#32
  let v1493 : BitVec 32 := Scalar.subi v1452 c1_i32_777
  let c512_i32_780 : BitVec 32 := 512#32
  let v1504 : BitVec 32 := Scalar.muli v1493 c512_i32_780
  v1504
def k0_mult61 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c2_i32_755 : BitVec 32 := 2#32
  let v1452 : BitVec 32 := Scalar.addi v985 c2_i32_755
  let c512_i32_784 : BitVec 32 := 512#32
  let v1511 : BitVec 32 := Scalar.muli v1452 c512_i32_784
  v1511
def k0_mult62 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c2_i32_755 : BitVec 32 := 2#32
  let v1452 : BitVec 32 := Scalar.addi v985 c2_i32_755
  let c1_i32_791 : BitVec 32 := 1#32
  let v1522 : BitVec 32 := Scalar.subi v1452 c1_i32_791
  let c512_i32_794 : BitVec 32 := 512#32
  let v1533 : BitVec 32 := Scalar.muli v1522 c512_i32_794
  v1533
def k0_mult63 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c2_i32_755 : BitVec 32 := 2#32
  let v1452 : BitVec 32 := Scalar.addi v985 c2_i32_755
  let c512_i32_798 : BitVec 32 := 512#32
  let v1540 : BitVec 32 := Scalar.muli v1452 c512_i32_798
  v1540
def k0_mult64 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c2_i32_755 : BitVec 32 := 2#32
  let v1452 : BitVec 32 := Scalar.addi v985 c2_i32_755
  let c1_i32_805 : BitVec 32 := 1#32
  let v1551 : BitVec 32 := Scalar.subi v1452 c1_i32_805
  let c512_i32_808 : BitVec 32 := 512#32
  let v1562 : BitVec 32 := Scalar.muli v1551 c512_i32_808
  v1562
def k0_mult65 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c2_i32_755 : BitVec 32 := 2#32
  let v1452 : BitVec 32 := Scalar.addi v985 c2_i32_755
  let c512_i32_812 : BitVec 32 := 512#32
  let v1569 : BitVec 32 := Scalar.muli v1452 c512_i32_812
  v1569
def k0_mult66 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c2_i32_755 : BitVec 32 := 2#32
  let v1452 : BitVec 32 := Scalar.addi v985 c2_i32_755
  let c1_i32_819 : BitVec 32 := 1#32
  let v1580 : BitVec 32 := Scalar.subi v1452 c1_i32_819
  let c512_i32_822 : BitVec 32 := 512#32
  let v1591 : BitVec 32 := Scalar.muli v1580 c512_i32_822
  v1591
def k0_mult67 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c2_i32_755 : BitVec 32 := 2#32
  let v1452 : BitVec 32 := Scalar.addi v985 c2_i32_755
  let c512_i32_826 : BitVec 32 := 512#32
  let v1598 : BitVec 32 := Scalar.muli v1452 c512_i32_826
  v1598
def k0_mult68 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c2_i32_755 : BitVec 32 := 2#32
  let v1452 : BitVec 32 := Scalar.addi v985 c2_i32_755
  let c1_i32_833 : BitVec 32 := 1#32
  let v1609 : BitVec 32 := Scalar.subi v1452 c1_i32_833
  let c512_i32_836 : BitVec 32 := 512#32
  let v1620 : BitVec 32 := Scalar.muli v1609 c512_i32_836
  v1620
def k0_mult69 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c2_i32_755 : BitVec 32 := 2#32
  let v1452 : BitVec 32 := Scalar.addi v985 c2_i32_755
  let c512_i32_840 : BitVec 32 := 512#32
  let v1627 : BitVec 32 := Scalar.muli v1452 c512_i32_840
  v1627
def k0_mult70 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c2_i32_755 : BitVec 32 := 2#32
  let v1452 : BitVec 32 := Scalar.addi v985 c2_i32_755
  let c1_i32_847 : BitVec 32 := 1#32
  let v1638 : BitVec 32 := Scalar.subi v1452 c1_i32_847
  let c512_i32_850 : BitVec 32 := 512#32
  let v1649 : BitVec 32 := Scalar.muli v1638 c512_i32_850
  v1649
def k0_mult71 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c2_i32_755 : BitVec 32 := 2#32
  let v1452 : BitVec 32 := Scalar.addi v985 c2_i32_755
  let c512_i32_854 : BitVec 32 := 512#32
  let v1656 : BitVec 32 := Scalar.muli v1452 c512_i32_854
  v1656
def k0_mult72 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c2_i32_755 : BitVec 32 := 2#32
  let v1452 : BitVec 32 := Scalar.addi v985 c2_i32_755
  let c1_i32_861 : BitVec 32 := 1#32
  let v1667 : BitVec 32 := Scalar.subi v1452 c1_i32_861
  let c512_i32_864 : BitVec 32 := 512#32
  let v1678 : BitVec 32 := Scalar.muli v1667 c512_i32_864
  v1678
def k0_mult73 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c3_i32 : BitVec 32 := 3#32
  let v1685 : BitVec 32 := Scalar.addi v985 c3_i32
  let c512_i32_868 : BitVec 32 := 512#32
  let v1686 : BitVec 32 := Scalar.muli v1685 c512_i32_868
  v1686
def k0_mult74 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c3_i32 : BitVec 32 := 3#32
  let v1685 : BitVec 32 := Scalar.addi v985 c3_i32
  let c1_i32_875 : BitVec 32 := 1#32
  let v1697 : BitVec 32 := Scalar.subi v1685 c1_i32_875
  let c512_i32_878 : BitVec 32 := 512#32
  let v1708 : BitVec 32 := Scalar.muli v1697 c512_i32_878
  v1708
def k0_mult75 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c3_i32 : BitVec 32 := 3#32
  let v1685 : BitVec 32 := Scalar.addi v985 c3_i32
  let c512_i32_882 : BitVec 32 := 512#32
  let v1715 : BitVec 32 := Scalar.muli v1685 c512_i32_882
  v1715
def k0_mult76 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c3_i32 : BitVec 32 := 3#32
  let v1685 : BitVec 32 := Scalar.addi v985 c3_i32
  let c1_i32_889 : BitVec 32 := 1#32
  let v1726 : BitVec 32 := Scalar.subi v1685 c1_i32_889
  let c512_i32_892 : BitVec 32 := 512#32
  let v1737 : BitVec 32 := Scalar.muli v1726 c512_i32_892
  v1737
def k0_mult77 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c3_i32 : BitVec 32 := 3#32
  let v1685 : BitVec 32 := Scalar.addi v985 c3_i32
  let c512_i32_896 : BitVec 32 := 512#32
  let v1744 : BitVec 32 := Scalar.muli v1685 c512_i32_896
  v1744
def k0_mult78 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c3_i32 : BitVec 32 := 3#32
  let v1685 : BitVec 32 := Scalar.addi v985 c3_i32
  let c1_i32_903 : BitVec 32 := 1#32
  let v1755 : BitVec 32 := Scalar.subi v1685 c1_i32_903
  let c512_i32_906 : BitVec 32 := 512#32
  let v1766 : BitVec 32 := Scalar.muli v1755 c512_i32_906
  v1766
def k0_mult79 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c3_i32 : BitVec 32 := 3#32
  let v1685 : BitVec 32 := Scalar.addi v985 c3_i32
  let c512_i32_910 : BitVec 32 := 512#32
  let v1773 : BitVec 32 := Scalar.muli v1685 c512_i32_910
  v1773
def k0_mult80 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c3_i32 : BitVec 32 := 3#32
  let v1685 : BitVec 32 := Scalar.addi v985 c3_i32
  let c1_i32_917 : BitVec 32 := 1#32
  let v1784 : BitVec 32 := Scalar.subi v1685 c1_i32_917
  let c512_i32_920 : BitVec 32 := 512#32
  let v1795 : BitVec 32 := Scalar.muli v1784 c512_i32_920
  v1795
def k0_mult81 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c3_i32 : BitVec 32 := 3#32
  let v1685 : BitVec 32 := Scalar.addi v985 c3_i32
  let c512_i32_924 : BitVec 32 := 512#32
  let v1802 : BitVec 32 := Scalar.muli v1685 c512_i32_924
  v1802
def k0_mult82 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c3_i32 : BitVec 32 := 3#32
  let v1685 : BitVec 32 := Scalar.addi v985 c3_i32
  let c1_i32_931 : BitVec 32 := 1#32
  let v1813 : BitVec 32 := Scalar.subi v1685 c1_i32_931
  let c512_i32_934 : BitVec 32 := 512#32
  let v1824 : BitVec 32 := Scalar.muli v1813 c512_i32_934
  v1824
def k0_mult83 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c3_i32 : BitVec 32 := 3#32
  let v1685 : BitVec 32 := Scalar.addi v985 c3_i32
  let c512_i32_938 : BitVec 32 := 512#32
  let v1831 : BitVec 32 := Scalar.muli v1685 c512_i32_938
  v1831
def k0_mult84 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c3_i32 : BitVec 32 := 3#32
  let v1685 : BitVec 32 := Scalar.addi v985 c3_i32
  let c1_i32_945 : BitVec 32 := 1#32
  let v1842 : BitVec 32 := Scalar.subi v1685 c1_i32_945
  let c512_i32_948 : BitVec 32 := 512#32
  let v1853 : BitVec 32 := Scalar.muli v1842 c512_i32_948
  v1853
def k0_mult85 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c3_i32 : BitVec 32 := 3#32
  let v1685 : BitVec 32 := Scalar.addi v985 c3_i32
  let c512_i32_952 : BitVec 32 := 512#32
  let v1860 : BitVec 32 := Scalar.muli v1685 c512_i32_952
  v1860
def k0_mult86 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c3_i32 : BitVec 32 := 3#32
  let v1685 : BitVec 32 := Scalar.addi v985 c3_i32
  let c1_i32_959 : BitVec 32 := 1#32
  let v1871 : BitVec 32 := Scalar.subi v1685 c1_i32_959
  let c512_i32_962 : BitVec 32 := 512#32
  let v1882 : BitVec 32 := Scalar.muli v1871 c512_i32_962
  v1882
def k0_mult87 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c3_i32 : BitVec 32 := 3#32
  let v1685 : BitVec 32 := Scalar.addi v985 c3_i32
  let c512_i32_966 : BitVec 32 := 512#32
  let v1889 : BitVec 32 := Scalar.muli v1685 c512_i32_966
  v1889
def k0_mult88 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c3_i32 : BitVec 32 := 3#32
  let v1685 : BitVec 32 := Scalar.addi v985 c3_i32
  let c1_i32_973 : BitVec 32 := 1#32
  let v1900 : BitVec 32 := Scalar.subi v1685 c1_i32_973
  let c512_i32_976 : BitVec 32 := 512#32
  let v1911 : BitVec 32 := Scalar.muli v1900 c512_i32_976
  v1911
def k0_mult89 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c4_i32 : BitVec 32 := 4#32
  let v1918 : BitVec 32 := Scalar.addi v985 c4_i32
  let c512_i32_980 : BitVec 32 := 512#32
  let v1919 : BitVec 32 := Scalar.muli v1918 c512_i32_980
  v1919
def k0_mult90 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c4_i32 : BitVec 32 := 4#32
  let v1918 : BitVec 32 := Scalar.addi v985 c4_i32
  let c1_i32_987 : BitVec 32 := 1#32
  let v1930 : BitVec 32 := Scalar.subi v1918 c1_i32_987
  let c512_i32_990 : BitVec 32 := 512#32
  let v1941 : BitVec 32 := Scalar.muli v1930 c512_i32_990
  v1941
def k0_mult91 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c4_i32 : BitVec 32 := 4#32
  let v1918 : BitVec 32 := Scalar.addi v985 c4_i32
  let c512_i32_994 : BitVec 32 := 512#32
  let v1948 : BitVec 32 := Scalar.muli v1918 c512_i32_994
  v1948
def k0_mult92 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c4_i32 : BitVec 32 := 4#32
  let v1918 : BitVec 32 := Scalar.addi v985 c4_i32
  let c1_i32_1001 : BitVec 32 := 1#32
  let v1959 : BitVec 32 := Scalar.subi v1918 c1_i32_1001
  let c512_i32_1004 : BitVec 32 := 512#32
  let v1970 : BitVec 32 := Scalar.muli v1959 c512_i32_1004
  v1970
def k0_mult93 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c4_i32 : BitVec 32 := 4#32
  let v1918 : BitVec 32 := Scalar.addi v985 c4_i32
  let c512_i32_1008 : BitVec 32 := 512#32
  let v1977 : BitVec 32 := Scalar.muli v1918 c512_i32_1008
  v1977
def k0_mult94 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c4_i32 : BitVec 32 := 4#32
  let v1918 : BitVec 32 := Scalar.addi v985 c4_i32
  let c1_i32_1015 : BitVec 32 := 1#32
  let v1988 : BitVec 32 := Scalar.subi v1918 c1_i32_1015
  let c512_i32_1018 : BitVec 32 := 512#32
  let v1999 : BitVec 32 := Scalar.muli v1988 c512_i32_1018
  v1999
def k0_mult95 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c4_i32 : BitVec 32 := 4#32
  let v1918 : BitVec 32 := Scalar.addi v985 c4_i32
  let c512_i32_1022 : BitVec 32 := 512#32
  let v2006 : BitVec 32 := Scalar.muli v1918 c512_i32_1022
  v2006
def k0_mult96 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c4_i32 : BitVec 32 := 4#32
  let v1918 : BitVec 32 := Scalar.addi v985 c4_i32
  let c1_i32_1029 : BitVec 32 := 1#32
  let v2017 : BitVec 32 := Scalar.subi v1918 c1_i32_1029
  let c512_i32_1032 : BitVec 32 := 512#32
  let v2028 : BitVec 32 := Scalar.muli v2017 c512_i32_1032
  v2028
def k0_mult97 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c4_i32 : BitVec 32 := 4#32
  let v1918 : BitVec 32 := Scalar.addi v985 c4_i32
  let c512_i32_1036 : BitVec 32 := 512#32
  let v2035 : BitVec 32 := Scalar.muli v1918 c512_i32_1036
  v2035
def k0_mult98 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c4_i32 : BitVec 32 := 4#32
  let v1918 : BitVec 32 := Scalar.addi v985 c4_i32
  let c1_i32_1043 : BitVec 32 := 1#32
  let v2046 : BitVec 32 := Scalar.subi v1918 c1_i32_1043
  let c512_i32_1046 : BitVec 32 := 512#32
  let v2057 : BitVec 32 := Scalar.muli v2046 c512_i32_1046
  v2057
def k0_mult99 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c4_i32 : BitVec 32 := 4#32
  let v1918 : BitVec 32 := Scalar.addi v985 c4_i32
  let c512_i32_1050 : BitVec 32 := 512#32
  let v2064 : BitVec 32 := Scalar.muli v1918 c512_i32_1050
  v2064
def k0_mult100 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c4_i32 : BitVec 32 := 4#32
  let v1918 : BitVec 32 := Scalar.addi v985 c4_i32
  let c1_i32_1057 : BitVec 32 := 1#32
  let v2075 : BitVec 32 := Scalar.subi v1918 c1_i32_1057
  let c512_i32_1060 : BitVec 32 := 512#32
  let v2086 : BitVec 32 := Scalar.muli v2075 c512_i32_1060
  v2086
def k0_mult101 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c4_i32 : BitVec 32 := 4#32
  let v1918 : BitVec 32 := Scalar.addi v985 c4_i32
  let c512_i32_1064 : BitVec 32 := 512#32
  let v2093 : BitVec 32 := Scalar.muli v1918 c512_i32_1064
  v2093
def k0_mult102 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c4_i32 : BitVec 32 := 4#32
  let v1918 : BitVec 32 := Scalar.addi v985 c4_i32
  let c1_i32_1071 : BitVec 32 := 1#32
  let v2104 : BitVec 32 := Scalar.subi v1918 c1_i32_1071
  let c512_i32_1074 : BitVec 32 := 512#32
  let v2115 : BitVec 32 := Scalar.muli v2104 c512_i32_1074
  v2115
def k0_mult103 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c4_i32 : BitVec 32 := 4#32
  let v1918 : BitVec 32 := Scalar.addi v985 c4_i32
  let c512_i32_1078 : BitVec 32 := 512#32
  let v2122 : BitVec 32 := Scalar.muli v1918 c512_i32_1078
  v2122
def k0_mult104 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c4_i32 : BitVec 32 := 4#32
  let v1918 : BitVec 32 := Scalar.addi v985 c4_i32
  let c1_i32_1085 : BitVec 32 := 1#32
  let v2133 : BitVec 32 := Scalar.subi v1918 c1_i32_1085
  let c512_i32_1088 : BitVec 32 := 512#32
  let v2144 : BitVec 32 := Scalar.muli v2133 c512_i32_1088
  v2144
def k0_mult105 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c5_i32 : BitVec 32 := 5#32
  let v2151 : BitVec 32 := Scalar.addi v985 c5_i32
  let c512_i32_1092 : BitVec 32 := 512#32
  let v2152 : BitVec 32 := Scalar.muli v2151 c512_i32_1092
  v2152
def k0_mult106 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c5_i32 : BitVec 32 := 5#32
  let v2151 : BitVec 32 := Scalar.addi v985 c5_i32
  let c1_i32_1099 : BitVec 32 := 1#32
  let v2163 : BitVec 32 := Scalar.subi v2151 c1_i32_1099
  let c512_i32_1102 : BitVec 32 := 512#32
  let v2174 : BitVec 32 := Scalar.muli v2163 c512_i32_1102
  v2174
def k0_mult107 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c5_i32 : BitVec 32 := 5#32
  let v2151 : BitVec 32 := Scalar.addi v985 c5_i32
  let c512_i32_1106 : BitVec 32 := 512#32
  let v2181 : BitVec 32 := Scalar.muli v2151 c512_i32_1106
  v2181
def k0_mult108 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c5_i32 : BitVec 32 := 5#32
  let v2151 : BitVec 32 := Scalar.addi v985 c5_i32
  let c1_i32_1113 : BitVec 32 := 1#32
  let v2192 : BitVec 32 := Scalar.subi v2151 c1_i32_1113
  let c512_i32_1116 : BitVec 32 := 512#32
  let v2203 : BitVec 32 := Scalar.muli v2192 c512_i32_1116
  v2203
def k0_mult109 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c5_i32 : BitVec 32 := 5#32
  let v2151 : BitVec 32 := Scalar.addi v985 c5_i32
  let c512_i32_1120 : BitVec 32 := 512#32
  let v2210 : BitVec 32 := Scalar.muli v2151 c512_i32_1120
  v2210
def k0_mult110 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c5_i32 : BitVec 32 := 5#32
  let v2151 : BitVec 32 := Scalar.addi v985 c5_i32
  let c1_i32_1127 : BitVec 32 := 1#32
  let v2221 : BitVec 32 := Scalar.subi v2151 c1_i32_1127
  let c512_i32_1130 : BitVec 32 := 512#32
  let v2232 : BitVec 32 := Scalar.muli v2221 c512_i32_1130
  v2232
def k0_mult111 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c5_i32 : BitVec 32 := 5#32
  let v2151 : BitVec 32 := Scalar.addi v985 c5_i32
  let c512_i32_1134 : BitVec 32 := 512#32
  let v2239 : BitVec 32 := Scalar.muli v2151 c512_i32_1134
  v2239
def k0_mult112 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c5_i32 : BitVec 32 := 5#32
  let v2151 : BitVec 32 := Scalar.addi v985 c5_i32
  let c1_i32_1141 : BitVec 32 := 1#32
  let v2250 : BitVec 32 := Scalar.subi v2151 c1_i32_1141
  let c512_i32_1144 : BitVec 32 := 512#32
  let v2261 : BitVec 32 := Scalar.muli v2250 c512_i32_1144
  v2261
def k0_mult113 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c5_i32 : BitVec 32 := 5#32
  let v2151 : BitVec 32 := Scalar.addi v985 c5_i32
  let c512_i32_1148 : BitVec 32 := 512#32
  let v2268 : BitVec 32 := Scalar.muli v2151 c512_i32_1148
  v2268
def k0_mult114 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c5_i32 : BitVec 32 := 5#32
  let v2151 : BitVec 32 := Scalar.addi v985 c5_i32
  let c1_i32_1155 : BitVec 32 := 1#32
  let v2279 : BitVec 32 := Scalar.subi v2151 c1_i32_1155
  let c512_i32_1158 : BitVec 32 := 512#32
  let v2290 : BitVec 32 := Scalar.muli v2279 c512_i32_1158
  v2290
def k0_mult115 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c5_i32 : BitVec 32 := 5#32
  let v2151 : BitVec 32 := Scalar.addi v985 c5_i32
  let c512_i32_1162 : BitVec 32 := 512#32
  let v2297 : BitVec 32 := Scalar.muli v2151 c512_i32_1162
  v2297
def k0_mult116 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c5_i32 : BitVec 32 := 5#32
  let v2151 : BitVec 32 := Scalar.addi v985 c5_i32
  let c1_i32_1169 : BitVec 32 := 1#32
  let v2308 : BitVec 32 := Scalar.subi v2151 c1_i32_1169
  let c512_i32_1172 : BitVec 32 := 512#32
  let v2319 : BitVec 32 := Scalar.muli v2308 c512_i32_1172
  v2319
def k0_mult117 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c5_i32 : BitVec 32 := 5#32
  let v2151 : BitVec 32 := Scalar.addi v985 c5_i32
  let c512_i32_1176 : BitVec 32 := 512#32
  let v2326 : BitVec 32 := Scalar.muli v2151 c512_i32_1176
  v2326
def k0_mult118 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c5_i32 : BitVec 32 := 5#32
  let v2151 : BitVec 32 := Scalar.addi v985 c5_i32
  let c1_i32_1183 : BitVec 32 := 1#32
  let v2337 : BitVec 32 := Scalar.subi v2151 c1_i32_1183
  let c512_i32_1186 : BitVec 32 := 512#32
  let v2348 : BitVec 32 := Scalar.muli v2337 c512_i32_1186
  v2348
def k0_mult119 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c5_i32 : BitVec 32 := 5#32
  let v2151 : BitVec 32 := Scalar.addi v985 c5_i32
  let c512_i32_1190 : BitVec 32 := 512#32
  let v2355 : BitVec 32 := Scalar.muli v2151 c512_i32_1190
  v2355
def k0_mult120 (k0_t1 : Fin k0_t1_loop.trips) : BitVec 32 :=
  let c2_i32_528 : BitVec 32 := 2#32
  let c6_i32 : BitVec 32 := 6#32
  let c0_i32_270 : BitVec 32 := 0#32
  let c1_i32 : BitVec 32 := 1#32
  let arg33 : BitVec 32 := Scf.iv c0_i32_270 c1_i32 k0_t1
  let v984 : BitVec 32 := Scalar.muli c6_i32 arg33
  let v985 : BitVec 32 := Scalar.addi c2_i32_528 v984
  let c5_i32 : BitVec 32 := 5#32
  let v2151 : BitVec 32 := Scalar.addi v985 c5_i32
  let c1_i32_1197 : BitVec 32 := 1#32
  let v2366 : BitVec 32 := Scalar.subi v2151 c1_i32_1197
  let c512_i32_1200 : BitVec 32 := 512#32
  let v2377 : BitVec 32 := Scalar.muli v2366 c512_i32_1200
  v2377
def k0_mult121 : BitVec 32 :=
  let c7168_i32 : BitVec 32 := 7168#32
  c7168_i32
def k0_mult122 : BitVec 32 :=
  let c6656_i32 : BitVec 32 := 6656#32
  c6656_i32
def k0_mult123 : BitVec 32 :=
  let c7168_i32_283 : BitVec 32 := 7168#32
  c7168_i32_283
def k0_mult124 : BitVec 32 :=
  let c6656_i32_292 : BitVec 32 := 6656#32
  c6656_i32_292
def k0_mult125 : BitVec 32 :=
  let c7168_i32_296 : BitVec 32 := 7168#32
  c7168_i32_296
def k0_mult126 : BitVec 32 :=
  let c6656_i32_305 : BitVec 32 := 6656#32
  c6656_i32_305
def k0_mult127 : BitVec 32 :=
  let c7168_i32_309 : BitVec 32 := 7168#32
  c7168_i32_309
def k0_mult128 : BitVec 32 :=
  let c6656_i32_318 : BitVec 32 := 6656#32
  c6656_i32_318
def k0_mult129 : BitVec 32 :=
  let c7168_i32_322 : BitVec 32 := 7168#32
  c7168_i32_322
def k0_mult130 : BitVec 32 :=
  let c6656_i32_331 : BitVec 32 := 6656#32
  c6656_i32_331
def k0_mult131 : BitVec 32 :=
  let c7168_i32_335 : BitVec 32 := 7168#32
  c7168_i32_335
def k0_mult132 : BitVec 32 :=
  let c6656_i32_344 : BitVec 32 := 6656#32
  c6656_i32_344
def k0_mult133 : BitVec 32 :=
  let c7168_i32_348 : BitVec 32 := 7168#32
  c7168_i32_348
def k0_mult134 : BitVec 32 :=
  let c6656_i32_357 : BitVec 32 := 6656#32
  c6656_i32_357
def k0_mult135 : BitVec 32 :=
  let c7168_i32_361 : BitVec 32 := 7168#32
  c7168_i32_361
def k0_mult136 : BitVec 32 :=
  let c6656_i32_370 : BitVec 32 := 6656#32
  c6656_i32_370
def k0_mult137 : BitVec 32 :=
  let c7680_i32 : BitVec 32 := 7680#32
  c7680_i32
def k0_mult138 : BitVec 32 :=
  let c7168_i32_382 : BitVec 32 := 7168#32
  c7168_i32_382
def k0_mult139 : BitVec 32 :=
  let c7680_i32_386 : BitVec 32 := 7680#32
  c7680_i32_386
def k0_mult140 : BitVec 32 :=
  let c7168_i32_395 : BitVec 32 := 7168#32
  c7168_i32_395
def k0_mult141 : BitVec 32 :=
  let c7680_i32_399 : BitVec 32 := 7680#32
  c7680_i32_399
def k0_mult142 : BitVec 32 :=
  let c7168_i32_408 : BitVec 32 := 7168#32
  c7168_i32_408
def k0_mult143 : BitVec 32 :=
  let c7680_i32_412 : BitVec 32 := 7680#32
  c7680_i32_412
def k0_mult144 : BitVec 32 :=
  let c7168_i32_421 : BitVec 32 := 7168#32
  c7168_i32_421
def k0_mult145 : BitVec 32 :=
  let c7680_i32_425 : BitVec 32 := 7680#32
  c7680_i32_425
def k0_mult146 : BitVec 32 :=
  let c7168_i32_434 : BitVec 32 := 7168#32
  c7168_i32_434
def k0_mult147 : BitVec 32 :=
  let c7680_i32_438 : BitVec 32 := 7680#32
  c7680_i32_438
def k0_mult148 : BitVec 32 :=
  let c7168_i32_447 : BitVec 32 := 7168#32
  c7168_i32_447
def k0_mult149 : BitVec 32 :=
  let c7680_i32_451 : BitVec 32 := 7680#32
  c7680_i32_451
def k0_mult150 : BitVec 32 :=
  let c7168_i32_460 : BitVec 32 := 7168#32
  c7168_i32_460
def k0_mult151 : BitVec 32 :=
  let c7680_i32_464 : BitVec 32 := 7680#32
  c7680_i32_464
def k0_mult152 : BitVec 32 :=
  let c7168_i32_473 : BitVec 32 := 7168#32
  c7168_i32_473
def k0_mult153 : BitVec 32 :=
  let c7680_i32_479 : BitVec 32 := 7680#32
  c7680_i32_479
def k0_mult154 : BitVec 32 :=
  let c7680_i32_485 : BitVec 32 := 7680#32
  c7680_i32_485
def k0_mult155 : BitVec 32 :=
  let c7680_i32_491 : BitVec 32 := 7680#32
  c7680_i32_491
def k0_mult156 : BitVec 32 :=
  let c7680_i32_497 : BitVec 32 := 7680#32
  c7680_i32_497
def k0_mult157 : BitVec 32 :=
  let c7680_i32_503 : BitVec 32 := 7680#32
  c7680_i32_503
def k0_mult158 : BitVec 32 :=
  let c7680_i32_509 : BitVec 32 := 7680#32
  c7680_i32_509
def k0_mult159 : BitVec 32 :=
  let c7680_i32_515 : BitVec 32 := 7680#32
  c7680_i32_515
def k0_mult160 : BitVec 32 :=
  let c7680_i32_521 : BitVec 32 := 7680#32
  c7680_i32_521
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x640x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x8192x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]

abbrev stage0_4 : Fin 1 → Memref sig .tc .vmem S1x640x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S2x8192x8x96 : Shape := ⟨4, ![2, 8192, 8, 96]⟩
abbrev S2x256x8x96 : Shape := ⟨4, ![2, 256, 8, 96]⟩
abbrev S2x256x8x64 : Shape := ⟨4, ![2, 256, 8, 64]⟩
abbrev S2x8192x8x64 : Shape := ⟨4, ![2, 8192, 8, 64]⟩
abbrev S2x8448x8x96 : Shape := ⟨4, ![2, 8448, 8, 96]⟩
abbrev S2x8448x8x64 : Shape := ⟨4, ![2, 8448, 8, 64]⟩
abbrev S2x8x8192x8448 : Shape := ⟨4, ![2, 8, 8192, 8448]⟩
abbrev S_ : Shape := ⟨0, ![]⟩
abbrev S2x8x8192 : Shape := ⟨3, ![2, 8, 8192]⟩
abbrev S2x8x8192x1 : Shape := ⟨4, ![2, 8, 8192, 1]⟩
abbrev S2x8x64x8192 : Shape := ⟨4, ![2, 8, 64, 8192]⟩
abbrev S2x8192x512 : Shape := ⟨3, ![2, 8192, 512]⟩

abbrev nBuf : Space → Nat
  | .hbm => 29
  | .vmem => 0
  | .smem => 0
  | _ => 0

abbrev bufTy : (tb : Table) → Fin (tcTables nBuf tb) → BufTy
  | .hbm, ⟨0, _⟩ => ⟨S2x8192x8x96, .f32⟩
  | .hbm, ⟨1, _⟩ => ⟨S2x256x8x96, .f32⟩
  | .hbm, ⟨2, _⟩ => ⟨S2x256x8x64, .f32⟩
  | .hbm, ⟨3, _⟩ => ⟨S2x8192x8x96, .f32⟩
  | .hbm, ⟨4, _⟩ => ⟨S2x8192x8x64, .f32⟩
  | .hbm, ⟨5, _⟩ => ⟨S2x8448x8x96, .f32⟩
  | .hbm, ⟨6, _⟩ => ⟨S2x8448x8x64, .f32⟩
  | .hbm, ⟨7, _⟩ => ⟨S2x8x8192x8448, .f32⟩
  | .hbm, ⟨8, _⟩ => ⟨S_, .f32⟩
  | .hbm, ⟨9, _⟩ => ⟨S2x8x8192x8448, .f32⟩
  | .hbm, ⟨10, _⟩ => ⟨S2x8x8192x8448, .f32⟩
  | .hbm, ⟨11, _⟩ => ⟨S_, .f32⟩
  | .hbm, ⟨12, _⟩ => ⟨S2x8x8192, .f32⟩
  | .hbm, ⟨13, _⟩ => ⟨S_, .f32⟩
  | .hbm, ⟨14, _⟩ => ⟨S2x8x8192, .f32⟩
  | .hbm, ⟨15, _⟩ => ⟨S2x8x8192, .f32⟩
  | .hbm, ⟨16, _⟩ => ⟨S2x8x8192x1, .f32⟩
  | .hbm, ⟨17, _⟩ => ⟨S2x8x8192x8448, .f32⟩
  | .hbm, ⟨18, _⟩ => ⟨S2x8x8192x8448, .f32⟩
  | .hbm, ⟨19, _⟩ => ⟨S2x8x8192x8448, .f32⟩
  | .hbm, ⟨20, _⟩ => ⟨S_, .f32⟩
  | .hbm, ⟨21, _⟩ => ⟨S2x8x8192, .f32⟩
  | .hbm, ⟨22, _⟩ => ⟨S2x8x8192x1, .f32⟩
  | .hbm, ⟨23, _⟩ => ⟨S2x8x8192x8448, .f32⟩
  | .hbm, ⟨24, _⟩ => ⟨S2x8x8192x8448, .f32⟩
  | .hbm, ⟨25, _⟩ => ⟨S2x8x64x8192, .f32⟩
  | .hbm, ⟨26, _⟩ => ⟨S2x8192x8x64, .f32⟩
  | .hbm, ⟨27, _⟩ => ⟨S2x8192x512, .f32⟩
  | .hbm, ⟨28, _⟩ => ⟨S2x8192x512, .bf16⟩
  | _, _ => ⟨S2x8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x6144 : Shape := ⟨2, ![2, 6144]⟩
abbrev S4x1024 : Shape := ⟨2, ![4, 1024]⟩
abbrev S4x1024x4096 : Shape := ⟨3, ![4, 1024, 4096]⟩
abbrev S4x4096x1024 : Shape := ⟨3, ![4, 4096, 1024]⟩
abbrev S1024 : Shape := ⟨1, ![1024]⟩
abbrev S4x1x1024 : Shape := ⟨3, ![4, 1, 1024]⟩
abbrev S1x1x1024 : Shape := ⟨3, ![1, 1, 1024]⟩
abbrev S2x1x6144 : Shape := ⟨3, ![2, 1, 6144]⟩
abbrev S1x1024x1024 : Shape := ⟨3, ![1, 1024, 1024]⟩
abbrev S1024x1024 : Shape := ⟨2, ![1024, 1024]⟩
abbrev S1024x1 : Shape := ⟨2, ![1024, 1]⟩
abbrev S1x1024 : Shape := ⟨2, ![1, 1024]⟩

abbrev nBuf : Space → Nat
  | .hbm => 12
  | .vmem => 18
  | .smem => 0
  | _ => 0

abbrev bufTy : (tb : Table) → Fin (tcTables nBuf tb) → BufTy
  | .hbm, ⟨0, _⟩ => ⟨S2x8192x1024, .f32⟩
  | .hbm, ⟨1, _⟩ => ⟨S2x6144, .f32⟩
  | .hbm, ⟨2, _⟩ => ⟨S4x1024, .f32⟩
  | .hbm, ⟨3, _⟩ => ⟨S4x1024x4096, .f32⟩
  | .hbm, ⟨4, _⟩ => ⟨S4x4096x1024, .f32⟩
  | .hbm, ⟨5, _⟩ => ⟨S1024, .f32⟩
  | .hbm, ⟨6, _⟩ => ⟨S4x1x1024, .f32⟩
  | .hbm, ⟨7, _⟩ => ⟨S1x1x1024, .f32⟩
  | .hbm, ⟨8, _⟩ => ⟨S4x1024x4096, .bf16⟩
  | .hbm, ⟨9, _⟩ => ⟨S4x4096x1024, .bf16⟩
  | .hbm, ⟨10, _⟩ => ⟨S2x1x6144, .f32⟩
  | .hbm, ⟨11, _⟩ => ⟨S2x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .f32⟩
  | .local _ .vmem, ⟨15, _⟩ => ⟨S1x1024x1024, .f32⟩
  | .local _ .vmem, ⟨16, _⟩ => ⟨S1024x1024, .bf16⟩
  | .local _ .vmem, ⟨17, _⟩ => ⟨S1024x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![2, 8, 4], ![false, false, false]⟩

def k0_cond2 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_14 : BitVec 32 := 0#32
  let v21 : BitVec 1 := Scalar.cmpi .ne v20 c0_i32_14
  v21

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c3_i32 : BitVec 32 := 3#32
  let c0_i32_0 : BitVec 32 := 0#32
  ![arg0.toNat, c0_i32.toNat, c3_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c4_i32 : BitVec 32 := 4#32
  let c0_i32_0 : BitVec 32 := 0#32
  ![arg0.toNat, c0_i32.toNat, c4_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c5_i32 : BitVec 32 := 5#32
  let c0_i32_0 : BitVec 32 := 0#32
  ![arg0.toNat, c0_i32.toNat, c5_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  ![c3_i32.toNat, c0_i32.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  ![c3_i32.toNat, arg2.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Reference2Ideal.lean ====
abbrev S2x8192x1024 : Shape := ⟨3, ![2, 8192, 1024]⟩
abbrev S2x6144 : Shape := ⟨2, ![2, 6144]⟩
abbrev S4x1024 : Shape := ⟨2, ![4, 1024]⟩
abbrev S4x1024x4096 : Shape := ⟨3, ![4, 1024, 4096]⟩
abbrev S4x4096x1024 : Shape := ⟨3, ![4, 4096, 1024]⟩
abbrev S1024 : Shape := ⟨1, ![1024]⟩
abbrev S2x1x6144 : Shape := ⟨3, ![2, 1, 6144]⟩
abbrev S2x1x1024 : Shape := ⟨3, ![2, 1, 1024]⟩
abbrev S1x1024 : Shape := ⟨2, ![1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S2x8192x4096 : Shape := ⟨3, ![2, 8192, 4096]⟩
abbrev S1x4096x1024 : Shape := ⟨3, ![1, 4096, 1024]⟩
abbrev S4096x1024 : Shape := ⟨2, ![4096, 1024]⟩

abbrev nBuf : Space → Nat
  | .hbm => 67
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x6144, .f32⟩
  | .hbm, ⟨2, _⟩ => ⟨S4x1024, .f32⟩
  | .hbm, ⟨3, _⟩ => ⟨S4x1024x4096, .f32⟩
  | .hbm, ⟨4, _⟩ => ⟨S4x4096x1024, .f32⟩
  | .hbm, ⟨5, _⟩ => ⟨S1024, .f32⟩
  | .hbm, ⟨6, _⟩ => ⟨S2x1x6144, .f32⟩
  | .hbm, ⟨7, _⟩ => ⟨S2x1x1024, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S1x1024, .f32⟩
  | .hbm, ⟨14, _⟩ => ⟨S1024, .f32⟩
  | .hbm, ⟨15, _⟩ => ⟨S2x8192x1024, .f32⟩
  | .hbm, ⟨16, _⟩ => ⟨S_, .f32⟩
  | .hbm, ⟨17, _⟩ => ⟨S2x8192, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S2x8192x1, .f32⟩
  | .hbm, ⟨26, _⟩ => ⟨S2x8192x1024, .f32⟩
  | .hbm, ⟨27, _⟩ => ⟨S2x8192x1024, .f32⟩
  | .hbm, ⟨28, _⟩ => ⟨S1x1x1024, .f32⟩
  | .hbm, ⟨29, _⟩ => ⟨S2x8192x1024, .f32⟩
  | .hbm, ⟨30, _⟩ => ⟨S2x8192x1024, .f32⟩
  | .hbm, ⟨31, _⟩ => ⟨S_, .f32⟩
  | .hbm, ⟨32, _⟩ => ⟨S2x1x1024, .f32⟩
  | .hbm, ⟨33, _⟩ => ⟨S2x1x1024, .f32⟩
  | .hbm, ⟨34, _⟩ => ⟨S2x8192x1024, .f32⟩
  | .hbm, ⟨35, _⟩ => ⟨S2x8192x1024, .f32⟩
  | .hbm, ⟨36, _⟩ => ⟨S2x8192x1024, .f32⟩
  | .hbm, ⟨37, _⟩ => ⟨S2x8192x1024, .f32⟩
  | .hbm, ⟨38, _⟩ => ⟨S1x1024x4096, .f32⟩
  | .hbm, ⟨39, _⟩ => ⟨S1024x4096, .f32⟩
  | .hbm, ⟨40, _⟩ => ⟨S2x8192x4096, .f32⟩
  | .hbm, ⟨41, _⟩ => ⟨S_, .f32⟩
  | .hbm, ⟨42, _⟩ => ⟨S2x8192x4096, .f32⟩
  | .hbm, ⟨43, _⟩ => ⟨S2x8192x4096, .f32⟩
  | .hbm, ⟨44, _⟩ => ⟨S2x8192x4096, .f32⟩
  | .hbm, ⟨45, _⟩ => ⟨S1x4096x1024, .f32⟩
  | .hbm, ⟨46, _⟩ => ⟨S4096x1024, .f32⟩
  | .hbm, ⟨47, _⟩ => ⟨S2x8192x1024, .f32⟩
  | .hbm, ⟨48, _⟩ => ⟨S2x8192x1024, .f32⟩
  | .hbm, ⟨49, _⟩ => ⟨S2x8192x1024, .f32⟩
  | .hbm, ⟨50, _⟩ => ⟨S2x8192x1024, .f32⟩
  | .hbm, ⟨51, _⟩ => ⟨S2x8192x1024, .f32⟩
  | .hbm, ⟨52, _⟩ => ⟨S_, .f32⟩
  | .hbm, ⟨53, _⟩ => ⟨S2x8192, .f32⟩
  | .hbm, ⟨54, _⟩ => ⟨S2x8192x1, .f32⟩
  | .hbm, ⟨55, _⟩ => ⟨S_, .f32⟩
  | .hbm, ⟨56, _⟩ => ⟨S2x8192x1, .f32⟩
  | .hbm, ⟨57, _⟩ => ⟨S2x8192x1, .f32⟩
  | .hbm, ⟨58, _⟩ => ⟨S_, .f32⟩
  | .hbm, ⟨59, _⟩ => ⟨S2x8192x1, .f32⟩
  | .hbm, ⟨60, _⟩ => ⟨S2x8192x1, .f32⟩
  | .hbm, ⟨61, _⟩ => ⟨S2x8192x1, .f32⟩
  | .hbm, ⟨62, _⟩ => ⟨S2x8192x1024, .f32⟩
  | .hbm, ⟨63, _⟩ => ⟨S2x8192x1024, .f32⟩
  | .hbm, ⟨64, _⟩ => ⟨S1x1x1024, .f32⟩
  | .hbm, ⟨65, _⟩ => ⟨S2x8192x1024, .f32⟩
  | .hbm, ⟨66, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_call0_cst : Ref sig .tc := ⟨.hbm, 41, rfl⟩
abbrev main_call0_v0 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_3 : Ref sig .tc := ⟨.hbm, 52, rfl⟩
abbrev main_v40 : Ref sig .tc := ⟨.hbm, 53, rfl⟩
abbrev main_v41 : Ref sig .tc := ⟨.hbm, 54, rfl⟩
abbrev main_cst_4 : Ref sig .tc := ⟨.hbm, 55, rfl⟩
abbrev main_v42 : Ref sig .tc := ⟨.hbm, 56, rfl⟩
abbrev main_v43 : Ref sig .tc := ⟨.hbm, 57, rfl⟩
abbrev main_cst_5 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x6144 : Shape := ⟨2, ![2, 6144]⟩
abbrev S4x1024 : Shape := ⟨2, ![4, 1024]⟩
abbrev S4x1024x5792 : Shape := ⟨3, ![4, 1024, 5792]⟩
abbrev S4x384 : Shape := ⟨2, ![4, 384]⟩
abbrev S4x384x768 : Shape := ⟨3, ![4, 384, 768]⟩
abbrev S4x256 : Shape := ⟨2, ![4, 256]⟩
abbrev S4x256x1024 : Shape := ⟨3, ![4, 256, 1024]⟩
abbrev S4x1024x32 : Shape := ⟨3, ![4, 1024, 32]⟩
abbrev S4x1024x512 : Shape := ⟨3, ![4, 1024, 512]⟩
abbrev S4x1024x384 : Shape := ⟨3, ![4, 1024, 384]⟩
abbrev S4x1024x256 : Shape := ⟨3, ![4, 1024, 256]⟩
abbrev S_ : Shape := ⟨0, ![]⟩
abbrev S4x1024x64 : Shape := ⟨3, ![4, 1024, 64]⟩
abbrev S4x1024x8 : Shape := ⟨3, ![4, 1024, 8]⟩
abbrev S4x1024x3072 : Shape := ⟨3, ![4, 1024, 3072]⟩
abbrev S4x1024x4480 : Shape := ⟨3, ![4, 1024, 4480]⟩
abbrev S4x384x8x96 : Shape := ⟨4, ![4, 384, 8, 96]⟩
abbrev S4x384x8x32 : Shape := ⟨4, ![4, 384, 8, 32]⟩
abbrev S4x384x8x128 : Shape := ⟨4, ![4, 384, 8, 128]⟩
abbrev S4x384x8x64 : Shape := ⟨4, ![4, 384, 8, 64]⟩
abbrev S4x384x8x8 : Shape := ⟨4, ![4, 384, 8, 8]⟩
abbrev S4x384x1024 : Shape := ⟨3, ![4, 384, 1024]⟩
abbrev S4x384x2048 : Shape := ⟨3, ![4, 384, 2048]⟩
abbrev S4x256x8x128 : Shape := ⟨4, ![4, 256, 8, 128]⟩
abbrev S4x256x8x64 : Shape := ⟨4, ![4, 256, 8, 64]⟩
abbrev S4x256x8x16 : Shape := ⟨4, ![4, 256, 8, 16]⟩
abbrev S4x256x8x80 : Shape := ⟨4, ![4, 256, 8, 80]⟩
abbrev S4x256x640 : Shape := ⟨3, ![4, 256, 640]⟩
abbrev S80 : Shape := ⟨1, ![80]⟩
abbrev S1x80 : Shape := ⟨2, ![1, 80]⟩
abbrev S8x80 : Shape := ⟨2, ![8, 80]⟩
abbrev S640 : Shape := ⟨1, ![640]⟩
abbrev S1x640x1 : Shape := ⟨3, ![1, 640, 1]⟩
abbrev S4x1x1024 : Shape := ⟨3, ![4, 1, 1024]⟩
abbrev S4x1024x1536 : Shape := ⟨3, ![4, 1024, 1536]⟩
abbrev S4x1536x1024 : Shape := ⟨3, ![4, 1536, 1024]⟩
abbrev S4x1x384 : Shape := ⟨3, ![4, 1, 384]⟩
abbrev S4x1x256 : Shape := ⟨3, ![4, 1, 256]⟩
abbrev S4x640x256 : Shape := ⟨3, ![4, 640, 256]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S8192x32 : Shape := ⟨2, ![8192, 32]⟩
abbrev S8192x64 : Shape := ⟨2, ![8192, 64]⟩
abbrev S8192x128 : Shape := ⟨2, ![8192, 128]⟩
abbrev S2x1x6144 : Shape := ⟨3, ![2, 1, 6144]⟩
abbrev S2x8192x3072 : Shape := ⟨3, ![2, 8192, 3072]⟩
abbrev S2x8192x512 : Shape := ⟨3, ![2, 8192, 512]⟩
abbrev S2x1536x8192 : Shape := ⟨3, ![2, 1536, 8192]⟩
abbrev S2x640x8192 : Shape := ⟨3, ![2, 640, 8192]⟩
abbrev S1x512x1024 : Shape := ⟨3, ![1, 512, 1024]⟩
abbrev S1x1x1024 : Shape := ⟨3, ![1, 1, 1024]⟩
abbrev S1x1024x4480 : Shape := ⟨3, ![1, 1024, 4480]⟩
abbrev S1x1536x1024 : Shape := ⟨3, ![1, 1536, 1024]⟩
abbrev S1x1x384 : Shape := ⟨3, ![1, 1, 384]⟩
abbrev S1x1x256 : Shape := ⟨3, ![1, 1, 256]⟩
abbrev S1x384x2048 : Shape := ⟨3, ![1, 384, 2048]⟩
abbrev S1x256x1024 : Shape := ⟨3, ![1, 256, 1024]⟩
abbrev S1x640x256 : Shape := ⟨3, ![1, 640, 256]⟩
abbrev S512x128 : Shape := ⟨2, ![512, 128]⟩
abbrev S1x512x3072 : Shape := ⟨3, ![1, 512, 3072]⟩
abbrev S1x512x512 : Shape := ⟨3, ![1, 512, 512]⟩
abbrev S1x1536x512 : Shape := ⟨3, ![1, 1536, 512]⟩
abbrev S1x640x512 : Shape := ⟨3, ![1, 640, 512]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩
abbrev S1x1024x512 : Shape := ⟨3, ![1, 1024, 512]⟩
abbrev S1024x512 : Shape := ⟨2, ![1024, 512]⟩
abbrev S512x512 : Shape := ⟨2, ![512, 512]⟩
abbrev S1x1024x384 : Shape := ⟨3, ![1, 1024, 384]⟩
abbrev S1024x384 : Shape := ⟨2, ![1024, 384]⟩
abbrev S512x384 : Shape := ⟨2, ![512, 384]⟩
abbrev S1x1024x256 : Shape := ⟨3, ![1, 1024, 256]⟩
abbrev S1024x256 : Shape := ⟨2, ![1024, 256]⟩
abbrev S512x256 : Shape := ⟨2, ![512, 256]⟩
abbrev S1x1024x1024 : Shape := ⟨3, ![1, 1024, 1024]⟩
abbrev S1024x1024 : Shape := ⟨2, ![1024, 1024]⟩
abbrev S1x384 : Shape := ⟨2, ![1, 384]⟩
abbrev S384x2048 : Shape := ⟨2, ![384, 2048]⟩
abbrev S512x2048 : Shape := ⟨2, ![512, 2048]⟩
abbrev S1x512x128 : Shape := ⟨3, ![1, 512, 128]⟩
abbrev S1x256 : Shape := ⟨2, ![1, 256]⟩
abbrev S256x1024 : Shape := ⟨2, ![256, 1024]⟩
abbrev S640x256 : Shape := ⟨2, ![640, 256]⟩
abbrev S640x512 : Shape := ⟨2, ![640, 512]⟩
abbrev S640x1 : Shape := ⟨2, ![640, 1]⟩
abbrev S2x8x80x8192 : Shape := ⟨4, ![2, 8, 80, 8192]⟩
abbrev S2x8x64x8192 : Shape := ⟨4, ![2, 8, 64, 8192]⟩
abbrev S2x8192x8x128 : Shape := ⟨4, ![2, 8192, 8, 128]⟩
abbrev S2x8192x8x64 : Shape := ⟨4, ![2, 8192, 8, 64]⟩

abbrev nBuf : Space → Nat
  | .hbm => 159
  | .vmem => 35
  | .smem => 0
  | _ => 0

abbrev hbmTy0_0 (i : Nat) : BufTy := match i % 128 with
  | 0 => ⟨S2x8192x1024, .f32⟩
  | 1 => ⟨S2x6144, .f32⟩
  | 2 => ⟨S4x1024, .f32⟩
  | 3 => ⟨S4x1024x5792, .f32⟩
  | 4 => ⟨S4x384, .f32⟩
  | 5 => ⟨S4x384x768, .f32⟩
  | 6 => ⟨S4x256, .f32⟩
  | 7 => ⟨S4x256x1024, .f32⟩
  | 8 => ⟨S4x1024x32, .f32⟩
  | 9 => ⟨S4x1024x512, .f32⟩
  | 10 => ⟨S4x1024x384, .f32⟩
  | 11 => ⟨S4x1024x256, .f32⟩
  | 12 => ⟨S_, .f32⟩
  | 13 => ⟨S4x1024x64, .f32⟩
  | 14 => ⟨S_, .f32⟩
  | 15 => ⟨S4x1024x32, .f32⟩
  | 16 => ⟨S_, .f32⟩
  | 17 => ⟨S4x1024x64, .f32⟩
  | 18 => ⟨S4x1024x8, .f32⟩
  | 19 => ⟨S4x1024x8, .f32⟩
  | 20 => ⟨S4x1024x8, .f32⟩
  | 21 => ⟨S4x1024x8, .f32⟩
  | 22 => ⟨S4x1024x8, .f32⟩
  | 23 => ⟨S4x1024x8, .f32⟩
  | 24 => ⟨S4x1024x32, .f32⟩
  | 25 => ⟨S_, .f32⟩
  | 26 => ⟨S4x1024x32, .f32⟩
  | 27 => ⟨S4x1024x3072, .f32⟩
  | 28 => ⟨S4x1024x4480, .f32⟩
  | 29 => ⟨S4x1024x4480, .bf16⟩
  | 30 => ⟨S4x384x8x96, .f32⟩
  | 31 => ⟨S_, .f32⟩
  | 32 => ⟨S4x384x8x32, .f32⟩
  | 33 => ⟨S4x384x8x128, .f32⟩
  | 34 => ⟨S_, .f32⟩
  | 35 => ⟨S4x384x8x64, .f32⟩
  | 36 => ⟨S4x384x8x32, .f32⟩
  | 37 => ⟨S4x384x8x8, .f32⟩
  | 38 => ⟨S4x384x8x8, .f32⟩
  | 39 => ⟨S4x384x8x8, .f32⟩
  | 40 => ⟨S4x384x8x8, .f32⟩
  | 41 => ⟨S4x384x8x8, .f32⟩
  | 42 => ⟨S4x384x8x8, .f32⟩
  | 43 => ⟨S4x384x8x32, .f32⟩
  | 44 => ⟨S_, .f32⟩
  | 45 => ⟨S4x384x8x32, .f32⟩
  | 46 => ⟨S4x384x8x128, .f32⟩
  | 47 => ⟨S4x384x1024, .f32⟩
  | 48 => ⟨S4x384x1024, .f32⟩
  | 49 => ⟨S4x384x2048, .f32⟩
  | 50 => ⟨S4x384x2048, .bf16⟩
  | 51 => ⟨S4x256x8x128, .f32⟩
  | 52 => ⟨S4x256x8x64, .f32⟩
  | 53 => ⟨S_, .f32⟩
  | 54 => ⟨S4x256x8x64, .f32⟩
  | 55 => ⟨S4x256x8x128, .f32⟩
  | 56 => ⟨S4x256x1024, .f32⟩
  | 57 => ⟨S4x256x8x64, .f32⟩
  | 58 => ⟨S_, .f32⟩
  | 59 => ⟨S4x256x8x16, .f32⟩
  | 60 => ⟨S4x256x8x80, .f32⟩
  | 61 => ⟨S4x256x640, .f32⟩
  | 62 => ⟨S80, .i32⟩
  | 63 => ⟨S_, .i32⟩
  | 64 => ⟨S80, .i32⟩
  | 65 => ⟨S80, .i1⟩
  | 66 => ⟨S80, .f32⟩
  | 67 => ⟨S1x80, .f32⟩
  | 68 => ⟨S8x80, .f32⟩
  | 69 => ⟨S640, .f32⟩
  | 70 => ⟨S1x640x1, .f32⟩
  | 71 => ⟨S4x1x1024, .f32⟩
  | 72 => ⟨S4x1024x1536, .f32⟩
  | 73 => ⟨S4x1536x1024, .f32⟩
  | 74 => ⟨S4x1536x1024, .bf16⟩
  | 75 => ⟨S4x1x384, .f32⟩
  | 76 => ⟨S4x1x256, .f32⟩
  | 77 => ⟨S4x256x1024, .bf16⟩
  | 78 => ⟨S4x640x256, .f32⟩
  | 79 => ⟨S4x640x256, .bf16⟩
  | 80 => ⟨S128, .f32⟩
  | 81 => ⟨S128x64, .f32⟩
  | 82 => ⟨S8192, .f32⟩
  | 83 => ⟨S64, .f32⟩
  | 84 => ⟨S1x64, .f32⟩
  | 85 => ⟨S128x64, .f32⟩
  | 86 => ⟨S8192, .f32⟩
  | 87 => ⟨S8, .f32⟩
  | 88 => ⟨S_, .f32⟩
  | 89 => ⟨S8, .f32⟩
  | 90 => ⟨S8, .f32⟩
  | 91 => ⟨S_, .f32⟩
  | 92 => ⟨S8, .f32⟩
  | 93 => ⟨S8, .f32⟩
  | 94 => ⟨S8, .f32⟩
  | 95 => ⟨S_, .f32⟩
  | 96 => ⟨S8, .f32⟩
  | 97 => ⟨S8, .f32⟩
  | 98 => ⟨S_, .f32⟩
  | 99 => ⟨S8, .f32⟩
  | 100 => ⟨S8, .f32⟩
  | 101 => ⟨S8192x1, .f32⟩
  | 102 => ⟨S1x8, .f32⟩
  | 103 => ⟨S8192x8, .f32⟩
  | 104 => ⟨S8192x8, .f32⟩
  | 105 => ⟨S8192x8, .f32⟩
  | 106 => ⟨S8192x1, .f32⟩
  | 107 => ⟨S1x8, .f32⟩
  | 108 => ⟨S8192x8, .f32⟩
  | 109 => ⟨S8192x8, .f32⟩
  | 110 => ⟨S8192x8, .f32⟩
  | 111 => ⟨S8192x32, .f32⟩
  | 112 => ⟨S8192x32, .f32⟩
  | 113 => ⟨S8192x32, .f32⟩
  | 114 => ⟨S_, .f32⟩
  | 115 => ⟨S8192x64, .f32⟩
  | 116 => ⟨S_, .f32⟩
  | 117 => ⟨S8192x32, .f32⟩
  | 118 => ⟨S_, .f32⟩
  | 119 => ⟨S8192x64, .f32⟩
  | 120 => ⟨S_, .f32⟩
  | 121 => ⟨S8192x32, .f32⟩
  | 122 => ⟨S8192x32, .f32⟩
  | 123 => ⟨S8192x128, .f32⟩
  | 124 => ⟨S_, .f32⟩
  | 125 => ⟨S8192x32, .f32⟩
  | 126 => ⟨S8192x32, .f32⟩
  | 127 => ⟨S8192x128, .f32⟩
  | _ => ⟨S2x8192x1024, .f32⟩

abbrev hbmTy0_1 (i : Nat) : BufTy := match i % 128 with
  | 0 => ⟨S_, .f32⟩
  | 1 => ⟨S8192x64, .f32⟩
  | 2 => ⟨S_, .f32⟩
  | 3 => ⟨S8192x32, .f32⟩
  | 4 => ⟨S_, .f32⟩
  | 5 => ⟨S8192x64, .f32⟩
  | 6 => ⟨S_, .f32⟩
  | 7 => ⟨S8192x32, .f32⟩
  | 8 => ⟨S8192x32, .f32⟩
  | 9 => ⟨S8192x128, .f32⟩
  | 10 => ⟨S_, .f32⟩
  | 11 => ⟨S8192x32, .f32⟩
  | 12 => ⟨S8192x32, .f32⟩
  | 13 => ⟨S8192x128, .f32⟩
  | 14 => ⟨S2x1x6144, .f32⟩
  | 15 => ⟨S2x8192x3072, .bf16⟩
  | 16 => ⟨S2x8192x512, .f32⟩
  | 17 => ⟨S2x1536x8192, .f32⟩
  | 18 => ⟨S2x8192x1024, .bf16⟩
  | 19 => ⟨S2x8192x1024, .bf16⟩
  | 20 => ⟨S2x640x8192, .bf16⟩
  | 21 => ⟨S2x8x80x8192, .bf16⟩
  | 22 => ⟨S2x8x64x8192, .bf16⟩
  | 23 => ⟨S2x8192x8x128, .bf16⟩
  | 24 => ⟨S2x8192x8x64, .bf16⟩
  | 25 => ⟨S2x8192x8x128, .bf16⟩
  | 26 => ⟨S2x8192x8x64, .bf16⟩
  | 27 => ⟨S2x8192x8x64, .f32⟩
  | 28 => ⟨S_, .f32⟩
  | 29 => ⟨S2x8192x8x64, .f32⟩
  | 30 => ⟨S2x8192x8x64, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024x4480, .bf16⟩
  | .local _ .vmem, ⟨8, _⟩ => ⟨S1x1536x1024, .bf16⟩
  | .local _ .vmem, ⟨9, _⟩ => ⟨S1x1x384, .f32⟩
  | .local _ .vmem, ⟨10, _⟩ => ⟨S1x1x256, .f32⟩
  | .local _ .vmem, ⟨11, _⟩ => ⟨S1x384x2048, .bf16⟩
  | .local _ .vmem, ⟨12, _⟩ => ⟨S1x256x1024, .bf16⟩
  | .local _ .vmem, ⟨13, _⟩ => ⟨S1x640x256, .bf16⟩
  | .local _ .vmem, ⟨14, _⟩ => ⟨S1x640x1, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S1x512x3072, .bf16⟩
  | .local _ .vmem, ⟨24, _⟩ => ⟨S1x512x3072, .bf16⟩
  | .local _ .vmem, ⟨25, _⟩ => ⟨S1x512x512, .f32⟩
  | .local _ .vmem, ⟨26, _⟩ => ⟨S1x512x512, .f32⟩
  | .local _ .vmem, ⟨27, _⟩ => ⟨S1x1536x512, .f32⟩
  | .local _ .vmem, ⟨28, _⟩ => ⟨S1x1536x512, .f32⟩
  | .local _ .vmem, ⟨29, _⟩ => ⟨S1x512x1024, .bf16⟩
  | .local _ .vmem, ⟨30, _⟩ => ⟨S1x512x1024, .bf16⟩
  | .local _ .vmem, ⟨31, _⟩ => ⟨S1x512x1024, .bf16⟩
  | .local _ .vmem, ⟨32, _⟩ => ⟨S1x512x1024, .bf16⟩
  | .local _ .vmem, ⟨33, _⟩ => ⟨S1x640x512, .bf16⟩
  | .local _ .vmem, ⟨34, _⟩ => ⟨S1x640x512, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_8 : Ref sig .tc := ⟨.hbm, 88, rfl⟩
abbrev main_v70 : Ref sig .tc := ⟨.hbm, 89, rfl⟩
abbrev main_v71 : Ref sig .tc := ⟨.hbm, 90, rfl⟩
abbrev main_cst_9 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_10 : Ref sig .tc := ⟨.hbm, 95, rfl⟩
abbrev main_v75 : Ref sig .tc := ⟨.hbm, 96, rfl⟩
abbrev main_v76 : Ref sig .tc := ⟨.hbm, 97, rfl⟩
abbrev main_cst_11 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_cst_12 : Ref sig .tc := ⟨.hbm, 114, rfl⟩
abbrev main_v92 : Ref sig .tc := ⟨.hbm, 115, rfl⟩
abbrev main_cst_13 : Ref sig .tc := ⟨.hbm, 116, rfl⟩
abbrev main_v93 : Ref sig .tc := ⟨.hbm, 117, rfl⟩
abbrev main_cst_14 : Ref sig .tc := ⟨.hbm, 118, rfl⟩
abbrev main_v94 : Ref sig .tc := ⟨.hbm, 119, rfl⟩
abbrev main_cst_15 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_cst_16 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_cst_17 : Ref sig .tc := ⟨.hbm, 128, rfl⟩
abbrev main_v101 : Ref sig .tc := ⟨.hbm, 129, rfl⟩
abbrev main_cst_18 : Ref sig .tc := ⟨.hbm, 130, rfl⟩
abbrev main_v102 : Ref sig .tc := ⟨.hbm, 131, rfl⟩
abbrev main_cst_19 : Ref sig .tc := ⟨.hbm, 132, rfl⟩
abbrev main_v103 : Ref sig .tc := ⟨.hbm, 133, rfl⟩
abbrev main_cst_20 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_cst_21 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111_0 : Ref sig .tc := ⟨.hbm, 143, rfl⟩
abbrev main_v111_1 : Ref sig .tc := ⟨.hbm, 144, rfl⟩
abbrev main_v111_2 : Ref sig .tc := ⟨.hbm, 145, rfl⟩
abbrev main_v111_3 : Ref sig .tc := ⟨.hbm, 146, rfl⟩
abbrev main_v111_4 : Ref sig .tc := ⟨.hbm, 147, rfl⟩
abbrev main_v111_5 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_cst_22 : Ref sig .tc := ⟨.hbm, 156, rfl⟩
abbrev main_v119 : Ref sig .tc := ⟨.hbm, 157, rfl⟩
abbrev main_v120 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x4480 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1536x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x384x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x640x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x640x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S1x512x3072 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1536x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x640x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== Reference3Ideal.lean ====
abbrev S2x8192x1024 : Shape := ⟨3, ![2, 8192, 1024]⟩
abbrev S2x6144 : Shape := ⟨2, ![2, 6144]⟩
abbrev S4x1024 : Shape := ⟨2, ![4, 1024]⟩
abbrev S4x1024x5792 : Shape := ⟨3, ![4, 1024, 5792]⟩
abbrev S4x384 : Shape := ⟨2, ![4, 384]⟩
abbrev S4x384x768 : Shape := ⟨3, ![4, 384, 768]⟩
abbrev S4x256 : Shape := ⟨2, ![4, 256]⟩
abbrev S4x256x1024 : Shape := ⟨3, ![4, 256, 1024]⟩
abbrev S2x1x6144 : Shape := ⟨3, ![2, 1, 6144]⟩
abbrev S2x1x1024 : Shape := ⟨3, ![2, 1, 1024]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1x1024x5792 : Shape := ⟨3, ![1, 1024, 5792]⟩
abbrev S1024x5792 : Shape := ⟨2, ![1024, 5792]⟩
abbrev S2x8192x5792 : Shape := ⟨3, ![2, 8192, 5792]⟩
abbrev S2x8192x384 : Shape := ⟨3, ![2, 8192, 384]⟩
abbrev S1x384 : Shape := ⟨2, ![1, 384]⟩
abbrev S384 : Shape := ⟨1, ![384]⟩
abbrev S1x1x384 : Shape := ⟨3, ![1, 1, 384]⟩
abbrev S1x384x768 : Shape := ⟨3, ![1, 384, 768]⟩
abbrev S384x768 : Shape := ⟨2, ![384, 768]⟩
abbrev S2x8192x768 : Shape := ⟨3, ![2, 8192, 768]⟩
abbrev S2x8192x8x96 : Shape := ⟨4, ![2, 8192, 8, 96]⟩
abbrev S2x8192x288 : Shape := ⟨3, ![2, 8192, 288]⟩
abbrev S2x8192x256 : Shape := ⟨3, ![2, 8192, 256]⟩
abbrev S1x256 : Shape := ⟨2, ![1, 256]⟩
abbrev S256 : Shape := ⟨1, ![256]⟩
abbrev S1x1x256 : Shape := ⟨3, ![1, 1, 256]⟩
abbrev S1x256x1024 : Shape := ⟨3, ![1, 256, 1024]⟩
abbrev S256x1024 : Shape := ⟨2, ![256, 1024]⟩
abbrev S2x8192x8x128 : Shape := ⟨4, ![2, 8192, 8, 128]⟩
abbrev S2x8192x8x64 : Shape := ⟨4, ![2, 8192, 8, 64]⟩
abbrev S2x8192x3072 : Shape := ⟨3, ![2, 8192, 3072]⟩
abbrev S2x8192x512 : Shape := ⟨3, ![2, 8192, 512]⟩
abbrev S2x8192x1536 : Shape := ⟨3, ![2, 8192, 1536]⟩
abbrev S2x1536x8192 : Shape := ⟨3, ![2, 1536, 8192]⟩
abbrev S2x8x64x8192 : Shape := ⟨4, ![2, 8, 64, 8192]⟩

abbrev nBuf : Space → Nat
  | .hbm => 101
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x6144, .f32⟩
  | .hbm, ⟨2, _⟩ => ⟨S4x1024, .f32⟩
  | .hbm, ⟨3, _⟩ => ⟨S4x1024x5792, .f32⟩
  | .hbm, ⟨4, _⟩ => ⟨S4x384, .f32⟩
  | .hbm, ⟨5, _⟩ => ⟨S4x384x768, .f32⟩
  | .hbm, ⟨6, _⟩ => ⟨S4x256, .f32⟩
  | .hbm, ⟨7, _⟩ => ⟨S4x256x1024, .f32⟩
  | .hbm, ⟨8, _⟩ => ⟨S2x1x6144, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x1x1024, .f32⟩
  | .hbm, ⟨14, _⟩ => ⟨S2x1x1024, .f32⟩
  | .hbm, ⟨15, _⟩ => ⟨S1x1024, .f32⟩
  | .hbm, ⟨16, _⟩ => ⟨S1024, .f32⟩
  | .hbm, ⟨17, _⟩ => ⟨S2x8192x1024, .f32⟩
  | .hbm, ⟨18, _⟩ => ⟨S_, .f32⟩
  | .hbm, ⟨19, _⟩ => ⟨S2x8192, .f32⟩
  | .hbm, ⟨20, _⟩ => ⟨S2x8192x1, .f32⟩
  | .hbm, ⟨21, _⟩ => ⟨S_, .f32⟩
  | .hbm, ⟨22, _⟩ => ⟨S2x8192x1, .f32⟩
  | .hbm, ⟨23, _⟩ => ⟨S2x8192x1, .f32⟩
  | .hbm, ⟨24, _⟩ => ⟨S_, .f32⟩
  | .hbm, ⟨25, _⟩ => ⟨S2x8192x1, .f32⟩
  | .hbm, ⟨26, _⟩ => ⟨S2x8192x1, .f32⟩
  | .hbm, ⟨27, _⟩ => ⟨S2x8192x1, .f32⟩
  | .hbm, ⟨28, _⟩ => ⟨S2x8192x1024, .f32⟩
  | .hbm, ⟨29, _⟩ => ⟨S2x8192x1024, .f32⟩
  | .hbm, ⟨30, _⟩ => ⟨S1x1x1024, .f32⟩
  | .hbm, ⟨31, _⟩ => ⟨S2x8192x1024, .f32⟩
  | .hbm, ⟨32, _⟩ => ⟨S2x8192x1024, .f32⟩
  | .hbm, ⟨33, _⟩ => ⟨S_, .f32⟩
  | .hbm, ⟨34, _⟩ => ⟨S2x1x1024, .f32⟩
  | .hbm, ⟨35, _⟩ => ⟨S2x1x1024, .f32⟩
  | .hbm, ⟨36, _⟩ => ⟨S2x8192x1024, .f32⟩
  | .hbm, ⟨37, _⟩ => ⟨S2x8192x1024, .f32⟩
  | .hbm, ⟨38, _⟩ => ⟨S2x8192x1024, .f32⟩
  | .hbm, ⟨39, _⟩ => ⟨S2x8192x1024, .f32⟩
  | .hbm, ⟨40, _⟩ => ⟨S1x1024x5792, .f32⟩
  | .hbm, ⟨41, _⟩ => ⟨S1024x5792, .f32⟩
  | .hbm, ⟨42, _⟩ => ⟨S2x8192x5792, .f32⟩
  | .hbm, ⟨43, _⟩ => ⟨S2x8192x384, .f32⟩
  | .hbm, ⟨44, _⟩ => ⟨S1x384, .f32⟩
  | .hbm, ⟨45, _⟩ => ⟨S384, .f32⟩
  | .hbm, ⟨46, _⟩ => ⟨S2x8192x384, .f32⟩
  | .hbm, ⟨47, _⟩ => ⟨S_, .f32⟩
  | .hbm, ⟨48, _⟩ => ⟨S2x8192, .f32⟩
  | .hbm, ⟨49, _⟩ => ⟨S2x8192x1, .f32⟩
  | .hbm, ⟨50, _⟩ => ⟨S_, .f32⟩
  | .hbm, ⟨51, _⟩ => ⟨S2x8192x1, .f32⟩
  | .hbm, ⟨52, _⟩ => ⟨S2x8192x1, .f32⟩
  | .hbm, ⟨53, _⟩ => ⟨S_, .f32⟩
  | .hbm, ⟨54, _⟩ => ⟨S2x8192x1, .f32⟩
  | .hbm, ⟨55, _⟩ => ⟨S2x8192x1, .f32⟩
  | .hbm, ⟨56, _⟩ => ⟨S2x8192x1, .f32⟩
  | .hbm, ⟨57, _⟩ => ⟨S2x8192x384, .f32⟩
  | .hbm, ⟨58, _⟩ => ⟨S2x8192x384, .f32⟩
  | .hbm, ⟨59, _⟩ => ⟨S1x1x384, .f32⟩
  | .hbm, ⟨60, _⟩ => ⟨S2x8192x384, .f32⟩
  | .hbm, ⟨61, _⟩ => ⟨S2x8192x384, .f32⟩
  | .hbm, ⟨62, _⟩ => ⟨S1x384x768, .f32⟩
  | .hbm, ⟨63, _⟩ => ⟨S384x768, .f32⟩
  | .hbm, ⟨64, _⟩ => ⟨S2x8192x768, .f32⟩
  | .hbm, ⟨65, _⟩ => ⟨S2x8192x8x96, .f32⟩
  | .hbm, ⟨66, _⟩ => ⟨S2x8192x288, .f32⟩
  | .hbm, ⟨67, _⟩ => ⟨S2x8192x256, .f32⟩
  | .hbm, ⟨68, _⟩ => ⟨S1x256, .f32⟩
  | .hbm, ⟨69, _⟩ => ⟨S256, .f32⟩
  | .hbm, ⟨70, _⟩ => ⟨S2x8192x256, .f32⟩
  | .hbm, ⟨71, _⟩ => ⟨S_, .f32⟩
  | .hbm, ⟨72, _⟩ => ⟨S2x8192, .f32⟩
  | .hbm, ⟨73, _⟩ => ⟨S2x8192x1, .f32⟩
  | .hbm, ⟨74, _⟩ => ⟨S_, .f32⟩
  | .hbm, ⟨75, _⟩ => ⟨S2x8192x1, .f32⟩
  | .hbm, ⟨76, _⟩ => ⟨S2x8192x1, .f32⟩
  | .hbm, ⟨77, _⟩ => ⟨S_, .f32⟩
  | .hbm, ⟨78, _⟩ => ⟨S2x8192x1, .f32⟩
  | .hbm, ⟨79, _⟩ => ⟨S2x8192x1, .f32⟩
  | .hbm, ⟨80, _⟩ => ⟨S2x8192x1, .f32⟩
  | .hbm, ⟨81, _⟩ => ⟨S2x8192x256, .f32⟩
  | .hbm, ⟨82, _⟩ => ⟨S2x8192x256, .f32⟩
  | .hbm, ⟨83, _⟩ => ⟨S1x1x256, .f32⟩
  | .hbm, ⟨84, _⟩ => ⟨S2x8192x256, .f32⟩
  | .hbm, ⟨85, _⟩ => ⟨S2x8192x256, .f32⟩
  | .hbm, ⟨86, _⟩ => ⟨S1x256x1024, .f32⟩
  | .hbm, ⟨87, _⟩ => ⟨S256x1024, .f32⟩
  | .hbm, ⟨88, _⟩ => ⟨S2x8192x1024, .f32⟩
  | .hbm, ⟨89, _⟩ => ⟨S2x8192x8x128, .f32⟩
  | .hbm, ⟨90, _⟩ => ⟨S2x8192x8x64, .f32⟩
  | .hbm, ⟨91, _⟩ => ⟨S2x8192x8x64, .f32⟩
  | .hbm, ⟨92, _⟩ => ⟨S2x8192x3072, .f32⟩
  | .hbm, ⟨93, _⟩ => ⟨S2x8192x3072, .bf16⟩
  | .hbm, ⟨94, _⟩ => ⟨S2x8192x512, .f32⟩
  | .hbm, ⟨95, _⟩ => ⟨S2x8192x1536, .f32⟩
  | .hbm, ⟨96, _⟩ => ⟨S2x1536x8192, .f32⟩
  | .hbm, ⟨97, _⟩ => ⟨S2x8x64x8192, .f32⟩
  | .hbm, ⟨98, _⟩ => ⟨S2x8x64x8192, .bf16⟩
  | .hbm, ⟨99, _⟩ => ⟨S2x8192x8x64, .f32⟩
  | .hbm, ⟨100, _⟩ => ⟨S2x8192x8x64, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_6 : Ref sig .tc := ⟨.hbm, 71, rfl⟩
abbrev main_v56 : Ref sig .tc := ⟨.hbm, 72, rfl⟩
abbrev main_v57 : Ref sig .tc := ⟨.hbm, 73, rfl⟩
abbrev main_cst_7 : Ref sig .tc := ⟨.hbm, 74, rfl⟩
abbrev main_v58 : Ref sig .tc := ⟨.hbm, 75, rfl⟩
abbrev main_v59 : Ref sig .tc := ⟨.hbm, 76, rfl⟩
abbrev main_cst_8 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩

abbrev nD : Nat := 1
abbrev τ : Topo := Topo.v7x

variable {F : FTy → Type} [FloatOps F]
-- ==== Proof.Attn.Head.lean ====
module

public import proofs.«01_k».proof.Proof.Gen.KernelIdeal.Loops
public import Idealize.ShloMosaic.Lib.VecWindow

/-! # One head of the attention, as a function of the arrays it reads

The kernel goes over the latent keys in chunks of 512, one head after the other within a chunk.
Here one head's work on one chunk is written down as a function (`step`), and its work on a run of
chunks as the repetition of that function (`steps`). -/

@[expose] public section

noncomputable section

namespace Cert.KernelIdeal.Attn

open Idealize.ShloMosaic Idealize.ShloMosaic.TcCoe
open Gen

variable {F : FTy → Type} [FloatOps F]

/-- The part of `x` of the given size that starts at `off`; what lies outside of `x` is left unspecified. -/
def tile {s : Shape} {Val : EltTy → Type} [∀ e, Nonempty (Val e)] {e : EltTy} (x : s.Idx → Val e) (off size : Fin s.rank → ℕ) :
    ((a : Fin s.rank) → Fin (size a)) → Val e := by
  classical
  exact fun y => if h : ∀ a, off a + (y a).val < s.size a then x fun a => ⟨off a + (y a).val, h a⟩ else Classical.choice inferInstance

theorem tile_apply {s : Shape} {Val : EltTy → Type} [∀ e, Nonempty (Val e)] {e : EltTy} (x : s.Idx → Val e) (off size : Fin s.rank → ℕ)
    (y : (a : Fin s.rank) → Fin (size a)) (h : ∀ a, off a + (y a).val < s.size a) :
    tile x off size y = x fun a => ⟨off a + (y a).val, h a⟩ := dif_pos h

/-- A load of a rectangle reads the array's part there. -/
theorem readAt_tile {sig : RefSig} {κ : Kind} {sp : Space} {s : Shape} {e : EltTy} {Val : EltTy → Type} [∀ e, Nonempty (Val e)]
    (v : View sig κ sp s e) (x : s.Idx → Val e) (off size : Fin s.rank → ℕ) (inb : ∀ a, off a + size a ≤ s.size a) :
    v.readAt Val (Rect.unit off size inb).toLoadRect (v.rep x) = tile x off size := by
  rw [View.readAt_rep_unit v x inb rfl inb]
  funext y
  rw [tile_apply x off size y fun a => lt_of_lt_of_le (Nat.add_lt_add_left (y a).isLt _) (inb a)]
  refine congrArg x (funext fun a => Fin.ext ?_)
  rw [Rect.emb_apply]
  exact congrArg (off a + ·) (Nat.one_mul _)

section
variable {sig : RefSig} {κ : Kind} {sp : Space} {Val : EltTy → Type} [∀ e, Nonempty (Val e)]

/-- A load of a whole scratch buffer reads what was stored last. -/
theorem readCov_scratch (v : View sig κ sp S512x256 .f32) (inb inb' : ∀ a, ![0, 0] a + ![512, 256] a ≤ S512x256.size a)
    (w : S512x256.Idx → Val .f32) (L : List (View.Piece Val S512x256 .f32)) :
    v.readCov (⟨Rect.unit ![0, 0] ![512, 256] inb', w⟩ :: L) (Rect.unit ![0, 0] ![512, 256] inb).toLoadRect = w :=
  View.readCov_full v inb inb' w L

theorem readCov_scratch' (v : View sig κ sp S256x256 .f32) (inb inb' : ∀ a, ![0, 0] a + ![256, 256] a ≤ S256x256.size a)
    (w : S256x256.Idx → Val .f32) (L : List (View.Piece Val S256x256 .f32)) :
    v.readCov (⟨Rect.unit ![0, 0] ![256, 256] inb', w⟩ :: L) (Rect.unit ![0, 0] ![256, 256] inb).toLoadRect = w :=
  View.readCov_full v inb inb' w L

/-- A part of a scratch buffer's own size is the whole buffer. -/
theorem tile_scratch (x : S512x256.Idx → Val .f32) : tile x ![0, 0] ![512, 256] = x := by
  funext y
  have h : ∀ a, ![0, 0] a + (y a).val < S512x256.size a := fun a => by
    have := (y a).isLt
    fin_cases a <;> simpa using this
  rw [tile_apply x _ _ y h]
  refine congrArg x (funext fun a => Fin.ext ?_)
  fin_cases a <;> exact Nat.zero_add _

end

/-- Head `h`'s keys of chunk `j`. -/
def keyTile (K : Vec F S1x8192x1024 .bf16) (h j : ℕ) : Vec F S1x512x128 .bf16 := tile K ![0, 512 * j, 128 * h] S1x512x128.size
/-- Head `h`'s values of chunk `j`. -/
def valTile (W : Vec F S1x640x8192 .bf16) (h j : ℕ) : Vec F S1x80x512 .bf16 := tile W ![0, 80 * h, 512 * j] S1x80x512.size

/-- The scores of 512 keys against the 256 queries of the block. -/
def score (q : FVec F S256x128 .bf16) (k : Vec F S1x512x128 .bf16) : FVec F S512x256 .f32 :=
  matmul dot_S512x128_S256x128_S512x256_1_1_0_0_n_n none (shapeCast S512x128 k shapeCasts_S1x512x128_S512x128) q
    (constant S512x256 .f32 0x00000000#32)

/-- The scores as they are laid into a scratch buffer. -/
def stored (q : FVec F S256x128 .bf16) (k : Vec F S1x512x128 .bf16) : FVec F S512x256 .f32 :=
  shapeCast S512x256 (score q k) shapeCasts_S512x256_S512x256

/-- Each query's greatest score among the 512 keys. -/
def top (s : FVec F S512x256 .f32) : FVec F S1x256 .f32 :=
  shapeCast S1x256 (multiReduction .maximumf [0] S256 s 0xFF800000#32 reduces_S512x256_S256 (.inl rfl) rfl) shapeCasts_S256_S1x256

/-- The weights of 512 keys, below the maximum `m`. -/
def weights (m : FVec F S1x256 .f32) (s : FVec F S512x256 .f32) : FVec F S512x256 .bf16 :=
  exp2 (truncf .bf16 (subf s (broadcastTo S512x256 m broadcasts_S1x256_S512x256)) bitsLt_bf16_f32)

/-- The weighted sum of 512 values. -/
def weigh (v : Vec F S1x80x512 .bf16) (p : FVec F S512x256 .bf16) : FVec F S80x256 .f32 :=
  matmul dot_S80x512_S512x256_S80x256_1_0_0_1_n_n none (shapeCast S80x512 v shapeCasts_S1x80x512_S80x512) p
    (constant S80x256 .f32 0x00000000#32)

/-- What a head carries from chunk to chunk: the maximum so far, the maximum of the chunk whose scores are
    waiting, and the weighted sum of the values so far. -/
structure St (F : FTy → Type) [FloatOps F] where
  m : FVec F S1x256 .f32
  x : FVec F S1x256 .f32
  a : FVec F S80x256 .f32

/-- The waiting scores' weights and values are added to the sum, which is first scaled to the new maximum. -/
def absorb (m x : FVec F S1x256 .f32) (a : FVec F S80x256 .f32) (s : FVec F S512x256 .f32) (v : Vec F S1x80x512 .bf16) :
    FVec F S80x256 .f32 :=
  addf (mulf (broadcastTo S80x256 (exp2 (subf m (maximumf m x))) broadcasts_S1x256_S80x256) a) (weigh v (weights (maximumf m x) s))

/-- One step of head `h`: the scores of chunk `j + 1` are computed, those of chunk `j` absorbed. -/
def step (q : FVec F S256x128 .bf16) (K : Vec F S1x8192x1024 .bf16) (W : Vec F S1x640x8192 .bf16) (h j : ℕ) (s : St F) : St F :=
  ⟨maximumf s.m s.x, top (score q (keyTile K h (j + 1))), absorb s.m s.x s.a (stored q (keyTile K h j)) (valTile W h j)⟩

/-- `n` steps from chunk `j` on. -/
def steps (q : FVec F S256x128 .bf16) (K : Vec F S1x8192x1024 .bf16) (W : Vec F S1x640x8192 .bf16) (h j : ℕ) : ℕ → St F → St F
  | 0, s => s
  | n + 1, s => step q K W h (j + n) (steps q K W h j n s)

theorem steps_add (q : FVec F S256x128 .bf16) (K : Vec F S1x8192x1024 .bf16) (W : Vec F S1x640x8192 .bf16) (h j n n' : ℕ) (s : St F) :
    steps q K W h j (n + n') s = steps q K W h (j + n) n' (steps q K W h j n s) := by
  induction n' with
  | zero => rfl
  | succ n' ih =>
    show step q K W h (j + (n + n')) (steps q K W h j (n + n') s) = step q K W h (j + n + n') _
    rw [ih, Nat.add_assoc]

/-- The eight heads' states, as the loop carries them. -/
abbrev Carried (F : FTy → Type) [FloatOps F] : Type := FVec F S1x256 .f32 × FVec F S1x256 .f32 × FVec F S80x256 .f32 × FVec F S1x256 .f32 × FVec F S1x256 .f32 × FVec F S80x256 .f32 × FVec F S1x256 .f32 × FVec F S1x256 .f32 × FVec F S80x256 .f32 × FVec F S1x256 .f32 × FVec F S1x256 .f32 × FVec F S80x256 .f32 × FVec F S1x256 .f32 × FVec F S1x256 .f32 × FVec F S80x256 .f32 × FVec F S1x256 .f32 × FVec F S1x256 .f32 × FVec F S80x256 .f32 × FVec F S1x256 .f32 × FVec F S1x256 .f32 × FVec F S80x256 .f32 × FVec F S1x256 .f32 × FVec F S1x256 .f32 × FVec F S80x256 .f32

def pack (s : ℕ → St F) : Carried F :=
  ((s 0).m, (s 0).x, (s 0).a, (s 1).m, (s 1).x, (s 1).a, (s 2).m, (s 2).x, (s 2).a, (s 3).m, (s 3).x, (s 3).a, (s 4).m, (s 4).x, (s 4).a, (s 5).m, (s 5).x, (s 5).a, (s 6).m, (s 6).x, (s 6).a, (s 7).m, (s 7).x, (s 7).a)

/-! ## The first two chunks and the context, and the end -/

/-- Head `h`'s queries. -/
def query (Q : Vec F S1x256x1024 .bf16) (h : ℕ) : FVec F S256x128 .bf16 :=
  shapeCast S256x128 (tile Q ![0, 0, 128 * h] S1x256x128.size : Vec F S1x256x128 .bf16) shapeCasts_S1x256x128_S256x128
/-- Head `h`'s keys of the context. -/
def ctxKeys (KC : Vec F S1x256x1024 .bf16) (h : ℕ) : Vec F S1x256x128 .bf16 := tile KC ![0, 0, 128 * h] S1x256x128.size
/-- Head `h`'s values of the context. -/
def ctxVals (WC : Vec F S1x640x256 .bf16) (h : ℕ) : Vec F S1x80x256 .bf16 := tile WC ![0, 80 * h, 0] S1x80x256.size

/-- The scores of the context's keys. -/
def ctxScore (q : FVec F S256x128 .bf16) (k : Vec F S1x256x128 .bf16) : FVec F S256x256 .f32 :=
  matmul dot_S256x128_S256x128_S256x256_1_1_0_0_n_n none (shapeCast S256x128 k shapeCasts_S1x256x128_S256x128) q
    (constant S256x256 .f32 0x00000000#32)

/-- The context's scores as they are laid into a scratch buffer. -/
def ctxStored (q : FVec F S256x128 .bf16) (k : Vec F S1x256x128 .bf16) : FVec F S256x256 .f32 :=
  shapeCast S256x256 (ctxScore q k) shapeCasts_S256x256_S256x256

/-- Each query's greatest score among the context's keys. -/
def ctxTop (s : FVec F S256x256 .f32) : FVec F S1x256 .f32 :=
  shapeCast S1x256 (multiReduction .maximumf [0] S256 s 0xFF800000#32 reduces_S256x256_S256 (.inl rfl) rfl) shapeCasts_S256_S1x256

/-- The weighted sum of the context's values, its weights taken below the maximum `m`. -/
def ctxWeigh (m : FVec F S1x256 .f32) (s : FVec F S256x256 .f32) (v : Vec F S1x80x256 .bf16) : FVec F S80x256 .f32 :=
  matmul dot_S80x256_S256x256_S80x256_1_0_0_1_n_n none (shapeCast S80x256 v shapeCasts_S1x80x256_S80x256)
    (exp2 (truncf .bf16 (subf s (broadcastTo S256x256 m broadcasts_S1x256_S256x256)) bitsLt_bf16_f32))
    (constant S80x256 .f32 0x00000000#32)

/-- The maximum over the context and chunk 0. -/
def top0 (q : FVec F S256x128 .bf16) (KC : Vec F S1x256x1024 .bf16) (K : Vec F S1x8192x1024 .bf16) (h : ℕ) : FVec F S1x256 .f32 :=
  maximumf (ctxTop (ctxScore q (ctxKeys KC h))) (top (score q (keyTile K h 0)))

/-- Head `h`'s state once the context and chunk 0 are absorbed and chunk 1's scores wait. -/
def first (q : FVec F S256x128 .bf16) (KC : Vec F S1x256x1024 .bf16) (WC : Vec F S1x640x256 .bf16) (K : Vec F S1x8192x1024 .bf16)
    (W : Vec F S1x640x8192 .bf16) (h : ℕ) : St F :=
  ⟨top0 q KC K h, top (score q (keyTile K h 1)),
    addf (ctxWeigh (top0 q KC K h) (ctxStored q (ctxKeys KC h)) (ctxVals WC h))
      (weigh (valTile W h 0) (weights (top0 q KC K h) (stored q (keyTile K h 0))))⟩

/-- Head `h`'s sums over all the keys: its 64 rows of values, then the sum of the weights. -/
def total (Q : Vec F S1x256x1024 .bf16) (KC : Vec F S1x256x1024 .bf16) (WC : Vec F S1x640x256 .bf16) (K : Vec F S1x8192x1024 .bf16)
    (W : Vec F S1x640x8192 .bf16) (h : ℕ) : FVec F S80x256 .f32 :=
  (steps (query Q h) K W h 1 15 (first (query Q h) KC WC K W h)).a

/-- A head's result: its sums over the sum of its weights. -/
def normed (a : FVec F S80x256 .f32) : FVec F S64x256 .f32 :=
  divf (extractStridedSlice S64x256 ![0, 0] a slices_S80x256_o0_0_S64x256)
    (broadcastTo S64x256 (extractStridedSlice S1x256 ![64, 0] a slices_S80x256_o64_0_S1x256) broadcasts_S1x256_S64x256)

/-- The block of the result: the eight heads' results side by side. -/
def block (Q : Vec F S1x256x1024 .bf16) (KC : Vec F S1x256x1024 .bf16) (WC : Vec F S1x640x256 .bf16) (K : Vec F S1x8192x1024 .bf16)
    (W : Vec F S1x640x8192 .bf16) : FVec F S1x256x512 .bf16 :=
  shapeCast S1x256x512 (truncf .bf16 (transpose S256x512 [1, 0] (concatenate S512x256 0
    [⟨S64x256, normed (total Q KC WC K W 0)⟩, ⟨S64x256, normed (total Q KC WC K W 1)⟩, ⟨S64x256, normed (total Q KC WC K W 2)⟩, ⟨S64x256, normed (total Q KC WC K W 3)⟩, ⟨S64x256, normed (total Q KC WC K W 4)⟩, ⟨S64x256, normed (total Q KC WC K W 5)⟩, ⟨S64x256, normed (total Q KC WC K W 6)⟩, ⟨S64x256, normed (total Q KC WC K W 7)⟩]
    concatenates_S64x256_S64x256_S64x256_S64x256_S64x256_S64x256_S64x256_S64x256_S512x256_d0) transposes_S512x256_p1_0_S256x512)
    bitsLt_bf16_f32) shapeCasts_S256x512_S1x256x512

/-! ## Where trip `k` of the loop reads -/

theorem key_off (k n b b' : ℕ) (hb : b = b') : ![0, 3072 * k + 512 * n + 1024, b] = ![0, 512 * (6 * k + 1 + n + 1), b'] := by
  subst hb
  congr 2
  omega

theorem val_off (k n b b' : ℕ) (hb : b = b') : ![0, b, 3072 * k + 512 * n + 512] = ![0, b', 512 * (6 * k + 1 + n)] := by
  subst hb
  congr 3
  omega

variable (K : Vec F S1x8192x1024 .bf16) (W : Vec F S1x640x8192 .bf16) (k : Fin k0_t1_loop.trips) (n : ℕ) (hn : n < 6)
include hn

theorem key0 : tile K (k0_off1 k (BitVec.ofNat 32 n)) S1x512x128.size = keyTile K 0 (6 * k.val + 1 + n + 1) :=
  congrArg (fun o => tile K o S1x512x128.size) ((k0_off1_eq k ⟨n, hn⟩).trans (key_off k.val n 0 (128 * 0) rfl))
theorem val0 : tile W (k0_off2 k (BitVec.ofNat 32 n)) S1x80x512.size = valTile W 0 (6 * k.val + 1 + n) :=
  congrArg (fun o => tile W o S1x80x512.size) ((k0_off2_eq k ⟨n, hn⟩).trans (val_off k.val n 0 (80 * 0) rfl))
theorem key1 : tile K (k0_off3 k (BitVec.ofNat 32 n)) S1x512x128.size = keyTile K 1 (6 * k.val + 1 + n + 1) :=
  congrArg (fun o => tile K o S1x512x128.size) ((k0_off3_eq k ⟨n, hn⟩).trans (key_off k.val n 128 (128 * 1) rfl))
theorem val1 : tile W (k0_off4 k (BitVec.ofNat 32 n)) S1x80x512.size = valTile W 1 (6 * k.val + 1 + n) :=
  congrArg (fun o => tile W o S1x80x512.size) ((k0_off4_eq k ⟨n, hn⟩).trans (val_off k.val n 80 (80 * 1) rfl))
theorem key2 : tile K (k0_off5 k (BitVec.ofNat 32 n)) S1x512x128.size = keyTile K 2 (6 * k.val + 1 + n + 1) :=
  congrArg (fun o => tile K o S1x512x128.size) ((k0_off5_eq k ⟨n, hn⟩).trans (key_off k.val n 256 (128 * 2) rfl))
theorem val2 : tile W (k0_off6 k (BitVec.ofNat 32 n)) S1x80x512.size = valTile W 2 (6 * k.val + 1 + n) :=
  congrArg (fun o => tile W o S1x80x512.size) ((k0_off6_eq k ⟨n, hn⟩).trans (val_off k.val n 160 (80 * 2) rfl))
theorem key3 : tile K (k0_off7 k (BitVec.ofNat 32 n)) S1x512x128.size = keyTile K 3 (6 * k.val + 1 + n + 1) :=
  congrArg (fun o => tile K o S1x512x128.size) ((k0_off7_eq k ⟨n, hn⟩).trans (key_off k.val n 384 (128 * 3) rfl))
theorem val3 : tile W (k0_off8 k (BitVec.ofNat 32 n)) S1x80x512.size = valTile W 3 (6 * k.val + 1 + n) :=
  congrArg (fun o => tile W o S1x80x512.size) ((k0_off8_eq k ⟨n, hn⟩).trans (val_off k.val n 240 (80 * 3) rfl))
theorem key4 : tile K (k0_off9 k (BitVec.ofNat 32 n)) S1x512x128.size = keyTile K 4 (6 * k.val + 1 + n + 1) :=
  congrArg (fun o => tile K o S1x512x128.size) ((k0_off9_eq k ⟨n, hn⟩).trans (key_off k.val n 512 (128 * 4) rfl))
theorem val4 : tile W (k0_off10 k (BitVec.ofNat 32 n)) S1x80x512.size = valTile W 4 (6 * k.val + 1 + n) :=
  congrArg (fun o => tile W o S1x80x512.size) ((k0_off10_eq k ⟨n, hn⟩).trans (val_off k.val n 320 (80 * 4) rfl))
theorem key5 : tile K (k0_off11 k (BitVec.ofNat 32 n)) S1x512x128.size = keyTile K 5 (6 * k.val + 1 + n + 1) :=
  congrArg (fun o => tile K o S1x512x128.size) ((k0_off11_eq k ⟨n, hn⟩).trans (key_off k.val n 640 (128 * 5) rfl))
theorem val5 : tile W (k0_off12 k (BitVec.ofNat 32 n)) S1x80x512.size = valTile W 5 (6 * k.val + 1 + n) :=
  congrArg (fun o => tile W o S1x80x512.size) ((k0_off12_eq k ⟨n, hn⟩).trans (val_off k.val n 400 (80 * 5) rfl))
theorem key6 : tile K (k0_off13 k (BitVec.ofNat 32 n)) S1x512x128.size = keyTile K 6 (6 * k.val + 1 + n + 1) :=
  congrArg (fun o => tile K o S1x512x128.size) ((k0_off13_eq k ⟨n, hn⟩).trans (key_off k.val n 768 (128 * 6) rfl))
theorem val6 : tile W (k0_off14 k (BitVec.ofNat 32 n)) S1x80x512.size = valTile W 6 (6 * k.val + 1 + n) :=
  congrArg (fun o => tile W o S1x80x512.size) ((k0_off14_eq k ⟨n, hn⟩).trans (val_off k.val n 480 (80 * 6) rfl))
theorem key7 : tile K (k0_off15 k (BitVec.ofNat 32 n)) S1x512x128.size = keyTile K 7 (6 * k.val + 1 + n + 1) :=
  congrArg (fun o => tile K o S1x512x128.size) ((k0_off15_eq k ⟨n, hn⟩).trans (key_off k.val n 896 (128 * 7) rfl))
theorem val7 : tile W (k0_off16 k (BitVec.ofNat 32 n)) S1x80x512.size = valTile W 7 (6 * k.val + 1 + n) :=
  congrArg (fun o => tile W o S1x80x512.size) ((k0_off16_eq k ⟨n, hn⟩).trans (val_off k.val n 560 (80 * 7) rfl))

end Cert.KernelIdeal.Attn

end
-- ==== Proof.Attn.Trip.lean ====
module

public import proofs.«01_k».proof.Proof.Attn.Head
public import Idealize.ShloMosaic.Lib.Tactic.Stretches

/-! # One trip of the kernel's loop

A trip makes six steps of each of the eight heads. -/

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Gen

variable {F : FTy → Type} [FloatOps F]

local notation "𝕄" => MT nD τ sig Unit (Elt F) ℕ (UR sig nD τ) ℕ

variable (i : grid0.Coords) (arg3 : Memref sig .tc .vmem S1x256x1024 .bf16) (harg3 : arg3.IsWhole) (arg4 : Memref sig .tc .vmem S1x256x1024 .bf16) (harg4 : arg4.IsWhole) (arg5 : Memref sig .tc .vmem S1x640x256 .bf16)
  (harg5 : arg5.IsWhole) (arg6 : Memref sig .tc .vmem S1x8192x1024 .bf16) (harg6 : arg6.IsWhole) (arg7 : Memref sig .tc .vmem S1x640x8192 .bf16) (harg7 : arg7.IsWhole) (arg8 : Memref sig .tc .vmem S1x256x512 .bf16)
  (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32)
  (harg11 : arg11.IsWhole) (arg12 : Memref sig .tc .vmem S512x256 .f32) (harg12 : arg12.IsWhole) (arg13 : Memref sig .tc .vmem S512x256 .f32) (harg13 : arg13.IsWhole) (arg14 : Memref sig .tc .vmem S512x256 .f32)
  (harg14 : arg14.IsWhole) (arg15 : Memref sig .tc .vmem S512x256 .f32) (harg15 : arg15.IsWhole) (arg16 : Memref sig .tc .vmem S512x256 .f32) (harg16 : arg16.IsWhole) (arg17 : Memref sig .tc .vmem S512x256 .f32)
  (harg17 : arg17.IsWhole) (arg18 : Memref sig .tc .vmem S512x256 .f32) (harg18 : arg18.IsWhole) (arg19 : Memref sig .tc .vmem S512x256 .f32) (harg19 : arg19.IsWhole) (arg20 : Memref sig .tc .vmem S512x256 .f32)
  (harg20 : arg20.IsWhole) (arg21 : Memref sig .tc .vmem S512x256 .f32) (harg21 : arg21.IsWhole) (arg22 : Memref sig .tc .vmem S512x256 .f32) (harg22 : arg22.IsWhole) (arg23 : Memref sig .tc .vmem S512x256 .f32)
  (harg23 : arg23.IsWhole) (arg24 : Memref sig .tc .vmem S512x256 .f32) (harg24 : arg24.IsWhole) (arg25 : Memref sig .tc .vmem S256x256 .f32) (harg25 : arg25.IsWhole) (arg26 : Memref sig .tc .vmem S256x256 .f32)
  (harg26 : arg26.IsWhole) (arg27 : Memref sig .tc .vmem S256x256 .f32) (harg27 : arg27.IsWhole) (arg28 : Memref sig .tc .vmem S256x256 .f32) (harg28 : arg28.IsWhole) (arg29 : Memref sig .tc .vmem S256x256 .f32)
  (harg29 : arg29.IsWhole) (arg30 : Memref sig .tc .vmem S256x256 .f32) (harg30 : arg30.IsWhole) (arg31 : Memref sig .tc .vmem S256x256 .f32) (harg31 : arg31.IsWhole) (arg32 : Memref sig .tc .vmem S256x256 .f32)
  (harg32 : arg32.IsWhole) (v34 : FVec F S1x256 .f32) (v53 : FVec F S1x256 .f32) (v72 : FVec F S1x256 .f32) (v91 : FVec F S1x256 .f32) (v110 : FVec F S1x256 .f32)
  (v129 : FVec F S1x256 .f32) (v148 : FVec F S1x256 .f32) (v167 : FVec F S1x256 .f32) (v177 : FVec F S1x256 .f32) (v196 : FVec F S80x256 .f32) (v206 : FVec F S1x256 .f32)
  (v225 : FVec F S80x256 .f32) (v235 : FVec F S1x256 .f32) (v254 : FVec F S80x256 .f32) (v264 : FVec F S1x256 .f32) (v283 : FVec F S80x256 .f32) (v293 : FVec F S1x256 .f32)
  (v312 : FVec F S80x256 .f32) (v322 : FVec F S1x256 .f32) (v341 : FVec F S80x256 .f32) (v351 : FVec F S1x256 .f32) (v361 : FVec F S512x256 .bf16) (v364 : FVec F S80x256 .f32)
  (v365 : BitVec 32)
variable (q : ℕ → FVec F S256x128 .bf16) (K : Vec F S1x8192x1024 .bf16) (W : Vec F S1x640x8192 .bf16)

set_option maxHeartbeats 4000000 in
/-- From the states `st`, with the scores of chunk `6 k + 1` waiting in the odd buffers, trip `k` takes each head
    six steps on and leaves the scores of chunk `6 k + 7` waiting. -/
theorem trip (𝒱 : Variants) (c : Dev nD) (bd : Option 𝒱.V) (k : Fin k0_t1_loop.trips) (E : Set ℕ) (st : ℕ → St F) :
  iprop((arg6.view.loc (c : Thread nD τ) ↦[arg6.view.set]{fullShare} arg6.view.rep K)
    ∗ (arg7.view.loc (c : Thread nD τ) ↦[arg7.view.set]{fullShare} arg7.view.rep W)
    ∗ (∃ f, arg9.view.loc (c : Thread nD τ) ↦[arg9.view.set]{fullShare} f)
    ∗ (arg10.view.loc (c : Thread nD τ) ↦[arg10.view.set]{fullShare} arg10.view.rep (stored (q 0) (keyTile K 0 (6 * k.val + 1))))
    ∗ (∃ f, arg11.view.loc (c : Thread nD τ) ↦[arg11.view.set]{fullShare} f)
    ∗ (arg12.view.loc (c : Thread nD τ) ↦[arg12.view.set]{fullShare} arg12.view.rep (stored (q 1) (keyTile K 1 (6 * k.val + 1))))
    ∗ (∃ f, arg13.view.loc (c : Thread nD τ) ↦[arg13.view.set]{fullShare} f)
    ∗ (arg14.view.loc (c : Thread nD τ) ↦[arg14.view.set]{fullShare} arg14.view.rep (stored (q 2) (keyTile K 2 (6 * k.val + 1))))
    ∗ (∃ f, arg15.view.loc (c : Thread nD τ) ↦[arg15.view.set]{fullShare} f)
    ∗ (arg16.view.loc (c : Thread nD τ) ↦[arg16.view.set]{fullShare} arg16.view.rep (stored (q 3) (keyTile K 3 (6 * k.val + 1))))
    ∗ (∃ f, arg17.view.loc (c : Thread nD τ) ↦[arg17.view.set]{fullShare} f)
    ∗ (arg18.view.loc (c : Thread nD τ) ↦[arg18.view.set]{fullShare} arg18.view.rep (stored (q 4) (keyTile K 4 (6 * k.val + 1))))
    ∗ (∃ f, arg19.view.loc (c : Thread nD τ) ↦[arg19.view.set]{fullShare} f)
    ∗ (arg20.view.loc (c : Thread nD τ) ↦[arg20.view.set]{fullShare} arg20.view.rep (stored (q 5) (keyTile K 5 (6 * k.val + 1))))
    ∗ (∃ f, arg21.view.loc (c : Thread nD τ) ↦[arg21.view.set]{fullShare} f)
    ∗ (arg22.view.loc (c : Thread nD τ) ↦[arg22.view.set]{fullShare} arg22.view.rep (stored (q 6) (keyTile K 6 (6 * k.val + 1))))
    ∗ (∃ f, arg23.view.loc (c : Thread nD τ) ↦[arg23.view.set]{fullShare} f)
    ∗ (arg24.view.loc (c : Thread nD τ) ↦[arg24.view.set]{fullShare} arg24.view.rep (stored (q 7) (keyTile K 7 (6 * k.val + 1)))))
  ⊢ wp frame (wpE (defs₀ (F := F)) 𝒱 (c : Thread nD τ) bd) E
    (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 (q 0) (q 1) (q 2) (q 3) (q 4) (q 5) (q 6) (q 7) v34 v53 v72 v91 v110 v129 v148 v167 v177 v196 v206 v225 v235 v254 v264 v283 v293 v312 v322 v341 v351 v361 v364 v365 k
      ((st 0).m, (st 0).x, (st 0).a, (st 1).m, (st 1).x, (st 1).a, (st 2).m, (st 2).x, (st 2).a, (st 3).m, (st 3).x, (st 3).a, (st 4).m, (st 4).x, (st 4).a, (st 5).m, (st 5).x, (st 5).a, (st 6).m, (st 6).x, (st 6).a, (st 7).m, (st 7).x, (st 7).a))
    (fun y => (iprop(⌜y = pack fun h => steps (q h) K W h (6 * k.val + 1) 6 (st h)⌝
    ∗ (arg6.view.loc (c : Thread nD τ) ↦[arg6.view.set]{fullShare} arg6.view.rep K)
    ∗ (arg7.view.loc (c : Thread nD τ) ↦[arg7.view.set]{fullShare} arg7.view.rep W)
    ∗ (∃ f, arg9.view.loc (c : Thread nD τ) ↦[arg9.view.set]{fullShare} f)
    ∗ (arg10.view.loc (c : Thread nD τ) ↦[arg10.view.set]{fullShare} arg10.view.rep (stored (q 0) (keyTile K 0 (6 * k.val + 1 + 6))))
    ∗ (∃ f, arg11.view.loc (c : Thread nD τ) ↦[arg11.view.set]{fullShare} f)
    ∗ (arg12.view.loc (c : Thread nD τ) ↦[arg12.view.set]{fullShare} arg12.view.rep (stored (q 1) (keyTile K 1 (6 * k.val + 1 + 6))))
    ∗ (∃ f, arg13.view.loc (c : Thread nD τ) ↦[arg13.view.set]{fullShare} f)
    ∗ (arg14.view.loc (c : Thread nD τ) ↦[arg14.view.set]{fullShare} arg14.view.rep (stored (q 2) (keyTile K 2 (6 * k.val + 1 + 6))))
    ∗ (∃ f, arg15.view.loc (c : Thread nD τ) ↦[arg15.view.set]{fullShare} f)
    ∗ (arg16.view.loc (c : Thread nD τ) ↦[arg16.view.set]{fullShare} arg16.view.rep (stored (q 3) (keyTile K 3 (6 * k.val + 1 + 6))))
    ∗ (∃ f, arg17.view.loc (c : Thread nD τ) ↦[arg17.view.set]{fullShare} f)
    ∗ (arg18.view.loc (c : Thread nD τ) ↦[arg18.view.set]{fullShare} arg18.view.rep (stored (q 4) (keyTile K 4 (6 * k.val + 1 + 6))))
    ∗ (∃ f, arg19.view.loc (c : Thread nD τ) ↦[arg19.view.set]{fullShare} f)
    ∗ (arg20.view.loc (c : Thread nD τ) ↦[arg20.view.set]{fullShare} arg20.view.rep (stored (q 5) (keyTile K 5 (6 * k.val + 1 + 6))))
    ∗ (∃ f, arg21.view.loc (c : Thread nD τ) ↦[arg21.view.set]{fullShare} f)
    ∗ (arg22.view.loc (c : Thread nD τ) ↦[arg22.view.set]{fullShare} arg22.view.rep (stored (q 6) (keyTile K 6 (6 * k.val + 1 + 6))))
    ∗ (∃ f, arg23.view.loc (c : Thread nD τ) ↦[arg23.view.set]{fullShare} f)
    ∗ (arg24.view.loc (c : Thread nD τ) ↦[arg24.view.set]{fullShare} arg24.view.rep (stored (q 7) (keyTile K 7 (6 * k.val + 1 + 6))))) : sProp 𝕄)) := by
  have hk : k.val < 2 := Nat.lt_of_lt_of_le k.isLt k0_t1_abs.2.1
  unfold k0_t1_body
  iintro ⟨HK, HW, ⟨%f0, HE0⟩, HO0, ⟨%f1, HE1⟩, HO1, ⟨%f2, HE2⟩, HO2, ⟨%f3, HE3⟩, HO3, ⟨%f4, HE4⟩, HO4, ⟨%f5, HE5⟩, HO5, ⟨%f6, HE6⟩, HO6, ⟨%f7, HE7⟩, HO7⟩
  sl_exec
  sl_step
  isplitr
  · ipureintro
    sl_unfold_run_names
    simp (config := {decide := true}) only [readCov_scratch, readAt_tile, tile_scratch, key0 K k, val0 W k, key1 K k, val1 W k, key2 K k, val2 W k, key3 K k, val3 W k, key4 K k, val4 W k, key5 K k, val5 W k, key6 K k, val6 W k, key7 K k, val7 W k]
    simp only [pack, steps, step, Prod.mk.injEq, Nat.add_zero]
    repeat' apply And.intro
    all_goals try rfl
    all_goals sl_open_pay
    all_goals rfl
  iframe HK
  iframe HW
  isplitl [HE0]
  · iexists _
    iexact HE0
  isplitl [HO0]
  · iapply (pointsTo_rep_of_read (c : Thread nD τ) arg10 _ fullShare _ ?_)
    any_goals iexact HO0
    · refine (View.read_writes_full _ _ _ _ _).trans ?_
      try sl_unfold_run_names
      simp (config := {decide := true}) only [readAt_tile, key0 K k]
      rfl
  isplitl [HE1]
  · iexists _
    iexact HE1
  isplitl [HO1]
  · iapply (pointsTo_rep_of_read (c : Thread nD τ) arg12 _ fullShare _ ?_)
    any_goals iexact HO1
    · refine (View.read_writes_full _ _ _ _ _).trans ?_
      try sl_unfold_run_names
      simp (config := {decide := true}) only [readAt_tile, key1 K k]
      rfl
  isplitl [HE2]
  · iexists _
    iexact HE2
  isplitl [HO2]
  · iapply (pointsTo_rep_of_read (c : Thread nD τ) arg14 _ fullShare _ ?_)
    any_goals iexact HO2
    · refine (View.read_writes_full _ _ _ _ _).trans ?_
      try sl_unfold_run_names
      simp (config := {decide := true}) only [readAt_tile, key2 K k]
      rfl
  isplitl [HE3]
  · iexists _
    iexact HE3
  isplitl [HO3]
  · iapply (pointsTo_rep_of_read (c : Thread nD τ) arg16 _ fullShare _ ?_)
    any_goals iexact HO3
    · refine (View.read_writes_full _ _ _ _ _).trans ?_
      try sl_unfold_run_names
      simp (config := {decide := true}) only [readAt_tile, key3 K k]
      rfl
  isplitl [HE4]
  · iexists _
    iexact HE4
  isplitl [HO4]
  · iapply (pointsTo_rep_of_read (c : Thread nD τ) arg18 _ fullShare _ ?_)
    any_goals iexact HO4
    · refine (View.read_writes_full _ _ _ _ _).trans ?_
      try sl_unfold_run_names
      simp (config := {decide := true}) only [readAt_tile, key4 K k]
      rfl
  isplitl [HE5]
  · iexists _
    iexact HE5
  isplitl [HO5]
  · iapply (pointsTo_rep_of_read (c : Thread nD τ) arg20 _ fullShare _ ?_)
    any_goals iexact HO5
    · refine (View.read_writes_full _ _ _ _ _).trans ?_
      try sl_unfold_run_names
      simp (config := {decide := true}) only [readAt_tile, key5 K k]
      rfl
  isplitl [HE6]
  · iexists _
    iexact HE6
  isplitl [HO6]
  · iapply (pointsTo_rep_of_read (c : Thread nD τ) arg22 _ fullShare _ ?_)
    any_goals iexact HO6
    · refine (View.read_writes_full _ _ _ _ _).trans ?_
      try sl_unfold_run_names
      simp (config := {decide := true}) only [readAt_tile, key6 K k]
      rfl
  isplitl [HE7]
  · iexists _
    iexact HE7
  iapply (pointsTo_rep_of_read (c : Thread nD τ) arg24 _ fullShare _ ?_)
  any_goals iexact HO7
  · refine (View.read_writes_full _ _ _ _ _).trans ?_
    try sl_unfold_run_names
    simp (config := {decide := true}) only [readAt_tile, key7 K k]
    rfl

end Cert.KernelIdeal.Attn

end
-- ==== Proof.Attn.Loop.lean ====
module

public import proofs.«01_k».proof.Proof.Attn.Trip
public import Idealize.ShloMosaic.Lib.Tactic.Stretches

/-! # The kernel's loop

The loop's invariant says how far each head is. -/

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Gen

variable {F : FTy → Type} [FloatOps F]

local notation "𝕄" => MT nD τ sig Unit (Elt F) ℕ (UR sig nD τ) ℕ

variable (i : grid0.Coords) (arg3 : Memref sig .tc .vmem S1x256x1024 .bf16) (harg3 : arg3.IsWhole) (arg4 : Memref sig .tc .vmem S1x256x1024 .bf16) (harg4 : arg4.IsWhole) (arg5 : Memref sig .tc .vmem S1x640x256 .bf16)
  (harg5 : arg5.IsWhole) (arg6 : Memref sig .tc .vmem S1x8192x1024 .bf16) (harg6 : arg6.IsWhole) (arg7 : Memref sig .tc .vmem S1x640x8192 .bf16) (harg7 : arg7.IsWhole) (arg8 : Memref sig .tc .vmem S1x256x512 .bf16)
  (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32)
  (harg11 : arg11.IsWhole) (arg12 : Memref sig .tc .vmem S512x256 .f32) (harg12 : arg12.IsWhole) (arg13 : Memref sig .tc .vmem S512x256 .f32) (harg13 : arg13.IsWhole) (arg14 : Memref sig .tc .vmem S512x256 .f32)
  (harg14 : arg14.IsWhole) (arg15 : Memref sig .tc .vmem S512x256 .f32) (harg15 : arg15.IsWhole) (arg16 : Memref sig .tc .vmem S512x256 .f32) (harg16 : arg16.IsWhole) (arg17 : Memref sig .tc .vmem S512x256 .f32)
  (harg17 : arg17.IsWhole) (arg18 : Memref sig .tc .vmem S512x256 .f32) (harg18 : arg18.IsWhole) (arg19 : Memref sig .tc .vmem S512x256 .f32) (harg19 : arg19.IsWhole) (arg20 : Memref sig .tc .vmem S512x256 .f32)
  (harg20 : arg20.IsWhole) (arg21 : Memref sig .tc .vmem S512x256 .f32) (harg21 : arg21.IsWhole) (arg22 : Memref sig .tc .vmem S512x256 .f32) (harg22 : arg22.IsWhole) (arg23 : Memref sig .tc .vmem S512x256 .f32)
  (harg23 : arg23.IsWhole) (arg24 : Memref sig .tc .vmem S512x256 .f32) (harg24 : arg24.IsWhole) (arg25 : Memref sig .tc .vmem S256x256 .f32) (harg25 : arg25.IsWhole) (arg26 : Memref sig .tc .vmem S256x256 .f32)
  (harg26 : arg26.IsWhole) (arg27 : Memref sig .tc .vmem S256x256 .f32) (harg27 : arg27.IsWhole) (arg28 : Memref sig .tc .vmem S256x256 .f32) (harg28 : arg28.IsWhole) (arg29 : Memref sig .tc .vmem S256x256 .f32)
  (harg29 : arg29.IsWhole) (arg30 : Memref sig .tc .vmem S256x256 .f32) (harg30 : arg30.IsWhole) (arg31 : Memref sig .tc .vmem S256x256 .f32) (harg31 : arg31.IsWhole) (arg32 : Memref sig .tc .vmem S256x256 .f32)
  (harg32 : arg32.IsWhole) (v34 : FVec F S1x256 .f32) (v53 : FVec F S1x256 .f32) (v72 : FVec F S1x256 .f32) (v91 : FVec F S1x256 .f32) (v110 : FVec F S1x256 .f32)
  (v129 : FVec F S1x256 .f32) (v148 : FVec F S1x256 .f32) (v167 : FVec F S1x256 .f32) (v177 : FVec F S1x256 .f32) (v196 : FVec F S80x256 .f32) (v206 : FVec F S1x256 .f32)
  (v225 : FVec F S80x256 .f32) (v235 : FVec F S1x256 .f32) (v254 : FVec F S80x256 .f32) (v264 : FVec F S1x256 .f32) (v283 : FVec F S80x256 .f32) (v293 : FVec F S1x256 .f32)
  (v312 : FVec F S80x256 .f32) (v322 : FVec F S1x256 .f32) (v341 : FVec F S80x256 .f32) (v351 : FVec F S1x256 .f32) (v361 : FVec F S512x256 .bf16) (v364 : FVec F S80x256 .f32)
  (v365 : BitVec 32)
variable (q : ℕ → FVec F S256x128 .bf16) (K : Vec F S1x8192x1024 .bf16) (W : Vec F S1x640x8192 .bf16)

/-- The loop's invariant, from the states `st` of before its first trip: the heads have made `6 k` steps, and the
    scores of chunk `6 k + 1` wait in the odd buffers. -/
def inv (c : Dev nD) (st : ℕ → St F) (k : ℕ) (acc : Carried F) : sProp 𝕄 :=
  iprop(⌜acc = pack fun h => steps (q h) K W h 1 (6 * k) (st h)⌝
    ∗ (arg6.view.loc (c : Thread nD τ) ↦[arg6.view.set]{fullShare} arg6.view.rep K)
    ∗ (arg7.view.loc (c : Thread nD τ) ↦[arg7.view.set]{fullShare} arg7.view.rep W)
    ∗ (∃ f, arg9.view.loc (c : Thread nD τ) ↦[arg9.view.set]{fullShare} f)
    ∗ (arg10.view.loc (c : Thread nD τ) ↦[arg10.view.set]{fullShare} arg10.view.rep (stored (q 0) (keyTile K 0 (6 * k + 1))))
    ∗ (∃ f, arg11.view.loc (c : Thread nD τ) ↦[arg11.view.set]{fullShare} f)
    ∗ (arg12.view.loc (c : Thread nD τ) ↦[arg12.view.set]{fullShare} arg12.view.rep (stored (q 1) (keyTile K 1 (6 * k + 1))))
    ∗ (∃ f, arg13.view.loc (c : Thread nD τ) ↦[arg13.view.set]{fullShare} f)
    ∗ (arg14.view.loc (c : Thread nD τ) ↦[arg14.view.set]{fullShare} arg14.view.rep (stored (q 2) (keyTile K 2 (6 * k + 1))))
    ∗ (∃ f, arg15.view.loc (c : Thread nD τ) ↦[arg15.view.set]{fullShare} f)
    ∗ (arg16.view.loc (c : Thread nD τ) ↦[arg16.view.set]{fullShare} arg16.view.rep (stored (q 3) (keyTile K 3 (6 * k + 1))))
    ∗ (∃ f, arg17.view.loc (c : Thread nD τ) ↦[arg17.view.set]{fullShare} f)
    ∗ (arg18.view.loc (c : Thread nD τ) ↦[arg18.view.set]{fullShare} arg18.view.rep (stored (q 4) (keyTile K 4 (6 * k + 1))))
    ∗ (∃ f, arg19.view.loc (c : Thread nD τ) ↦[arg19.view.set]{fullShare} f)
    ∗ (arg20.view.loc (c : Thread nD τ) ↦[arg20.view.set]{fullShare} arg20.view.rep (stored (q 5) (keyTile K 5 (6 * k + 1))))
    ∗ (∃ f, arg21.view.loc (c : Thread nD τ) ↦[arg21.view.set]{fullShare} f)
    ∗ (arg22.view.loc (c : Thread nD τ) ↦[arg22.view.set]{fullShare} arg22.view.rep (stored (q 6) (keyTile K 6 (6 * k + 1))))
    ∗ (∃ f, arg23.view.loc (c : Thread nD τ) ↦[arg23.view.set]{fullShare} f)
    ∗ (arg24.view.loc (c : Thread nD τ) ↦[arg24.view.set]{fullShare} arg24.view.rep (stored (q 7) (keyTile K 7 (6 * k + 1)))))

set_option maxHeartbeats 4000000 in
/-- Each trip keeps the invariant. -/
theorem keeps (𝒱 : Variants) (c : Dev nD) (bd : Option 𝒱.V) (E : Set ℕ) (st : ℕ → St F) (k : Fin k0_t1_loop.trips) (acc : Carried F) :
    inv arg6 arg7 arg9 arg10 arg11 arg12 arg13 arg14 arg15 arg16 arg17 arg18 arg19 arg20 arg21 arg22 arg23 arg24 q K W c st k.val acc
    ⊢ wp frame (wpE (defs₀ (F := F)) 𝒱 (c : Thread nD τ) bd) E
      (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 (q 0) (q 1) (q 2) (q 3) (q 4) (q 5) (q 6) (q 7) v34 v53 v72 v91 v110 v129 v148 v167 v177 v196 v206 v225 v235 v254 v264 v283 v293 v312 v322 v341 v351 v361 v364 v365 k acc)
      (inv arg6 arg7 arg9 arg10 arg11 arg12 arg13 arg14 arg15 arg16 arg17 arg18 arg19 arg20 arg21 arg22 arg23 arg24 q K W c st (k.val + 1)) := by
    unfold inv
    iintro ⟨%h_acc, H⟩
    subst h_acc
    iapply (wp_wand_r Idealize.ShloMosaic.frame (wpE (defs₀ (F := F)) 𝒱 (c : Thread nD τ) bd) E)
    isplitl [H]
    · iapply (trip (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v34 v53 v72 v91 v110 v129 v148 v167 v177 v196 v206 v225 v235 v254 v264 v283 v293 v312 v322 v341 v351 v361 v364 v365 q K W 𝒱 c bd k E (fun h => steps (q h) K W h 1 (6 * k.val) (st h)))
      iexact H
    · iintro %y ⟨%hy, H⟩
      isplitr
      · ipureintro
        rw [hy]
        refine congrArg pack (funext fun h => ?_)
        rw [show 6 * (k.val + 1) = 6 * k.val + 6 from rfl, steps_add, Nat.add_comm 1]
      · rw [show 6 * (k.val + 1) + 1 = 6 * k.val + 1 + 6 by omega]
        iexact H

end Cert.KernelIdeal.Attn

end
-- ==== Proof.Attn.Body.lean ====
module

public import proofs.«01_k».proof.Proof.Attn.Loop
public import Idealize.ShloMosaic.Lib.Tactic.Stretches

/-! # The kernel's body

From its five input blocks the body leaves `block` in the result's buffer. -/

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Gen

variable {F : FTy → Type} [FloatOps F]

local notation "𝕄" => MT nD τ sig Unit (Elt F) ℕ (UR sig nD τ) ℕ

variable (i : grid0.Coords) (arg3 : Memref sig .tc .vmem S1x256x1024 .bf16) (harg3 : arg3.IsWhole) (arg4 : Memref sig .tc .vmem S1x256x1024 .bf16) (harg4 : arg4.IsWhole) (arg5 : Memref sig .tc .vmem S1x640x256 .bf16)
  (harg5 : arg5.IsWhole) (arg6 : Memref sig .tc .vmem S1x8192x1024 .bf16) (harg6 : arg6.IsWhole) (arg7 : Memref sig .tc .vmem S1x640x8192 .bf16) (harg7 : arg7.IsWhole) (arg8 : Memref sig .tc .vmem S1x256x512 .bf16)
  (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32)
  (harg11 : arg11.IsWhole) (arg12 : Memref sig .tc .vmem S512x256 .f32) (harg12 : arg12.IsWhole) (arg13 : Memref sig .tc .vmem S512x256 .f32) (harg13 : arg13.IsWhole) (arg14 : Memref sig .tc .vmem S512x256 .f32)
  (harg14 : arg14.IsWhole) (arg15 : Memref sig .tc .vmem S512x256 .f32) (harg15 : arg15.IsWhole) (arg16 : Memref sig .tc .vmem S512x256 .f32) (harg16 : arg16.IsWhole) (arg17 : Memref sig .tc .vmem S512x256 .f32)
  (harg17 : arg17.IsWhole) (arg18 : Memref sig .tc .vmem S512x256 .f32) (harg18 : arg18.IsWhole) (arg19 : Memref sig .tc .vmem S512x256 .f32) (harg19 : arg19.IsWhole) (arg20 : Memref sig .tc .vmem S512x256 .f32)
  (harg20 : arg20.IsWhole) (arg21 : Memref sig .tc .vmem S512x256 .f32) (harg21 : arg21.IsWhole) (arg22 : Memref sig .tc .vmem S512x256 .f32) (harg22 : arg22.IsWhole) (arg23 : Memref sig .tc .vmem S512x256 .f32)
  (harg23 : arg23.IsWhole) (arg24 : Memref sig .tc .vmem S512x256 .f32) (harg24 : arg24.IsWhole) (arg25 : Memref sig .tc .vmem S256x256 .f32) (harg25 : arg25.IsWhole) (arg26 : Memref sig .tc .vmem S256x256 .f32)
  (harg26 : arg26.IsWhole) (arg27 : Memref sig .tc .vmem S256x256 .f32) (harg27 : arg27.IsWhole) (arg28 : Memref sig .tc .vmem S256x256 .f32) (harg28 : arg28.IsWhole) (arg29 : Memref sig .tc .vmem S256x256 .f32)
  (harg29 : arg29.IsWhole) (arg30 : Memref sig .tc .vmem S256x256 .f32) (harg30 : arg30.IsWhole) (arg31 : Memref sig .tc .vmem S256x256 .f32) (harg31 : arg31.IsWhole) (arg32 : Memref sig .tc .vmem S256x256 .f32)
  (harg32 : arg32.IsWhole)
variable (Q KC : Vec F S1x256x1024 .bf16) (WC : Vec F S1x640x256 .bf16) (K : Vec F S1x8192x1024 .bf16) (W : Vec F S1x640x8192 .bf16)

/-- The last three steps of a head, from the state the loop leaves, and the sums they end with. -/
def ends (q : FVec F S256x128 .bf16) (K : Vec F S1x8192x1024 .bf16) (W : Vec F S1x640x8192 .bf16) (h : ℕ) (s : St F) : FVec F S80x256 .f32 :=
  (step q K W h 15 (step q K W h 14 (step q K W h 13 s))).a

theorem total_eq (h : ℕ) : total Q KC WC K W h
    = ends (query Q h) K W h (steps (query Q h) K W h 1 12 (first (query Q h) KC WC K W h)) := rfl

set_option maxHeartbeats 4000000 in
/-- The body's run. -/
theorem body (c : Dev nD) (E : Set ℕ) :
  iprop((arg3.view.loc (c : Thread nD τ) ↦[arg3.view.set]{fullShare} arg3.view.rep Q)
    ∗ (arg4.view.loc (c : Thread nD τ) ↦[arg4.view.set]{fullShare} arg4.view.rep KC)
    ∗ (arg5.view.loc (c : Thread nD τ) ↦[arg5.view.set]{fullShare} arg5.view.rep WC)
    ∗ (arg6.view.loc (c : Thread nD τ) ↦[arg6.view.set]{fullShare} arg6.view.rep K)
    ∗ (arg7.view.loc (c : Thread nD τ) ↦[arg7.view.set]{fullShare} arg7.view.rep W)
    ∗ (∃ f, arg8.view.loc (c : Thread nD τ) ↦[arg8.view.set]{fullShare} f)
    ∗ (∃ f, arg9.view.loc (c : Thread nD τ) ↦[arg9.view.set]{fullShare} f)
    ∗ (∃ f, arg10.view.loc (c : Thread nD τ) ↦[arg10.view.set]{fullShare} f)
    ∗ (∃ f, arg11.view.loc (c : Thread nD τ) ↦[arg11.view.set]{fullShare} f)
    ∗ (∃ f, arg12.view.loc (c : Thread nD τ) ↦[arg12.view.set]{fullShare} f)
    ∗ (∃ f, arg13.view.loc (c : Thread nD τ) ↦[arg13.view.set]{fullShare} f)
    ∗ (∃ f, arg14.view.loc (c : Thread nD τ) ↦[arg14.view.set]{fullShare} f)
    ∗ (∃ f, arg15.view.loc (c : Thread nD τ) ↦[arg15.view.set]{fullShare} f)
    ∗ (∃ f, arg16.view.loc (c : Thread nD τ) ↦[arg16.view.set]{fullShare} f)
    ∗ (∃ f, arg17.view.loc (c : Thread nD τ) ↦[arg17.view.set]{fullShare} f)
    ∗ (∃ f, arg18.view.loc (c : Thread nD τ) ↦[arg18.view.set]{fullShare} f)
    ∗ (∃ f, arg19.view.loc (c : Thread nD τ) ↦[arg19.view.set]{fullShare} f)
    ∗ (∃ f, arg20.view.loc (c : Thread nD τ) ↦[arg20.view.set]{fullShare} f)
    ∗ (∃ f, arg21.view.loc (c : Thread nD τ) ↦[arg21.view.set]{fullShare} f)
    ∗ (∃ f, arg22.view.loc (c : Thread nD τ) ↦[arg22.view.set]{fullShare} f)
    ∗ (∃ f, arg23.view.loc (c : Thread nD τ) ↦[arg23.view.set]{fullShare} f)
    ∗ (∃ f, arg24.view.loc (c : Thread nD τ) ↦[arg24.view.set]{fullShare} f)
    ∗ (∃ f, arg25.view.loc (c : Thread nD τ) ↦[arg25.view.set]{fullShare} f)
    ∗ (∃ f, arg26.view.loc (c : Thread nD τ) ↦[arg26.view.set]{fullShare} f)
    ∗ (∃ f, arg27.view.loc (c : Thread nD τ) ↦[arg27.view.set]{fullShare} f)
    ∗ (∃ f, arg28.view.loc (c : Thread nD τ) ↦[arg28.view.set]{fullShare} f)
    ∗ (∃ f, arg29.view.loc (c : Thread nD τ) ↦[arg29.view.set]{fullShare} f)
    ∗ (∃ f, arg30.view.loc (c : Thread nD τ) ↦[arg30.view.set]{fullShare} f)
    ∗ (∃ f, arg31.view.loc (c : Thread nD τ) ↦[arg31.view.set]{fullShare} f)
    ∗ (∃ f, arg32.view.loc (c : Thread nD τ) ↦[arg32.view.set]{fullShare} f))
  ⊢ wp frame (wpE (defs₀ (F := F)) Variants.none (c : Thread nD τ) none) E
    (cc0_attention (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32)
    (fun _ => (iprop((arg3.view.loc (c : Thread nD τ) ↦[arg3.view.set]{fullShare} arg3.view.rep Q)
    ∗ (arg4.view.loc (c : Thread nD τ) ↦[arg4.view.set]{fullShare} arg4.view.rep KC)
    ∗ (arg5.view.loc (c : Thread nD τ) ↦[arg5.view.set]{fullShare} arg5.view.rep WC)
    ∗ (arg6.view.loc (c : Thread nD τ) ↦[arg6.view.set]{fullShare} arg6.view.rep K)
    ∗ (arg7.view.loc (c : Thread nD τ) ↦[arg7.view.set]{fullShare} arg7.view.rep W)
    ∗ (arg8.view.loc (c : Thread nD τ) ↦[arg8.view.set]{fullShare} arg8.view.rep (block Q KC WC K W))
    ∗ (∃ f, arg9.view.loc (c : Thread nD τ) ↦[arg9.view.set]{fullShare} f)
    ∗ (∃ f, arg10.view.loc (c : Thread nD τ) ↦[arg10.view.set]{fullShare} f)
    ∗ (∃ f, arg11.view.loc (c : Thread nD τ) ↦[arg11.view.set]{fullShare} f)
    ∗ (∃ f, arg12.view.loc (c : Thread nD τ) ↦[arg12.view.set]{fullShare} f)
    ∗ (∃ f, arg13.view.loc (c : Thread nD τ) ↦[arg13.view.set]{fullShare} f)
    ∗ (∃ f, arg14.view.loc (c : Thread nD τ) ↦[arg14.view.set]{fullShare} f)
    ∗ (∃ f, arg15.view.loc (c : Thread nD τ) ↦[arg15.view.set]{fullShare} f)
    ∗ (∃ f, arg16.view.loc (c : Thread nD τ) ↦[arg16.view.set]{fullShare} f)
    ∗ (∃ f, arg17.view.loc (c : Thread nD τ) ↦[arg17.view.set]{fullShare} f)
    ∗ (∃ f, arg18.view.loc (c : Thread nD τ) ↦[arg18.view.set]{fullShare} f)
    ∗ (∃ f, arg19.view.loc (c : Thread nD τ) ↦[arg19.view.set]{fullShare} f)
    ∗ (∃ f, arg20.view.loc (c : Thread nD τ) ↦[arg20.view.set]{fullShare} f)
    ∗ (∃ f, arg21.view.loc (c : Thread nD τ) ↦[arg21.view.set]{fullShare} f)
    ∗ (∃ f, arg22.view.loc (c : Thread nD τ) ↦[arg22.view.set]{fullShare} f)
    ∗ (∃ f, arg23.view.loc (c : Thread nD τ) ↦[arg23.view.set]{fullShare} f)
    ∗ (∃ f, arg24.view.loc (c : Thread nD τ) ↦[arg24.view.set]{fullShare} f)
    ∗ (∃ f, arg25.view.loc (c : Thread nD τ) ↦[arg25.view.set]{fullShare} f)
    ∗ (∃ f, arg26.view.loc (c : Thread nD τ) ↦[arg26.view.set]{fullShare} f)
    ∗ (∃ f, arg27.view.loc (c : Thread nD τ) ↦[arg27.view.set]{fullShare} f)
    ∗ (∃ f, arg28.view.loc (c : Thread nD τ) ↦[arg28.view.set]{fullShare} f)
    ∗ (∃ f, arg29.view.loc (c : Thread nD τ) ↦[arg29.view.set]{fullShare} f)
    ∗ (∃ f, arg30.view.loc (c : Thread nD τ) ↦[arg30.view.set]{fullShare} f)
    ∗ (∃ f, arg31.view.loc (c : Thread nD τ) ↦[arg31.view.set]{fullShare} f)
    ∗ (∃ f, arg32.view.loc (c : Thread nD τ) ↦[arg32.view.set]{fullShare} f)) : sProp 𝕄)) := by
  simp only [cc0_attention_eq_skeleton]
  unfold cc0_attention_skel
  simp only [k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton]
  iintro ⟨H3, H4, H5, H6, H7, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30⟩, ⟨%f31, H31⟩, ⟨%f32, H32⟩⟩
  sl_exec
  sl_unfold_run_names
  simp only [readCov_scratch, readCov_scratch', readAt_tile]
  iapply (Scf.wp_for_bind Idealize.ShloMosaic.frame (wpE (defs₀ (F := F)) Variants.none (c : Thread nD τ) none) E _ _ _ _ _ _
    (inv arg6 arg7 arg9 arg10 arg11 arg12 arg13 arg14 arg15 arg16 arg17 arg18 arg19 arg20 arg21 arg22 arg23 arg24 (query Q) K W c (fun h => first (query Q h) KC WC K W h))
    (keeps i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 _ _ _ _ _ _ _ _ _ _ _ _ _ _ _ _ _ _ _ _ _ _ _ _ (query Q) K W Variants.none c none E (fun h => first (query Q h) KC WC K W h))) $$ [H6 H7 H9 H10 H11 H12 H13 H14 H15 H16 H17 H18 H19 H20 H21 H22 H23 H24]
  · unfold inv
    isplitr
    · ipureintro
      simp only [pack, steps, first, Prod.mk.injEq]
      repeat' apply And.intro
      all_goals sl_open_pay
      all_goals simp only [top0, query, ctxKeys, ctxVals, keyTile, valTile, ctxScore, ctxStored, ctxTop, ctxWeigh, score, stored, top, weights, weigh]
      all_goals rfl
    iframe H6
    iframe H7
    isplitl [H9]
    · iexists _
      iexact H9
    isplitl [H10]
    · iapply (pointsTo_rep_of_read (c : Thread nD τ) arg10 _ fullShare _ ?_)
      any_goals iexact H10
      exact View.read_writes_full _ _ _ _ _
    isplitl [H11]
    · iexists _
      iexact H11
    isplitl [H12]
    · iapply (pointsTo_rep_of_read (c : Thread nD τ) arg12 _ fullShare _ ?_)
      any_goals iexact H12
      exact View.read_writes_full _ _ _ _ _
    isplitl [H13]
    · iexists _
      iexact H13
    isplitl [H14]
    · iapply (pointsTo_rep_of_read (c : Thread nD τ) arg14 _ fullShare _ ?_)
      any_goals iexact H14
      exact View.read_writes_full _ _ _ _ _
    isplitl [H15]
    · iexists _
      iexact H15
    isplitl [H16]
    · iapply (pointsTo_rep_of_read (c : Thread nD τ) arg16 _ fullShare _ ?_)
      any_goals iexact H16
      exact View.read_writes_full _ _ _ _ _
    isplitl [H17]
    · iexists _
      iexact H17
    isplitl [H18]
    · iapply (pointsTo_rep_of_read (c : Thread nD τ) arg18 _ fullShare _ ?_)
      any_goals iexact H18
      exact View.read_writes_full _ _ _ _ _
    isplitl [H19]
    · iexists _
      iexact H19
    isplitl [H20]
    · iapply (pointsTo_rep_of_read (c : Thread nD τ) arg20 _ fullShare _ ?_)
      any_goals iexact H20
      exact View.read_writes_full _ _ _ _ _
    isplitl [H21]
    · iexists _
      iexact H21
    isplitl [H22]
    · iapply (pointsTo_rep_of_read (c : Thread nD τ) arg22 _ fullShare _ ?_)
      any_goals iexact H22
      exact View.read_writes_full _ _ _ _ _
    isplitl [H23]
    · iexists _
      iexact H23
    iapply (pointsTo_rep_of_read (c : Thread nD τ) arg24 _ fullShare _ ?_)
    any_goals iexact H24
    exact View.read_writes_full _ _ _ _ _
  iintro %acc
  unfold inv
  iintro ⟨%h_acc, H6, H7, ⟨%g0, H9⟩, H10, ⟨%g1, H11⟩, H12, ⟨%g2, H13⟩, H14, ⟨%g3, H15⟩, H16, ⟨%g4, H17⟩, H18, ⟨%g5, H19⟩, H20, ⟨%g6, H21⟩, H22, ⟨%g7, H23⟩, H24⟩
  replace h_acc : acc = pack fun h => steps (query Q h) K W h 1 12 (first (query Q h) KC WC K W h) := h_acc
  subst h_acc
  dsimp only [pack]
  sl_exec
  sl_step
  iframe H3
  iframe H4
  iframe H5
  iframe H6
  iframe H7
  isplitl [H8]
  · iapply (pointsTo_rep_of_read (c : Thread nD τ) arg8 _ fullShare _ ?_)
    any_goals iexact H8
    refine (View.read_writes_full _ _ _ _ _).trans ?_
    sl_unfold_run_names
    simp only [readCov_scratch, readCov_scratch', readAt_tile, tile_scratch]
    have ht : Scf.trips (0#32) (Scalar.addi 0#32 2#32) 1#32 = 2 := rfl
    unfold block
    simp only [total_eq, ht]
    generalize steps (query Q 0) K W 0 1 12 (first (query Q 0) KC WC K W 0) = s0
    generalize steps (query Q 1) K W 1 1 12 (first (query Q 1) KC WC K W 1) = s1
    generalize steps (query Q 2) K W 2 1 12 (first (query Q 2) KC WC K W 2) = s2
    generalize steps (query Q 3) K W 3 1 12 (first (query Q 3) KC WC K W 3) = s3
    generalize steps (query Q 4) K W 4 1 12 (first (query Q 4) KC WC K W 4) = s4
    generalize steps (query Q 5) K W 5 1 12 (first (query Q 5) KC WC K W 5) = s5
    generalize steps (query Q 6) K W 6 1 12 (first (query Q 6) KC WC K W 6) = s6
    generalize steps (query Q 7) K W 7 1 12 (first (query Q 7) KC WC K W 7) = s7
    sl_open_pay
    simp only [normed, ends, step, absorb, query, keyTile, valTile, score, stored, top, weights, weigh]
  isplitl [H9]
  · iexists _
    iexact H9
  isplitl [H10]
  · iexists _
    iexact H10
  isplitl [H11]
  · iexists _
    iexact H11
  isplitl [H12]
  · iexists _
    iexact H12
  isplitl [H13]
  · iexists _
    iexact H13
  isplitl [H14]
  · iexists _
    iexact H14
  isplitl [H15]
  · iexists _
    iexact H15
  isplitl [H16]
  · iexists _
    iexact H16
  isplitl [H17]
  · iexists _
    iexact H17
  isplitl [H18]
  · iexists _
    iexact H18
  isplitl [H19]
  · iexists _
    iexact H19
  isplitl [H20]
  · iexists _
    iexact H20
  isplitl [H21]
  · iexists _
    iexact H21
  isplitl [H22]
  · iexists _
    iexact H22
  isplitl [H23]
  · iexists _
    iexact H23
  isplitl [H24]
  · iexists _
    iexact H24
  isplitl [H25]
  · iexists _
    iexact H25
  isplitl [H26]
  · iexists _
    iexact H26
  isplitl [H27]
  · iexists _
    iexact H27
  isplitl [H28]
  · iexists _
    iexact H28
  isplitl [H29]
  · iexists _
    iexact H29
  isplitl [H30]
  · iexists _
    iexact H30
  isplitl [H31]
  · iexists _
    iexact H31
  iexists _
  iexact H32

end Cert.KernelIdeal.Attn

end
-- ==== Proof.Attn.Run.lean ====
/-
# The run of the whole program

Every grid point's body leaves `block` of its five input blocks in the result's buffer (`body`), so that the
program's run ends with the result array built of those blocks, its arguments unchanged and its counters at zero.
-/
module

public import proofs.«01_k».proof.Proof.Attn.Body
public import proofs.«01_k».proof.Proof.Gen.KernelIdeal.Frame
public import Idealize.ShloMosaic.Lib.Pipeline.TableIdle
public import Idealize.ShloMosaic.Lib.Claim

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The kernel's scratch buffers, each at some contents. -/
def scratch (c : Dev nD) : sProp 𝕄 :=
  iprop((∃ f, (Memref.whole cc0_scratch0 : Memref sig .tc .vmem S512x256 .f32).view.loc (c : Thread nD τ) ↦[(Memref.whole cc0_scratch0 : Memref sig .tc .vmem S512x256 .f32).view.set]{fullShare} f)
    ∗ (∃ f, (Memref.whole cc0_scratch1 : Memref sig .tc .vmem S512x256 .f32).view.loc (c : Thread nD τ) ↦[(Memref.whole cc0_scratch1 : Memref sig .tc .vmem S512x256 .f32).view.set]{fullShare} f)
    ∗ (∃ f, (Memref.whole cc0_scratch2 : Memref sig .tc .vmem S512x256 .f32).view.loc (c : Thread nD τ) ↦[(Memref.whole cc0_scratch2 : Memref sig .tc .vmem S512x256 .f32).view.set]{fullShare} f)
    ∗ (∃ f, (Memref.whole cc0_scratch3 : Memref sig .tc .vmem S512x256 .f32).view.loc (c : Thread nD τ) ↦[(Memref.whole cc0_scratch3 : Memref sig .tc .vmem S512x256 .f32).view.set]{fullShare} f)
    ∗ (∃ f, (Memref.whole cc0_scratch4 : Memref sig .tc .vmem S512x256 .f32).view.loc (c : Thread nD τ) ↦[(Memref.whole cc0_scratch4 : Memref sig .tc .vmem S512x256 .f32).view.set]{fullShare} f)
    ∗ (∃ f, (Memref.whole cc0_scratch5 : Memref sig .tc .vmem S512x256 .f32).view.loc (c : Thread nD τ) ↦[(Memref.whole cc0_scratch5 : Memref sig .tc .vmem S512x256 .f32).view.set]{fullShare} f)
    ∗ (∃ f, (Memref.whole cc0_scratch6 : Memref sig .tc .vmem S512x256 .f32).view.loc (c : Thread nD τ) ↦[(Memref.whole cc0_scratch6 : Memref sig .tc .vmem S512x256 .f32).view.set]{fullShare} f)
    ∗ (∃ f, (Memref.whole cc0_scratch7 : Memref sig .tc .vmem S512x256 .f32).view.loc (c : Thread nD τ) ↦[(Memref.whole cc0_scratch7 : Memref sig .tc .vmem S512x256 .f32).view.set]{fullShare} f)
    ∗ (∃ f, (Memref.whole cc0_scratch8 : Memref sig .tc .vmem S512x256 .f32).view.loc (c : Thread nD τ) ↦[(Memref.whole cc0_scratch8 : Memref sig .tc .vmem S512x256 .f32).view.set]{fullShare} f)
    ∗ (∃ f, (Memref.whole cc0_scratch9 : Memref sig .tc .vmem S512x256 .f32).view.loc (c : Thread nD τ) ↦[(Memref.whole cc0_scratch9 : Memref sig .tc .vmem S512x256 .f32).view.set]{fullShare} f)
    ∗ (∃ f, (Memref.whole cc0_scratch10 : Memref sig .tc .vmem S512x256 .f32).view.loc (c : Thread nD τ) ↦[(Memref.whole cc0_scratch10 : Memref sig .tc .vmem S512x256 .f32).view.set]{fullShare} f)
    ∗ (∃ f, (Memref.whole cc0_scratch11 : Memref sig .tc .vmem S512x256 .f32).view.loc (c : Thread nD τ) ↦[(Memref.whole cc0_scratch11 : Memref sig .tc .vmem S512x256 .f32).view.set]{fullShare} f)
    ∗ (∃ f, (Memref.whole cc0_scratch12 : Memref sig .tc .vmem S512x256 .f32).view.loc (c : Thread nD τ) ↦[(Memref.whole cc0_scratch12 : Memref sig .tc .vmem S512x256 .f32).view.set]{fullShare} f)
    ∗ (∃ f, (Memref.whole cc0_scratch13 : Memref sig .tc .vmem S512x256 .f32).view.loc (c : Thread nD τ) ↦[(Memref.whole cc0_scratch13 : Memref sig .tc .vmem S512x256 .f32).view.set]{fullShare} f)
    ∗ (∃ f, (Memref.whole cc0_scratch14 : Memref sig .tc .vmem S512x256 .f32).view.loc (c : Thread nD τ) ↦[(Memref.whole cc0_scratch14 : Memref sig .tc .vmem S512x256 .f32).view.set]{fullShare} f)
    ∗ (∃ f, (Memref.whole cc0_scratch15 : Memref sig .tc .vmem S512x256 .f32).view.loc (c : Thread nD τ) ↦[(Memref.whole cc0_scratch15 : Memref sig .tc .vmem S512x256 .f32).view.set]{fullShare} f)
    ∗ (∃ f, (Memref.whole cc0_scratch16 : Memref sig .tc .vmem S256x256 .f32).view.loc (c : Thread nD τ) ↦[(Memref.whole cc0_scratch16 : Memref sig .tc .vmem S256x256 .f32).view.set]{fullShare} f)
    ∗ (∃ f, (Memref.whole cc0_scratch17 : Memref sig .tc .vmem S256x256 .f32).view.loc (c : Thread nD τ) ↦[(Memref.whole cc0_scratch17 : Memref sig .tc .vmem S256x256 .f32).view.set]{fullShare} f)
    ∗ (∃ f, (Memref.whole cc0_scratch18 : Memref sig .tc .vmem S256x256 .f32).view.loc (c : Thread nD τ) ↦[(Memref.whole cc0_scratch18 : Memref sig .tc .vmem S256x256 .f32).view.set]{fullShare} f)
    ∗ (∃ f, (Memref.whole cc0_scratch19 : Memref sig .tc .vmem S256x256 .f32).view.loc (c : Thread nD τ) ↦[(Memref.whole cc0_scratch19 : Memref sig .tc .vmem S256x256 .f32).view.set]{fullShare} f)
    ∗ (∃ f, (Memref.whole cc0_scratch20 : Memref sig .tc .vmem S256x256 .f32).view.loc (c : Thread nD τ) ↦[(Memref.whole cc0_scratch20 : Memref sig .tc .vmem S256x256 .f32).view.set]{fullShare} f)
    ∗ (∃ f, (Memref.whole cc0_scratch21 : Memref sig .tc .vmem S256x256 .f32).view.loc (c : Thread nD τ) ↦[(Memref.whole cc0_scratch21 : Memref sig .tc .vmem S256x256 .f32).view.set]{fullShare} f)
    ∗ (∃ f, (Memref.whole cc0_scratch22 : Memref sig .tc .vmem S256x256 .f32).view.loc (c : Thread nD τ) ↦[(Memref.whole cc0_scratch22 : Memref sig .tc .vmem S256x256 .f32).view.set]{fullShare} f)
    ∗ (∃ f, (Memref.whole cc0_scratch23 : Memref sig .tc .vmem S256x256 .f32).view.loc (c : Thread nD τ) ↦[(Memref.whole cc0_scratch23 : Memref sig .tc .vmem S256x256 .f32).view.set]{fullShare} f))

theorem whole_some (c : Dev nD) (b : Ref sig .tc) :
    (iprop(∃ f, (Memref.whole b).view.loc (c : Thread nD τ) ↦[(Memref.whole b).view.set]{fullShare} f) : sProp 𝕄)
      = iprop(∃ f : Buf (Elt F) ((c : Thread nD τ).loc b), ((c : Thread nD τ).loc b) ↦{fullShare} f) := by
  simp only [Memref.view_whole, View.set_whole]

set_option maxHeartbeats 1600000 in
/-- What the region keeps beside its windows: the scratch buffers and the generator's register. -/
theorem kept_eq (c : Dev nD) :
    (Pipeline.ΦA spec0 c : sProp 𝕄) = iprop(scratch (F := F) c ∗ (∃ r, prngReg c r)) := by
  unfold Pipeline.ΦA scratch
  rw [scopedRest0_eq]
  simp only [← whole_some]

/-- The result's block at grid point `t`. -/
def outAt (c : Dev nD) (t : Fin cfg0.N) : Vec F S1x256x512 .bf16 :=
  block (iblk m c 0 t) (iblk m c 1 t) (iblk m c 2 t) (iblk m c 3 t) (iblk m c 4 t)

/-- The region's data: its arrays as it finds them, and after each point the inputs' buffers at their blocks and the
    result's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q _ := fullShare
  owed _ := 0

theorem arrays_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t := by dsimp only [dats]

theorem before_0 (c : Dev nD) (t : Fin cfg0.N) (d) : (dats m 0 c).before 0 t d = iblk m c 0 t :=
  before0_0_of m (dats m 0 c) (arrays_eq m c 0) (after_0 m c) t d
theorem before_1 (c : Dev nD) (t : Fin cfg0.N) (d) : (dats m 0 c).before 1 t d = iblk m c 1 t :=
  before0_1_of m (dats m 0 c) (arrays_eq m c 1) (after_1 m c) t d
theorem before_2 (c : Dev nD) (t : Fin cfg0.N) (d) : (dats m 0 c).before 2 t d = iblk m c 2 t :=
  before0_2_of m (dats m 0 c) (arrays_eq m c 2) (after_2 m c) t d
theorem before_3 (c : Dev nD) (t : Fin cfg0.N) (d) : (dats m 0 c).before 3 t d = iblk m c 3 t :=
  before0_3_of m (dats m 0 c) (arrays_eq m c 3) (after_3 m c) t d
theorem before_4 (c : Dev nD) (t : Fin cfg0.N) (d) : (dats m 0 c).before 4 t d = iblk m c 4 t :=
  before0_4_of m (dats m 0 c) (arrays_eq m c 4) (after_4 m c) t d

/-- What the body finds at point `t`. -/
def found (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0) : Memref sig .tc .vmem S1x256x1024 .bf16) fullShare ((dats m 0 c).before 0 t d))
    ∗ (∃ d, owns (c : Thread nD τ) (win0_1.stage (cfg0.slots t 1) : Memref sig .tc .vmem S1x256x1024 .bf16) fullShare ((dats m 0 c).before 1 t d))
    ∗ (∃ d, owns (c : Thread nD τ) (win0_2.stage (cfg0.slots t 2) : Memref sig .tc .vmem S1x640x256 .bf16) fullShare ((dats m 0 c).before 2 t d))
    ∗ (∃ d, owns (c : Thread nD τ) (win0_3.stage (cfg0.slots t 3) : Memref sig .tc .vmem S1x8192x1024 .bf16) fullShare ((dats m 0 c).before 3 t d))
    ∗ (∃ d, owns (c : Thread nD τ) (win0_4.stage (cfg0.slots t 4) : Memref sig .tc .vmem S1x640x8192 .bf16) fullShare ((dats m 0 c).before 4 t d))
    ∗ (∃ d, owns (c : Thread nD τ) (win0_5.stage (cfg0.slots t 5) : Memref sig .tc .vmem S1x256x512 .bf16) fullShare ((dats m 0 c).before 5 t d)))

/-- What the body leaves at point `t`. -/
def left (c : Dev nD) (t : Fin cfg0.N) : sProp 𝕄 :=
  iprop((dats m 0 c).Φ t.succ ∗ (dats m 0 c).owesAt () t.succ
    ∗ owns (c : Thread nD τ) (win0_0.stage (cfg0.slots t 0) : Memref sig .tc .vmem S1x256x1024 .bf16) fullShare ((dats m 0 c).after 0 t)
    ∗ owns (c : Thread nD τ) (win0_1.stage (cfg0.slots t 1) : Memref sig .tc .vmem S1x256x1024 .bf16) fullShare ((dats m 0 c).after 1 t)
    ∗ owns (c : Thread nD τ) (win0_2.stage (cfg0.slots t 2) : Memref sig .tc .vmem S1x640x256 .bf16) fullShare ((dats m 0 c).after 2 t)
    ∗ owns (c : Thread nD τ) (win0_3.stage (cfg0.slots t 3) : Memref sig .tc .vmem S1x8192x1024 .bf16) fullShare ((dats m 0 c).after 3 t)
    ∗ owns (c : Thread nD τ) (win0_4.stage (cfg0.slots t 4) : Memref sig .tc .vmem S1x640x8192 .bf16) fullShare ((dats m 0 c).after 4 t)
    ∗ owns (c : Thread nD τ) (win0_5.stage (cfg0.slots t 5) : Memref sig .tc .vmem S1x256x512 .bf16) fullShare ((dats m 0 c).after 5 t))

set_option maxHeartbeats 1600000 in
/-- The body's run at any grid point. -/
theorem body_at (c : Dev nD) (t : Fin cfg0.N) :
    found m c t ⊢ wp frame (wpE (defs₀ (F := F)) Variants.none c none) Set.univ (bodyAt0 t) (fun _ => left m c t) := by
  unfold found left bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  rw [show (dats m 0 c).Φ t.castSucc = Pipeline.ΦA spec0 c from rfl, kept_eq]
  unfold scratch outAt
  iintro ⟨⟨HS, Hg⟩, Ho, ⟨%d0, H0⟩, ⟨%d1, H1⟩, ⟨%d2, H2⟩, ⟨%d3, H3⟩, ⟨%d4, H4⟩, ⟨%d5, H5⟩⟩
  iapply (wp_wand_r Idealize.ShloMosaic.frame (wpE (defs₀ (F := F)) Variants.none (c : Thread nD τ) none) Set.univ)
  isplitl [HS H0 H1 H2 H3 H4 H5]
  · iapply (body (F := F) _ _ _ _ _ _ _ _ _ _ _ _ _ _ _ _ _ _ _ _ _ _ _ _ _ _ _ _ _ _ _ _ _ _ _ _ _ _ _ _ _ _ _ _ _ _ _ _ _ _ _ _ _ _ _ _ _ _ _ _ _
      (iblk m c 0 t) (iblk m c 1 t) (iblk m c 2 t) (iblk m c 3 t) (iblk m c 4 t) c Set.univ)
    isplitl [H0]; · iapply (rep_of_owns (c : Thread nD τ)); iexact H0
    isplitl [H1]; · iapply (rep_of_owns (c : Thread nD τ)); iexact H1
    isplitl [H2]; · iapply (rep_of_owns (c : Thread nD τ)); iexact H2
    isplitl [H3]; · iapply (rep_of_owns (c : Thread nD τ)); iexact H3
    isplitl [H4]; · iapply (rep_of_owns (c : Thread nD τ)); iexact H4
    isplitl [H5]
    · unfold owns
      icases H5 with ⟨%f5, %h5, H5⟩
      iexists f5
      iexact H5
    iexact HS
  iintro %y ⟨H0, H1, H2, H3, H4, H5, HS⟩
  isplitl [HS Hg]
  · isplitl [HS]
    · iexact HS
    iexact Hg
  isplitl [Ho]; · iexact Ho
  isplitl [H0]; · iapply (owns_of_rep (c : Thread nD τ)); iexact H0
  isplitl [H1]; · iapply (owns_of_rep (c : Thread nD τ)); iexact H1
  isplitl [H2]; · iapply (owns_of_rep (c : Thread nD τ)); iexact H2
  isplitl [H3]; · iapply (owns_of_rep (c : Thread nD τ)); iexact H3
  isplitl [H4]; · iapply (owns_of_rep (c : Thread nD τ)); iexact H4
  iapply (owns_of_rep (c : Thread nD τ)); iexact H5

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (body_at m c t) rfl .rfl fun _ => .rfl

-- the launch rule's implicit arguments are found by unifying its conclusion with this one, through plain definitions
set_option backward.isDefEq.respectTransparency.types false in
/-- The run: the result array is what the blocks make of it, and every counter is at zero. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := arrays_eq m) (hΦ := fun _ _ => rfl)

theorem run_arrays : θ_run defs (onTc (τ := τ) (main (F := F))) (s₀ m ρ) (Pipeline.FramePost cfgs (dats m) 0 (V m)) :=
  (θ_run defs _ _).mono (fun _ h => h.1) (run_quiescent m ρ)

/-- The frame: the run leaves every argument as it was and every counter at zero. -/
def Framed : Prop :=
  θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

theorem run_frame : Framed m ρ :=
  θ_run_and (frame_of m ρ (dats m) (arrays_eq m) (run_arrays m ρ))
    ((θ_run defs _ _).mono (fun _ h => h.2) (run_quiescent m ρ))

end Cert.KernelIdeal.Attn

end
-- ==== Proof.Attn.Pre.lean ====
/-
# What the precondition says

Every query and every key is a real number.
-/
module

public import proofs.«01_k».proof.Pre_finite_scores
public import Idealize.ShloMosaic.Lib.Pointwise
public import Idealize.ShloMosaic.PureOps.Ideal

@[expose] public section

set_option maxRecDepth 16384

noncomputable section

namespace Cert.Pre_finite_scores.Attn

open Cert.Pre_finite_scores Idealize.ShloMosaic

theorem concatenates : Shape.Concatenates [S2x8192x8x96, S2x256x8x96, S2x8192x8x96] S2x16640x8x96 1 := by decide

theorem broadcasts : S_.BroadcastsInDim S2x16640x8x96 (![] : Fin 0 → Fin S2x16640x8x96.rank) := by decide

instance facts : Facts where
  concatenates_S2x8192x8x96_S2x256x8x96_S2x8192x8x96_S2x16640x8x96_d1 := concatenates
  bcast_S_S2x16640x8x96 := broadcasts

/-- An extended real whose absolute value is below infinity is a real number. -/
theorem real_of_abs (x : EReal) (h : max x (-x) < ⊤) : ∃ r : ℝ, x = (r : EReal) := by
  obtain ⟨h1, h2⟩ := max_lt_iff.mp h
  refine ⟨_, (EReal.coe_toReal h1.ne fun e => ?_).symm⟩
  rw [e] at h2
  exact lt_irrefl _ h2

/-- The comparison's word says so. -/
theorem real_of_word (x : EReal) (h : BitVec.ofBool (decide (max x (-x) < ⊤)) = 1#1) : ∃ r : ℝ, x = (r : EReal) := by
  refine real_of_abs x ?_
  by_contra hn
  rw [decide_eq_false hn] at h
  exact absurd h (by decide)

variable (q : FVec Ideal S2x8192x8x96 .f32) (kc : FVec Ideal S2x256x8x96 .f32) (vc : FVec Ideal S2x256x8x64 .f32)
  (kl : FVec Ideal S2x8192x8x96 .f32) (vl : FVec Ideal S2x8192x8x64 .f32)

/-- The queries, the context's keys and the latent ones, one after another. -/
def all : FVec Ideal S2x16640x8x96 .f32 :=
  concatenate S2x16640x8x96 1 [⟨S2x8192x8x96, q⟩, ⟨S2x256x8x96, kc⟩, ⟨S2x8192x8x96, kl⟩] concatenates

theorem all_apply (b : Fin 2) (n : Fin 16640) (h : Fin 8) (d : Fin 96) :
    all q kc kl (ix4 b n h d) = if hq : n.val < 8192 then q (ix4 b ⟨n, hq⟩ h d)
      else if hc : n.val - 8192 < 256 then kc (ix4 b ⟨n - 8192, hc⟩ h d) else kl (ix4 b ⟨n - 8192 - 256, by omega⟩ h d) := by
  pointwise [all]

theorem fn_apply (i : S2x16640x8x96.Idx) (e : fn q kc vc kl vl = fun _ => 1#1) : ∃ r : ℝ, all q kc kl i = (r : EReal) := by
  have e' := congrFun e i
  have : fn q kc vc kl vl i = cmpf .olt (Host.absf (all q kc kl))
    (broadcastInDim S2x16640x8x96 ![] broadcasts (constant S_ .f32 0x7F800000#32)) i := rfl
  rw [this] at e'
  pointwise at e'
  have top : Ideal.ofBits .f32 0x7F800000#32 = (⊤ : EReal) := by simp [Ideal.ofBits, Ideal.ieee]
  rw [top] at e'
  exact real_of_word _ e'

variable {q kc vc kl vl}

/-- Under the precondition the queries are real numbers, -/
theorem real_q (e : fn q kc vc kl vl = fun _ => 1#1) (i : S2x8192x8x96.Idx) : ∃ r : ℝ, q i = (r : EReal) := by
  obtain ⟨b, n, h, d, rfl⟩ : ∃ (b : Fin 2) (n : Fin 8192) (h : Fin 8) (d : Fin 96), i = ix4 b n h d := ⟨i 0, i 1, i 2, i 3, eq_ix4 i⟩
  obtain ⟨r, hr⟩ := fn_apply q kc vc kl vl (ix4 b ⟨n.val, by omega⟩ h d) e
  rw [all_apply, dif_pos n.isLt] at hr
  exact ⟨r, hr⟩

/-- so are the context's keys, -/
theorem real_kc (e : fn q kc vc kl vl = fun _ => 1#1) (i : S2x256x8x96.Idx) : ∃ r : ℝ, kc i = (r : EReal) := by
  obtain ⟨b, n, h, d, rfl⟩ : ∃ (b : Fin 2) (n : Fin 256) (h : Fin 8) (d : Fin 96), i = ix4 b n h d := ⟨i 0, i 1, i 2, i 3, eq_ix4 i⟩
  obtain ⟨r, hr⟩ := fn_apply q kc vc kl vl (ix4 b ⟨8192 + n.val, by omega⟩ h d) e
  rw [all_apply, dif_neg (show ¬ 8192 + n.val < 8192 by omega), dif_pos (show 8192 + n.val - 8192 < 256 by omega)] at hr
  simp only [Nat.add_sub_cancel_left] at hr
  exact ⟨r, hr⟩

/-- and the latent keys. -/
theorem real_kl (e : fn q kc vc kl vl = fun _ => 1#1) (i : S2x8192x8x96.Idx) : ∃ r : ℝ, kl i = (r : EReal) := by
  obtain ⟨b, n, h, d, rfl⟩ : ∃ (b : Fin 2) (n : Fin 8192) (h : Fin 8) (d : Fin 96), i = ix4 b n h d := ⟨i 0, i 1, i 2, i 3, eq_ix4 i⟩
  obtain ⟨r, hr⟩ := fn_apply q kc vc kl vl (ix4 b ⟨8448 + n.val, by omega⟩ h d) e
  rw [all_apply, dif_neg (show ¬ 8448 + n.val < 8192 by omega), dif_neg (show ¬ 8448 + n.val - 8192 < 256 by omega)] at hr
  have e3 : 8448 + n.val - 8192 - 256 = n.val := by omega
  simp only [e3] at hr
  exact ⟨r, hr⟩

end Cert.Pre_finite_scores.Attn

end
-- ==== Proof.Attn.RefReads.lean ====
/-
# The reference's operations, an element at a time
-/
module

public import proofs.«01_k».proof.Proof.Gen.ReferenceIdeal
public import Idealize.ShloMosaic.Lib.Pointwise
public import Mathlib.Data.Finset.Fold

@[expose] public section

set_option maxRecDepth 16384

noncomputable section

namespace Cert.ReferenceIdeal.Attn

open Cert.ReferenceIdeal Cert.ReferenceIdeal.Gen Idealize.ShloMosaic

variable (q : FVec Ideal S2x8192x8x96 .f32) (kc : FVec Ideal S2x256x8x96 .f32) (vc : FVec Ideal S2x256x8x64 .f32)
  (kl : FVec Ideal S2x8192x8x96 .f32) (vl : FVec Ideal S2x8192x8x64 .f32)

/-- The context's keys, then the latent ones. -/
def keys : FVec Ideal S2x8448x8x96 .f32 :=
  concatenate S2x8448x8x96 1 [⟨S2x256x8x96, kc⟩, ⟨S2x8192x8x96, kl⟩] concatenates_S2x256x8x96_S2x8192x8x96_S2x8448x8x96_d1

/-- The context's values, then the latent ones. -/
def vals : FVec Ideal S2x8448x8x64 .f32 :=
  concatenate S2x8448x8x64 1 [⟨S2x256x8x64, vc⟩, ⟨S2x8192x8x64, vl⟩] concatenates_S2x256x8x64_S2x8192x8x64_S2x8448x8x64_d1

/-- The scores of all queries against the keys `k`. -/
def scores (k : FVec Ideal S2x8448x8x96 .f32) : FVec Ideal S2x8x8192x8448 .f32 :=
  mulf (Host.dotGeneral dot_S2x8192x8x96_S2x8448x8x96_S2x8x8192x8448_3_3_1_1_02_02 none q k)
    (broadcastInDim S2x8x8192x8448 ![] bcast_S_S2x8x8192x8448 (constant S_ .f32 0x3DD105EC#32))

/-- Each query's greatest score. -/
def greatest (s : FVec Ideal S2x8x8192x8448 .f32) : FVec Ideal S2x8x8192 .f32 :=
  maximumf (broadcastInDim S2x8x8192 ![] bcast_S_S2x8x8192 (constant S_ .f32 0xFF800000#32))
    (Host.reduce FloatOps.maximumf s (constant S_ .f32 0xFF800000#32) reducesTo_S2x8x8192x8448_S2x8x8192_d3 h_S_)

/-- The exponentials of the scores less `m`. -/
def exps (s : FVec Ideal S2x8x8192x8448 .f32) (m : FVec Ideal S2x8x8192 .f32) : FVec Ideal S2x8x8192x8448 .f32 :=
  Host.exp (subf s (broadcastInDim S2x8x8192x8448 ![0, 1, 2, 3] bcast_S2x8x8192x1_S2x8x8192x8448_0_1_2_3
    (broadcastInDim S2x8x8192x1 ![0, 1, 2] bcast_S2x8x8192_S2x8x8192x1_0_1_2 m)))

/-- Each over its query's sum. -/
def quotients (e : FVec Ideal S2x8x8192x8448 .f32) : FVec Ideal S2x8x8192x8448 .f32 :=
  Host.divf e (broadcastInDim S2x8x8192x8448 ![0, 1, 2, 3] bcast_S2x8x8192x1_S2x8x8192x8448_0_1_2_3
    (broadcastInDim S2x8x8192x1 ![0, 1, 2] bcast_S2x8x8192_S2x8x8192x1_0_1_2
      (Host.reduceAdd e (constant S_ .f32 0x00000000#32) reducesTo_S2x8x8192x8448_S2x8x8192_d3 h_S_)))

/-- The values `v` weighted by `p`. -/
def weighted (p : FVec Ideal S2x8x8192x8448 .f32) (v : FVec Ideal S2x8448x8x64 .f32) : FVec Ideal S2x8192x512 .bf16 :=
  truncf .bf16 (shapeCast _ (transpose S2x8192x8x64 [0, 3, 1, 2]
    (Host.dotGeneral dot_S2x8448x8x64_S2x8x8192x8448_S2x8x64x8192_1_3_3_2_02_01 none v p)
    transposes_S2x8x64x8192_S2x8192x8x64_0_3_1_2) shapeCasts_S2x8192x8x64_S2x8192x512) bitsLt_bf16_f32

theorem scores_apply (k : FVec Ideal S2x8448x8x96 .f32) (b : Fin 2) (h : Fin 8) (i : Fin 8192) (j : Fin 8448) :
    scores q k (ix4 b h i j) = (∑ d : Fin 96, q (ix4 b i h d) * k (ix4 b j h d)) * Ideal.ofBits .f32 0x3DD105EC#32 := by
  pointwise [scores]

/-- The greatest of finitely many real numbers, taken by the host from minus infinity, is a real number. -/
theorem host_max_real {s t u : Shape} {axes : List (Fin s.rank)} (x : FVec Ideal s .f32) (init : FVec Ideal u .f32)
    (h : s.ReducesTo axes t) (hu : 0 < u.numel) (j : t.Idx) (hi : init (Shape.Idx.first hu) = (⊥ : EReal))
    (hx : ∀ i, ∃ r : ℝ, x i = (r : EReal)) (hne : ∃ i, h.drop i = j) :
    ∃ r : ℝ, Host.reduce FloatOps.maximumf x init h hu j = (r : EReal) := by
  classical
  obtain ⟨i0, hi0⟩ := hne
  rw [Host.reduce_eq_fold, hi]
  have h1 : (Finset.univ.filter fun i => h.drop i = j).fold max (⊥ : EReal) x < ⊤ :=
    (Finset.fold_max_lt _).mpr ⟨bot_lt_top, fun i _ => by obtain ⟨r, hr⟩ := hx i; rw [hr]; exact EReal.coe_lt_top _⟩
  have h2 : ⊥ < (Finset.univ.filter fun i => h.drop i = j).fold max (⊥ : EReal) x :=
    (Finset.lt_fold_max _).mpr (Or.inr ⟨i0, Finset.mem_filter.mpr ⟨Finset.mem_univ _, hi0⟩,
      by obtain ⟨r, hr⟩ := hx i0; rw [hr]; exact EReal.bot_lt_coe _⟩)
  exact ⟨_, (EReal.coe_toReal h1.ne h2.ne').symm⟩

/-- The reduction's initial value, at the one element it has. -/
theorem init_bot (i : S_.Idx) : (constant S_ .f32 0xFF800000#32 : FVec Ideal S_ .f32) i = (⊥ : EReal) := by
  rw [constant_apply, Ideal.ofBits_def]
  simp [Ideal.ofBits, Ideal.ieee]

theorem floor_bot (i : S2x8x8192.Idx) :
    (broadcastInDim S2x8x8192 ![] bcast_S_S2x8x8192 (constant S_ .f32 0xFF800000#32 : FVec Ideal S_ .f32)) i = (⊥ : EReal) := by
  unfold broadcastInDim
  exact init_bot _

theorem drop_exists (j : S2x8x8192.Idx) (h : S2x8x8192x8448.ReducesTo [3] S2x8x8192) : ∃ i, h.drop i = j :=
  ⟨_, (Shape.ReducesTo.fiber_r4_a3 h j _).mpr ⟨⟨0, by norm_num⟩, rfl⟩⟩

/-- With real scores each query's greatest is a real number. -/
theorem greatest_real (s : FVec Ideal S2x8x8192x8448 .f32) (hs : ∀ i, ∃ r : ℝ, s i = (r : EReal)) (j : S2x8x8192.Idx) :
    ∃ r : ℝ, greatest s j = (r : EReal) := by
  obtain ⟨r, hr⟩ := host_max_real s (constant S_ .f32 0xFF800000#32) reducesTo_S2x8x8192x8448_S2x8x8192_d3 h_S_ j (init_bot _) hs
    (drop_exists j _)
  refine ⟨r, ?_⟩
  unfold greatest
  rw [maximumf_apply, Ideal.maximumf_def, floor_bot, hr]
  exact max_eq_right bot_le

theorem exps_apply (s : FVec Ideal S2x8x8192x8448 .f32) (m : FVec Ideal S2x8x8192 .f32) (b : Fin 2) (h : Fin 8) (i : Fin 8192)
    (j : Fin 8448) : exps s m (ix4 b h i j) = Ideal.exp (s (ix4 b h i j) - m (ix3 b h i)) := by
  pointwise [exps]

theorem quotients_apply (e : FVec Ideal S2x8x8192x8448 .f32) (b : Fin 2) (h : Fin 8) (i : Fin 8192) (j : Fin 8448) :
    quotients e (ix4 b h i j) = Ideal.div (e (ix4 b h i j)) (∑ j : Fin 8448, e (ix4 b h i j)) := by
  pointwise [quotients]

theorem weighted_apply (p : FVec Ideal S2x8x8192x8448 .f32) (v : FVec Ideal S2x8448x8x64 .f32) (b : Fin 2) (h : Fin 8) (i : Fin 8192)
    (d : Fin 64) : weighted p v (ix3 b i ⟨64 * h + d, by omega⟩) = ∑ j : Fin 8448, v (ix4 b j h d) * p (ix4 b h i j) := by
  pointwise [weighted]

theorem keys_apply (b : Fin 2) (j : Fin 8448) (h : Fin 8) (d : Fin 96) :
    keys kc kl (ix4 b j h d) = if hj : j.val < 256 then kc (ix4 b ⟨j, hj⟩ h d) else kl (ix4 b ⟨j - 256, by omega⟩ h d) := by
  pointwise [keys]

theorem vals_apply (b : Fin 2) (j : Fin 8448) (h : Fin 8) (d : Fin 64) :
    vals vc vl (ix4 b j h d) = if hj : j.val < 256 then vc (ix4 b ⟨j, hj⟩ h d) else vl (ix4 b ⟨j - 256, by omega⟩ h d) := by
  pointwise [vals]

end Cert.ReferenceIdeal.Attn

end
-- ==== Proof.Attn.Math.lean ====
/-
# Weighted sums over the extended reals

A softmax's weighted sum may be taken below any real number in place of the maximum, in any base, and its quotient by
the sum of the weights taken before or after the sum.
-/
module

public import Idealize.ShloMosaic.Lib.Pointwise
public import Mathlib.Data.Finset.Fold

@[expose] public section

noncomputable section

namespace Cert.KernelIdeal.Attn

open Idealize.ShloMosaic

/-- A real number that is not negative may be multiplied into a sum. -/
theorem mul_sum_of_nonneg {ι : Type} (s : Finset ι) (c : ℝ) (hc : 0 ≤ c) (f : ι → EReal) :
    (c : EReal) * ∑ j ∈ s, f j = ∑ j ∈ s, (c : EReal) * f j := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

/-- The sum of the first `n` values `v`, each with the weight `2` to its score `t` less `μ`. -/
def part (t : ℕ → ℝ) (v : ℕ → EReal) (μ : ℝ) (n : ℕ) : EReal :=
  ∑ j ∈ Finset.range n, v j * ((2 : ℝ) ^ (t j - μ) : ℝ)

/-- The sum is taken below another number by one multiplication. -/
theorem part_rescale (t : ℕ → ℝ) (v : ℕ → EReal) (μ μ' : ℝ) (n : ℕ) :
    (((2 : ℝ) ^ (μ - μ') : ℝ) : EReal) * part t v μ n = part t v μ' n := by
  unfold part
  rw [mul_sum_of_nonneg _ _ (by positivity)]
  refine Finset.sum_congr rfl fun j _ => ?_
  rw [mul_left_comm, ← EReal.coe_mul, ← Real.rpow_add (by norm_num)]
  congr 3
  ring

theorem part_add (t : ℕ → ℝ) (v : ℕ → EReal) (μ : ℝ) (n n' : ℕ) :
    part t v μ (n + n') = part t v μ n + ∑ j : Fin n', v (n + j) * ((2 : ℝ) ^ (t (n + j) - μ) : ℝ) := by
  unfold part
  rw [Finset.sum_range_add, Fin.sum_univ_eq_sum_range (fun j => v (n + j) * (((2 : ℝ) ^ (t (n + j) - μ) : ℝ) : EReal))]

/-- The greatest of finitely many real numbers is a real number. -/
theorem fold_max_real {n : ℕ} (hn : 0 < n) (f : Fin n → EReal) (t : Fin n → ℝ) (h : ∀ j, f j = t j) :
    ∃ r : ℝ, (Finset.univ : Finset (Fin n)).fold max ⊥ f = r := by
  have h1 : (Finset.univ : Finset (Fin n)).fold max ⊥ f < ⊤ :=
    (Finset.fold_max_lt _).mpr ⟨bot_lt_top, fun j _ => by rw [h j]; exact EReal.coe_lt_top _⟩
  have h2 : ⊥ < (Finset.univ : Finset (Fin n)).fold max ⊥ f :=
    (Finset.lt_fold_max _).mpr (Or.inr ⟨⟨0, hn⟩, Finset.mem_univ _, by rw [h]; exact EReal.bot_lt_coe _⟩)
  exact ⟨_, (EReal.coe_toReal h1.ne h2.ne').symm⟩

theorem sum_coe {ι : Type} (s : Finset ι) (f : ι → ℝ) : (((∑ j ∈ s, f j : ℝ)) : EReal) = ∑ j ∈ s, (f j : EReal) := by
  classical
  induction s using Finset.induction_on with
  | empty => simp
  | insert a s ha ih => rw [Finset.sum_insert ha, Finset.sum_insert ha, EReal.coe_add, ih]

theorem div_of_pos (x : EReal) (y : ℝ) (hy : 0 < y) : Ideal.div x y = x * ((y⁻¹ : ℝ) : EReal) := by
  unfold Ideal.div
  rw [if_neg (by exact_mod_cast hy.ne'), EReal.coe_inv]

/-- The weighted sum over the sum of the weights, taken below any number and in base 2, is the softmax's weighted sum. -/
theorem part_div_part (σ : ℕ → ℝ) (v w : ℕ → EReal) (μ M : ℝ) (n : ℕ) (hn : 0 < n) (hw : ∀ j < n, w j = 1) :
    Ideal.div (part (fun j => σ j / Real.log 2) v μ n) (part (fun j => σ j / Real.log 2) w μ n)
      = ∑ j ∈ Finset.range n, Ideal.div (Real.exp (σ j - M) : ℝ) ((∑ i ∈ Finset.range n, Real.exp (σ i - M) : ℝ) : EReal) * v j := by
  have hl : Real.log 2 ≠ 0 := (Real.log_pos (by norm_num)).ne'
  have hne : (Finset.range n).Nonempty := ⟨0, Finset.mem_range.mpr hn⟩
  have e : ∀ j, (2 : ℝ) ^ (σ j / Real.log 2 - μ) = Real.exp (M - μ * Real.log 2) * Real.exp (σ j - M) := fun j => by
    rw [Real.rpow_def_of_pos (by norm_num), ← Real.exp_add]
    congr 1
    field_simp
    ring
  have hC : 0 < Real.exp (M - μ * Real.log 2) := Real.exp_pos _
  have hZ : 0 < ∑ i ∈ Finset.range n, Real.exp (σ i - M) := Finset.sum_pos (fun i _ => Real.exp_pos _) hne
  have hL : part (fun j => σ j / Real.log 2) w μ n
      = ((Real.exp (M - μ * Real.log 2) * ∑ i ∈ Finset.range n, Real.exp (σ i - M) : ℝ) : EReal) := by
    unfold part
    rw [Finset.mul_sum, sum_coe]
    refine Finset.sum_congr rfl fun j hj => ?_
    rw [hw j (Finset.mem_range.mp hj), one_mul, e]
  rw [hL, div_of_pos _ _ (mul_pos hC hZ), mul_comm]
  unfold part
  rw [mul_sum_of_nonneg _ _ (inv_nonneg.mpr (mul_pos hC hZ).le)]
  refine Finset.sum_congr rfl fun j _ => ?_
  rw [div_of_pos _ _ hZ, mul_left_comm, ← EReal.coe_mul, ← EReal.coe_mul, mul_comm, e]
  congr 2
  field_simp

end Cert.KernelIdeal.Attn

end
-- ==== Proof.Attn.Spec.lean ====
/-
# The attention, in real numbers

What both programs compute, written over the contents of the five arguments.
-/
module

public import proofs.«01_k».proof.Proof.Attn.Math
public import Idealize.ShloMosaic.Lib.IdealHost

@[expose] public section

noncomputable section

namespace Cert.Attn

open Idealize.ShloMosaic Cert.KernelIdeal.Attn

/-- Queries and latent keys; the context's keys; latent values; the context's values. -/
abbrev Q : Type := FVec Ideal (⟨4, ![2, 8192, 8, 96]⟩ : Shape) .f32
abbrev KC : Type := FVec Ideal (⟨4, ![2, 256, 8, 96]⟩ : Shape) .f32
abbrev VL : Type := FVec Ideal (⟨4, ![2, 8192, 8, 64]⟩ : Shape) .f32
abbrev VC : Type := FVec Ideal (⟨4, ![2, 256, 8, 64]⟩ : Shape) .f32

/-- The scale of the scores, about 96^(-1/2). -/
def scale : ℝ := (Ideal.ofBits .f32 0x3DD105EC#32).toReal

theorem scale_eq : Ideal.ofBits .f32 0x3DD105EC#32 = (scale : EReal) := by
  refine (EReal.coe_toReal ?_ ?_).symm <;> simp [Ideal.ofBits, Ideal.ieee, -EReal.coe_mul]

theorem two_eq : Ideal.ofBits .f32 0x40000000#32 = ((2 : ℝ) : EReal) := by
  simp [Ideal.ofBits, Ideal.ieee, -EReal.coe_mul]
  norm_num

theorem scale_over : Ideal.div (Ideal.ofBits .f32 0x3DD105EC#32) (Ideal.log (Ideal.ofBits .f32 0x40000000#32)) = ((scale / Real.log 2 : ℝ) : EReal) := by
  rw [scale_eq, two_eq, Ideal.log_coe, if_neg (by norm_num), div_of_pos _ _ (Real.log_pos one_lt_two), ← EReal.coe_mul, div_eq_mul_inv]

variable (q : Q) (kc : KC) (kl : Q) (vc : VC) (vl : VL)

/-- Key `j` of the 8448: the context's 256, then the latent ones. -/
def key (b : Fin 2) (h : Fin 8) (j : ℕ) (d : Fin 96) : EReal :=
  if hc : j < 256 then kc (ix4 b ⟨j, hc⟩ h d) else if hl : j - 256 < 8192 then kl (ix4 b ⟨j - 256, hl⟩ h d) else 0

/-- Value `j`, a one after its 64 entries. -/
def value (b : Fin 2) (h : Fin 8) (r : Fin 80) (j : ℕ) : EReal :=
  if hr : r.val < 64 then
    (if hc : j < 256 then vc (ix4 b ⟨j, hc⟩ h ⟨r, hr⟩) else if hl : j - 256 < 8192 then vl (ix4 b ⟨j - 256, hl⟩ h ⟨r, hr⟩) else 0)
  else if r.val = 64 then 1 else 0

/-- The score of query `i` against key `j`. -/
def score (b : Fin 2) (h : Fin 8) (i : Fin 8192) (j : ℕ) : ℝ :=
  (∑ d : Fin 96, EReal.toReal (q (ix4 b i h d)) * EReal.toReal (key kc kl b h j d)) * scale

/-- An array's entries are real numbers. -/
def Reals {s : Shape} (x : FVec Ideal s .f32) : Prop := ∀ i, ∃ r : ℝ, x i = (r : EReal)

variable {q kc kl}

theorem real_eq {s : Shape} {x : FVec Ideal s .f32} (hx : Reals x) (i : s.Idx) : x i = ((EReal.toReal (x i) : ℝ) : EReal) := by
  obtain ⟨r, hr⟩ := hx i
  rw [hr, EReal.toReal_coe]

theorem key_eq (hc : Reals kc) (hl : Reals kl) (b : Fin 2) (h : Fin 8) (j : ℕ) (d : Fin 96) :
    key kc kl b h j d = ((EReal.toReal (key kc kl b h j d) : ℝ) : EReal) := by
  unfold key
  split
  · exact real_eq hc _
  · split
    · exact real_eq hl _
    · simp

/-- The 96 products summed. -/
theorem score_eq (hq : Reals q) (hc : Reals kc) (hl : Reals kl) (b : Fin 2) (h : Fin 8) (i : Fin 8192) (j : ℕ) :
    (∑ d : Fin 96, (q (ix4 b i h d) : EReal) * key kc kl b h j d) * (scale : EReal) = (score q kc kl b h i j : EReal) := by
  have e : ∀ d : Fin 96, (q (ix4 b i h d) : EReal) * key kc kl b h j d
      = ((EReal.toReal (q (ix4 b i h d)) * EReal.toReal (key kc kl b h j d) : ℝ) : EReal) := fun d => by
    rw [EReal.coe_mul, ← key_eq hc hl, ← real_eq hq]
  simp only [e, ← sum_coe, ← EReal.coe_mul]
  rfl

/-- The 128 products of the padded rows summed, the query's scaled by `scale / log 2`. -/
theorem padded_score (hq : Reals q) (hc : Reals kc) (hl : Reals kl) (b : Fin 2) (h : Fin 8) (i : Fin 8192) (j : ℕ) (x y : Fin 128 → EReal)
    (hx : ∀ d : Fin 128, x d = if hd : d.val < 96 then key kc kl b h j ⟨d, hd⟩ else 0)
    (hy : ∀ d : Fin 128, y d = if hd : d.val < 96 then (q (ix4 b i h ⟨d, hd⟩) : EReal) * ((scale / Real.log 2 : ℝ) : EReal) else 0) :
    ∑ d : Fin 128, x d * y d = ((score q kc kl b h i j / Real.log 2 : ℝ) : EReal) := by
  have e : ∀ d : Fin 128, x d * y d = if hd : d.val < 96 then
      ((EReal.toReal (q (ix4 b i h ⟨d, hd⟩)) * EReal.toReal (key kc kl b h j ⟨d, hd⟩) * (scale / Real.log 2) : ℝ) : EReal) else 0 := fun d => by
    rw [hx, hy]
    split
    · rw [key_eq hc hl, real_eq hq, ← EReal.coe_mul, ← EReal.coe_mul, EReal.toReal_coe, EReal.toReal_coe]
      congr 1
      ring
    · rw [mul_zero]
  simp only [e]
  rw [show (128 : ℕ) = 96 + 32 from rfl, Fin.sum_univ_add]
  simp only [Fin.val_castAdd, Fin.val_natAdd, Fin.is_lt, dif_pos, Nat.not_lt.mpr (Nat.le_add_right 96 _), dif_neg, not_false_eq_true,
    Finset.sum_const_zero, add_zero, Fin.eta]
  rw [← sum_coe, ← Finset.sum_mul]
  unfold score
  congr 1
  ring

end Cert.Attn

end
-- ==== Proof.Attn.RefVal.lean ====
/-
# What the reference computes

Its result is the attention of Spec: the values weighted by the quotients of the scores' exponentials.
-/
module

public import proofs.«01_k».proof.Proof.Attn.RefReads
public import proofs.«01_k».proof.Proof.Gen.ReferenceIdeal.Run
public import proofs.«01_k».proof.Proof.Attn.Spec

@[expose] public section

set_option maxRecDepth 16384

noncomputable section

namespace Cert.ReferenceIdeal.Attn

open Cert.ReferenceIdeal Cert.ReferenceIdeal.Gen Idealize.ShloMosaic
open Idealize.SL.Sem Idealize.ShloMosaic.TcCoe
open Cert.Attn hiding Q KC VL VC

variable (q : FVec Ideal S2x8192x8x96 .f32) (kc : FVec Ideal S2x256x8x96 .f32) (vc : FVec Ideal S2x256x8x64 .f32)
  (kl : FVec Ideal S2x8192x8x96 .f32) (vl : FVec Ideal S2x8192x8x64 .f32)

/-- The reference's result, its steps named. -/
def result : FVec Ideal S2x8192x512 .bf16 :=
  weighted (quotients (exps (scores q (keys kc kl)) (greatest (scores q (keys kc kl))))) (vals vc vl)

theorem keys_eq (b : Fin 2) (j : Fin 8448) (h : Fin 8) (d : Fin 96) : keys kc kl (ix4 b j h d) = key kc kl b h j d := by
  rw [keys_apply]
  unfold key
  have hl : j.val - 256 < 8192 := by omega
  simp only [hl, dif_pos]

theorem vals_eq (b : Fin 2) (j : Fin 8448) (h : Fin 8) (d : Fin 64) :
    vals vc vl (ix4 b j h d) = value vc vl b h ⟨d, by omega⟩ j := by
  rw [vals_apply]
  unfold value
  have hl : j.val - 256 < 8192 := by omega
  simp only [hl, dif_pos, d.isLt]

variable {q kc kl}

theorem scores_eq (hq : Reals q) (hc : Reals kc) (hl : Reals kl) (b : Fin 2) (h : Fin 8) (i : Fin 8192) (j : Fin 8448) :
    scores q (keys kc kl) (ix4 b h i j) = (score q kc kl b h i j : EReal) := by
  rw [scores_apply, scale_eq]
  simp only [keys_eq]
  exact score_eq hq hc hl b h i j

theorem scores_real (hq : Reals q) (hc : Reals kc) (hl : Reals kl) (x : S2x8x8192x8448.Idx) :
    ∃ r : ℝ, scores q (keys kc kl) x = (r : EReal) :=
  ⟨_, (congrArg (scores q (keys kc kl)) (eq_ix4 x)).trans (scores_eq hq hc hl (x 0) (x 1) (x 2) (x 3))⟩

theorem exps_eq {s : FVec Ideal S2x8x8192x8448 .f32} {m : FVec Ideal S2x8x8192 .f32} (b : Fin 2) (h : Fin 8) (i : Fin 8192) (σ : ℕ → ℝ) (M : ℝ)
    (hs : ∀ j : Fin 8448, s (ix4 b h i j) = (σ j : EReal)) (hm : m (ix3 b h i) = (M : EReal)) (j : Fin 8448) :
    exps s m (ix4 b h i j) = ((Real.exp (σ j - M) : ℝ) : EReal) := by
  rw [exps_apply, hs, hm, ← EReal.coe_sub, Ideal.exp_coe]

theorem quotients_eq {e : FVec Ideal S2x8x8192x8448 .f32} (b : Fin 2) (h : Fin 8) (i : Fin 8192) (x : ℕ → ℝ)
    (he : ∀ j : Fin 8448, e (ix4 b h i j) = (x j : EReal)) (j : Fin 8448) :
    quotients e (ix4 b h i j) = Ideal.div (x j) ((∑ j ∈ Finset.range 8448, x j : ℝ) : EReal) := by
  rw [quotients_apply]
  simp only [he]
  rw [Fin.sum_univ_eq_sum_range (fun j => (x j : EReal)) 8448, Cert.KernelIdeal.Attn.sum_coe]

/-- The reference's result at query `i`, head `h`, entry `d`; `M` is the query's greatest score. -/
theorem result_apply (hq : Reals q) (hc : Reals kc) (hl : Reals kl) (b : Fin 2) (h : Fin 8) (i : Fin 8192) :
    ∃ M : ℝ, ∀ d : Fin 64, result q kc vc kl vl (ix3 b i ⟨64 * h + d, by omega⟩)
      = ∑ j ∈ Finset.range 8448, Ideal.div (Real.exp (score q kc kl b h i j - M) : ℝ)
          ((∑ j ∈ Finset.range 8448, Real.exp (score q kc kl b h i j - M) : ℝ) : EReal) * value vc vl b h ⟨d, by omega⟩ j := by
  obtain ⟨M, hM⟩ := greatest_real _ (scores_real hq hc hl) (ix3 b h i)
  refine ⟨M, fun d => ?_⟩
  have hp := quotients_eq b h i (fun j => Real.exp (score q kc kl b h i j - M)) (exps_eq b h i (score q kc kl b h i) M (scores_eq hq hc hl b h i) hM)
  unfold result
  rw [weighted_apply, ← Fin.sum_univ_eq_sum_range (fun j => Ideal.div (Real.exp (score q kc kl b h i j - M) : ℝ)
    ((∑ j ∈ Finset.range 8448, Real.exp (score q kc kl b h i j - M) : ℝ) : EReal) * value vc vl b h ⟨d, by omega⟩ j) 8448]
  refine Finset.sum_congr rfl fun j _ => ?_
  rw [hp j, vals_eq, mul_comm]

/-- The reference's run, its result by name. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19) = result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans rfl, (h c).2⟩) (Value.run m ρ)

end Cert.ReferenceIdeal.Attn

end
-- ==== Proof.Attn.Blocks.lean ====
/-
# Where the blocks lie

Grid point `t` takes batch entry `t / 32` and queries `256 · (t mod 32)` onwards.
-/
module

public import proofs.«01_k».proof.Proof.Attn.Run
public import Idealize.ShloMosaic.Lib.Pointwise
public import Idealize.ShloMosaic.Lib.Pipeline.ValueKit

@[expose] public section

set_option maxRecDepth 16384

noncomputable section

namespace Cert.KernelIdeal.Attn

open Cert.KernelIdeal Cert.KernelIdeal.Gen Idealize.ShloMosaic Idealize.ShloMosaic.TcCoe

theorem points : grid0.N = 64 := by decide

/-- The batch entry of point `t`. -/
def entryOf (t : Fin cfg0.N) : Fin 2 := ⟨t.val / 32, by have := t.isLt; have e : cfg0.N = 64 := points; omega⟩

/-- The query in row `i` of point `t`'s block. -/
def queryOf (t : Fin cfg0.N) (i : Fin 256) : Fin 8192 := ⟨256 * (t.val % 32) + i, by omega⟩

theorem at_0 : ∀ t : Fin grid0.N, win0_0.index t = ![t.val / 32, t.val % 32, 0] := by decide +kernel
theorem at_1 : ∀ t : Fin grid0.N, win0_1.index t = ![t.val / 32, 0, 0] := by decide +kernel
theorem at_2 : ∀ t : Fin grid0.N, win0_2.index t = ![t.val / 32, 0, 0] := by decide +kernel
theorem at_3 : ∀ t : Fin grid0.N, win0_3.index t = ![t.val / 32, 0, 0] := by decide +kernel
theorem at_4 : ∀ t : Fin grid0.N, win0_4.index t = ![t.val / 32, 0, 0] := by decide +kernel
theorem at_5 : ∀ t : Fin grid0.N, win0_5.index t = ![t.val / 32, t.val % 32, 0] := by decide +kernel

variable (m : (ℓ : Loc nD τ sig) → Buf (Elt Ideal) ℓ) (c : Dev nD) (t : Fin cfg0.N)

/-! Where each window's block places its entries. -/

theorem place_0 (i : Fin 256) (k : Fin 1024) : ((cfg0.win 0).blk t).view.emb (ix3 0 i k) = (ix3 (entryOf t) (queryOf t i) k : S2x8192x1024.Idx) := by
  blk_ext [at_0 t, entryOf, queryOf]

theorem place_1 (i : Fin 256) (k : Fin 1024) : ((cfg0.win 1).blk t).view.emb (ix3 0 i k) = (ix3 (entryOf t) i k : S2x256x1024.Idx) := by
  blk_ext [at_1 t, entryOf, queryOf]

theorem place_2 (r : Fin 640) (j : Fin 256) : ((cfg0.win 2).blk t).view.emb (ix3 0 r j) = (ix3 (entryOf t) r j : S2x640x256.Idx) := by
  blk_ext [at_2 t, entryOf, queryOf]

theorem place_3 (i : Fin 8192) (k : Fin 1024) : ((cfg0.win 3).blk t).view.emb (ix3 0 i k) = (ix3 (entryOf t) i k : S2x8192x1024.Idx) := by
  blk_ext [at_3 t, entryOf, queryOf]

theorem place_4 (r : Fin 640) (j : Fin 8192) : ((cfg0.win 4).blk t).view.emb (ix3 0 r j) = (ix3 (entryOf t) r j : S2x640x8192.Idx) := by
  blk_ext [at_4 t, entryOf, queryOf]

theorem place_5 (i : Fin 256) (k : Fin 512) : ((cfg0.win 5).blk t).view.emb (ix3 0 i k) = (ix3 (entryOf t) (queryOf t i) k : S2x8192x512.Idx) := by
  blk_ext [at_5 t, entryOf, queryOf]

/-! So the input blocks hold what the arrays hold there. -/

theorem read_0 (X : Vec Ideal S2x8192x1024 .bf16) (i : Fin 256) (k : Fin 1024) :
    (((cfg0.win 0).blk t).view.read (Elt Ideal) X : Vec Ideal S1x256x1024 .bf16) (ix3 0 i k) = X (ix3 (entryOf t) (queryOf t i) k) :=
  congrArg X (place_0 t i k)

theorem block_0 (i : Fin 256) (k : Fin 1024) :
    (iblk m c 0 t : Vec Ideal S1x256x1024 .bf16) (ix3 0 i k) = (V m c main_v7 : Vec Ideal S2x8192x1024 .bf16) (ix3 (entryOf t) (queryOf t i) k) :=
  read_0 t (V m c main_v7) i k

theorem read_1 (X : Vec Ideal S2x256x1024 .bf16) (i : Fin 256) (k : Fin 1024) :
    (((cfg0.win 1).blk t).view.read (Elt Ideal) X : Vec Ideal S1x256x1024 .bf16) (ix3 0 i k) = X (ix3 (entryOf t) i k) :=
  congrArg X (place_1 t i k)

theorem block_1 (i : Fin 256) (k : Fin 1024) :
    (iblk m c 1 t : Vec Ideal S1x256x1024 .bf16) (ix3 0 i k) = (V m c main_v11 : Vec Ideal S2x256x1024 .bf16) (ix3 (entryOf t) i k) :=
  read_1 t (V m c main_v11) i k

theorem read_2 (X : Vec Ideal S2x640x256 .bf16) (r : Fin 640) (j : Fin 256) :
    (((cfg0.win 2).blk t).view.read (Elt Ideal) X : Vec Ideal S1x640x256 .bf16) (ix3 0 r j) = X (ix3 (entryOf t) r j) :=
  congrArg X (place_2 t r j)

theorem block_2 (r : Fin 640) (j : Fin 256) :
    (iblk m c 2 t : Vec Ideal S1x640x256 .bf16) (ix3 0 r j) = (V m c main_v17 : Vec Ideal S2x640x256 .bf16) (ix3 (entryOf t) r j) :=
  read_2 t (V m c main_v17) r j

theorem read_3 (X : Vec Ideal S2x8192x1024 .bf16) (i : Fin 8192) (k : Fin 1024) :
    (((cfg0.win 3).blk t).view.read (Elt Ideal) X : Vec Ideal S1x8192x1024 .bf16) (ix3 0 i k) = X (ix3 (entryOf t) i k) :=
  congrArg X (place_3 t i k)

theorem block_3 (i : Fin 8192) (k : Fin 1024) :
    (iblk m c 3 t : Vec Ideal S1x8192x1024 .bf16) (ix3 0 i k) = (V m c main_v21 : Vec Ideal S2x8192x1024 .bf16) (ix3 (entryOf t) i k) :=
  read_3 t (V m c main_v21) i k

theorem read_4 (X : Vec Ideal S2x640x8192 .bf16) (r : Fin 640) (j : Fin 8192) :
    (((cfg0.win 4).blk t).view.read (Elt Ideal) X : Vec Ideal S1x640x8192 .bf16) (ix3 0 r j) = X (ix3 (entryOf t) r j) :=
  congrArg X (place_4 t r j)

theorem block_4 (r : Fin 640) (j : Fin 8192) :
    (iblk m c 4 t : Vec Ideal S1x640x8192 .bf16) (ix3 0 r j) = (V m c main_v27 : Vec Ideal S2x640x8192 .bf16) (ix3 (entryOf t) r j) :=
  read_4 t (V m c main_v27) r j

end Cert.KernelIdeal.Attn

end
-- ==== Proof.Attn.Merge.lean ====
/-
# Merging the two last axes of an array

A reshape that makes one axis of the last two, read at an entry, for any sizes.
-/
module

public import Idealize.ShloMosaic.Lib.Pointwise
public import Idealize.ShloMosaic.Lib.Pipeline.Value

@[expose] public section

namespace Cert.KernelIdeal.Attn

open Idealize.ShloMosaic

/-- Place `W·h + d` of the merged axis holds entry `d` of row `h`. -/
theorem merged_apply {α : Type} {B N H W T : ℕ} (x : (⟨4, ![B, N, H, W]⟩ : Shape).Idx → α)
    (c : (⟨4, ![B, N, H, W]⟩ : Shape).ShapeCasts ⟨3, ![B, N, T]⟩) (hT : T = H * W) (b : Fin B) (n : Fin N) (h : Fin H) (d : Fin W)
    (p : W * h.val + d.val < T) : shapeCast (⟨3, ![B, N, T]⟩ : Shape) x c (ix3 b n ⟨W * h.val + d.val, p⟩) = x (ix4 b n h d) := by
  refine shapeCast_apply x c _ _ ?_
  rw [rowMajor_val4 _ (N * (H * W)) (H * W) W rfl rfl rfl, rowMajor_val3 _ (N * T) T rfl rfl]
  subst hT
  show b.val * (N * (H * W)) + n.val * (H * W) + h.val * W + d.val = b.val * (N * (H * W)) + n.val * (H * W) + (W * h.val + d.val)
  ring

end Cert.KernelIdeal.Attn
-- ==== Proof.Attn.Host.lean ====
/-
# What the kernel's call is handed

The host pads the queries and keys of each head to 128 lanes, and lays the values out transposed, each head's 64 rows
followed by a row of ones and 15 rows of zeros.
-/
module

public import proofs.«01_k».proof.Proof.Gen.KernelIdeal
public import proofs.«01_k».proof.Proof.Gen.KernelIdeal.Frame
public import proofs.«01_k».proof.Proof.Attn.Merge
public import Idealize.ShloMosaic.Lib.Claim

@[expose] public section

set_option maxRecDepth 16384

noncomputable section

namespace Cert.KernelIdeal.Attn

open Cert.KernelIdeal Cert.KernelIdeal.Gen Idealize.ShloMosaic Idealize.ShloMosaic.TcCoe

/-- 32 lanes of zeros put after the 96 of each head. -/
def lanes (x : FVec Ideal S2x8192x8x96 .f32) : FVec Ideal S2x8192x8x128 .f32 :=
  concatenate S2x8192x8x128 3 [⟨S2x8192x8x96, x⟩, ⟨S2x8192x8x32,
    broadcastInDim S2x8192x8x32 ![] bcast_S_S2x8192x8x32 (constant S_ .f32 0x00000000#32)⟩]
    concatenates_S2x8192x8x96_S2x8192x8x32_S2x8192x8x128_d3

/-- The heads side by side. -/
def padded (x : FVec Ideal S2x8192x8x96 .f32) : FVec Ideal S2x8192x1024 .bf16 :=
  truncf .bf16 (shapeCast S2x8192x1024 (lanes x) shapeCasts_S2x8192x8x128_S2x8192x1024) bitsLt_bf16_f32

theorem lanes_apply (x : FVec Ideal S2x8192x8x96 .f32) (b : Fin 2) (i : Fin 8192) (h : Fin 8) (d : Fin 128) :
    lanes x (ix4 b i h d) = if hd : d.val < 96 then x (ix4 b i h ⟨d, hd⟩) else 0 := by
  pointwise [lanes]

theorem padded_read (x : FVec Ideal S2x8192x1024 .f32) (b : Fin 2) (i : Fin 8192) (r : Fin 1024) :
    truncf .bf16 x bitsLt_bf16_f32 (ix3 b i r) = x (ix3 b i r) := by
  pointwise []

theorem padded_apply (x : FVec Ideal S2x8192x8x96 .f32) (b : Fin 2) (i : Fin 8192) (h : Fin 8) (d : Fin 128) :
    padded x (ix3 b i ⟨128 * h + d, by omega⟩) = if hd : d.val < 96 then x (ix4 b i h ⟨d, hd⟩) else 0 :=
  (padded_read _ b i ⟨128 * h + d, by omega⟩).trans
    ((merged_apply (lanes x) shapeCasts_S2x8192x8x128_S2x8192x1024 rfl b i h d (by omega)).trans (lanes_apply x b i h d))

/-- 32 lanes of zeros put after the 96 of each head of the context. -/
def ctxLanes (x : FVec Ideal S2x256x8x96 .f32) : FVec Ideal S2x256x8x128 .f32 :=
  concatenate S2x256x8x128 3 [⟨S2x256x8x96, x⟩, ⟨S2x256x8x32,
    broadcastInDim S2x256x8x32 ![] bcast_S_S2x256x8x32 (constant S_ .f32 0x00000000#32)⟩]
    concatenates_S2x256x8x96_S2x256x8x32_S2x256x8x128_d3

/-- The heads side by side. -/
def ctxPadded (x : FVec Ideal S2x256x8x96 .f32) : FVec Ideal S2x256x1024 .bf16 :=
  truncf .bf16 (shapeCast S2x256x1024 (ctxLanes x) shapeCasts_S2x256x8x128_S2x256x1024) bitsLt_bf16_f32

theorem ctxLanes_apply (x : FVec Ideal S2x256x8x96 .f32) (b : Fin 2) (i : Fin 256) (h : Fin 8) (d : Fin 128) :
    ctxLanes x (ix4 b i h d) = if hd : d.val < 96 then x (ix4 b i h ⟨d, hd⟩) else 0 := by
  pointwise [ctxLanes]

theorem ctxPadded_read (x : FVec Ideal S2x256x1024 .f32) (b : Fin 2) (i : Fin 256) (r : Fin 1024) :
    truncf .bf16 x bitsLt_bf16_f32 (ix3 b i r) = x (ix3 b i r) := by
  pointwise []

theorem ctxPadded_apply (x : FVec Ideal S2x256x8x96 .f32) (b : Fin 2) (i : Fin 256) (h : Fin 8) (d : Fin 128) :
    ctxPadded x (ix3 b i ⟨128 * h + d, by omega⟩) = if hd : d.val < 96 then x (ix4 b i h ⟨d, hd⟩) else 0 :=
  (ctxPadded_read _ b i ⟨128 * h + d, by omega⟩).trans
    ((merged_apply (ctxLanes x) shapeCasts_S2x256x8x128_S2x256x1024 rfl b i h d (by omega)).trans (ctxLanes_apply x b i h d))

/-- The queries times the scale over the logarithm of 2. -/
def scaled (x : FVec Ideal S2x8192x8x96 .f32) : FVec Ideal S2x8192x8x96 .f32 :=
  mulf x (broadcastInDim S2x8192x8x96 ![] bcast_S_S2x8192x8x96
    (Host.divf (constant S_ .f32 0x3DD105EC#32) (Host.log (constant S_ .f32 0x40000000#32))))

theorem scaled_apply (x : FVec Ideal S2x8192x8x96 .f32) (b : Fin 2) (i : Fin 8192) (h : Fin 8) (d : Fin 96) :
    scaled x (ix4 b i h d) = x (ix4 b i h d) * Ideal.div (Ideal.ofBits .f32 0x3DD105EC#32) (Ideal.log (Ideal.ofBits .f32 0x40000000#32)) := by
  pointwise [scaled]

/-- The place after the values holds the one. -/
theorem one_at {n : ℕ} (f : n < 64 → EReal) :
    (if h : n < 64 then f h else if _h : n - 64 < 1 then (1 : EReal) else 0) = if h : n < 64 then f h else if n = 64 then 1 else 0 := by
  by_cases h₁ : n < 64
  · simp only [h₁, dif_pos]
  · have e : (n - 64 < 1) = (n = 64) := propext (by omega)
    simp only [h₁, e, dif_neg, not_false_eq_true, dite_eq_ite]

/-- A one and 15 zeros put after the 64 values of each head. -/
def onesAfter (x : FVec Ideal S2x8192x8x64 .f32) : FVec Ideal S2x8192x8x80 .f32 :=
  concatenate S2x8192x8x80 3 [⟨S2x8192x8x64, x⟩,
    ⟨S2x8192x8x1, broadcastInDim S2x8192x8x1 ![] bcast_S_S2x8192x8x1 (constant S_ .f32 0x3F800000#32)⟩,
    ⟨S2x8192x8x15, broadcastInDim S2x8192x8x15 ![] bcast_S_S2x8192x8x15 (constant S_ .f32 0x00000000#32)⟩]
    concatenates_S2x8192x8x64_S2x8192x8x1_S2x8192x8x15_S2x8192x8x80_d3

/-- The heads side by side, transposed. -/
def rows (x : FVec Ideal S2x8192x8x64 .f32) : FVec Ideal S2x640x8192 .bf16 :=
  truncf .bf16 (transpose S2x640x8192 [0, 2, 1] (shapeCast S2x8192x640 (onesAfter x) shapeCasts_S2x8192x8x80_S2x8192x640)
    transposes_S2x8192x640_S2x640x8192_0_2_1) bitsLt_bf16_f32

theorem onesAfter_apply (x : FVec Ideal S2x8192x8x64 .f32) (b : Fin 2) (i : Fin 8192) (h : Fin 8) (r : Fin 80) :
    onesAfter x (ix4 b i h r) = if hr : r.val < 64 then x (ix4 b i h ⟨r, hr⟩) else if r.val = 64 then 1 else 0 := by
  pointwise [onesAfter]
  exact one_at _

theorem rows_read (x : FVec Ideal S2x8192x640 .f32) (b : Fin 2) (i : Fin 8192) (r : Fin 640) :
    truncf .bf16 (transpose S2x640x8192 [0, 2, 1] x transposes_S2x8192x640_S2x640x8192_0_2_1) bitsLt_bf16_f32 (ix3 b r i)
      = x (ix3 b i r) := by
  pointwise []

theorem rows_apply (x : FVec Ideal S2x8192x8x64 .f32) (b : Fin 2) (i : Fin 8192) (h : Fin 8) (r : Fin 80) :
    rows x (ix3 b ⟨80 * h + r, by omega⟩ i) = if hr : r.val < 64 then x (ix4 b i h ⟨r, hr⟩) else if r.val = 64 then 1 else 0 :=
  (rows_read _ b i ⟨80 * h + r, by omega⟩).trans
    ((merged_apply (onesAfter x) shapeCasts_S2x8192x8x80_S2x8192x640 rfl b i h r (by omega)).trans (onesAfter_apply x b i h r))

/-- A one and 15 zeros put after the 64 values of each head of the context. -/
def ctxOnesAfter (x : FVec Ideal S2x256x8x64 .f32) : FVec Ideal S2x256x8x80 .f32 :=
  concatenate S2x256x8x80 3 [⟨S2x256x8x64, x⟩,
    ⟨S2x256x8x1, broadcastInDim S2x256x8x1 ![] bcast_S_S2x256x8x1 (constant S_ .f32 0x3F800000#32)⟩,
    ⟨S2x256x8x15, broadcastInDim S2x256x8x15 ![] bcast_S_S2x256x8x15 (constant S_ .f32 0x00000000#32)⟩]
    concatenates_S2x256x8x64_S2x256x8x1_S2x256x8x15_S2x256x8x80_d3

/-- The heads side by side, transposed. -/
def ctxRows (x : FVec Ideal S2x256x8x64 .f32) : FVec Ideal S2x640x256 .bf16 :=
  truncf .bf16 (transpose S2x640x256 [0, 2, 1] (shapeCast S2x256x640 (ctxOnesAfter x) shapeCasts_S2x256x8x80_S2x256x640)
    transposes_S2x256x640_S2x640x256_0_2_1) bitsLt_bf16_f32

theorem ctxOnesAfter_apply (x : FVec Ideal S2x256x8x64 .f32) (b : Fin 2) (i : Fin 256) (h : Fin 8) (r : Fin 80) :
    ctxOnesAfter x (ix4 b i h r) = if hr : r.val < 64 then x (ix4 b i h ⟨r, hr⟩) else if r.val = 64 then 1 else 0 := by
  pointwise [ctxOnesAfter]
  exact one_at _

theorem ctxRows_read (x : FVec Ideal S2x256x640 .f32) (b : Fin 2) (i : Fin 256) (r : Fin 640) :
    truncf .bf16 (transpose S2x640x256 [0, 2, 1] x transposes_S2x256x640_S2x640x256_0_2_1) bitsLt_bf16_f32 (ix3 b r i)
      = x (ix3 b i r) := by
  pointwise []

theorem ctxRows_apply (x : FVec Ideal S2x256x8x64 .f32) (b : Fin 2) (i : Fin 256) (h : Fin 8) (r : Fin 80) :
    ctxRows x (ix3 b ⟨80 * h + r, by omega⟩ i) = if hr : r.val < 64 then x (ix4 b i h ⟨r, hr⟩) else if r.val = 64 then 1 else 0 :=
  (ctxRows_read _ b i ⟨80 * h + r, by omega⟩).trans
    ((merged_apply (ctxOnesAfter x) shapeCasts_S2x256x8x80_S2x256x640 rfl b i h r (by omega)).trans (ctxOnesAfter_apply x b i h r))

variable (m : (ℓ : Loc nD τ sig) → Buf (Elt Ideal) ℓ) (c : Dev nD)

theorem entry_q : V m c main_v7 = padded (scaled (m ((c : Thread nD τ).loc main_arg0))) := by
  unfold padded lanes scaled
  unfold_abbrev_sides
  after_results_simp
  rfl

theorem entry_kc : V m c main_v11 = ctxPadded (m ((c : Thread nD τ).loc main_arg1)) := by
  unfold ctxPadded ctxLanes
  unfold_abbrev_sides
  after_results_simp
  rfl

theorem entry_vc : V m c main_v17 = ctxRows (m ((c : Thread nD τ).loc main_arg2)) := by
  unfold ctxRows ctxOnesAfter
  unfold_abbrev_sides
  after_results_simp
  rfl

theorem entry_k : V m c main_v21 = padded (m ((c : Thread nD τ).loc main_arg3)) := by
  unfold padded lanes
  unfold_abbrev_sides
  after_results_simp
  rfl

theorem entry_v : V m c main_v27 = rows (m ((c : Thread nD τ).loc main_arg4)) := by
  unfold rows onesAfter
  unfold_abbrev_sides
  after_results_simp
  rfl

end Cert.KernelIdeal.Attn

end
-- ==== Proof.Attn.Reads.lean ====
/-
# One head's operations, an element at a time

Over the extended reals each of `Head`'s operations is read at one index.
-/
module

public import proofs.«01_k».proof.Proof.Attn.Head
public import proofs.«01_k».proof.Proof.Gen.KernelIdeal
public import Idealize.ShloMosaic.Lib.Pointwise

@[expose] public section

set_option maxRecDepth 16384

noncomputable section

namespace Cert.KernelIdeal.Attn

open Idealize.ShloMosaic Idealize.ShloMosaic.TcCoe
open Gen

theorem score_apply (q : FVec Ideal S256x128 .bf16) (k : Vec Ideal S1x512x128 .bf16) (j : Fin 512) (i : Fin 256) :
    score q k (ix2 j i) = ∑ d : Fin 128, k (ix3 0 j d) * q (ix2 i d) := by
  pointwise [score]

theorem stored_apply (q : FVec Ideal S256x128 .bf16) (k : Vec Ideal S1x512x128 .bf16) (j : Fin 512) (i : Fin 256) :
    stored q k (ix2 j i) = score q k (ix2 j i) := by
  pointwise [stored]

theorem ctxScore_apply (q : FVec Ideal S256x128 .bf16) (k : Vec Ideal S1x256x128 .bf16) (j : Fin 256) (i : Fin 256) :
    ctxScore q k (ix2 j i) = ∑ d : Fin 128, k (ix3 0 j d) * q (ix2 i d) := by
  pointwise [ctxScore]

theorem ctxStored_apply (q : FVec Ideal S256x128 .bf16) (k : Vec Ideal S1x256x128 .bf16) (j : Fin 256) (i : Fin 256) :
    ctxStored q k (ix2 j i) = ctxScore q k (ix2 j i) := by
  pointwise [ctxStored]

/-- The pattern of minus infinity. -/
theorem ofBits_bot : Ideal.ofBits .f32 0xFF800000#32 = ⊥ := by
  simp [Ideal.ofBits, Ideal.ieee]

theorem top_apply (s : FVec Ideal S512x256 .f32) (i : Fin 256) :
    top s (ix2 0 i) = (Finset.univ : Finset (Fin 512)).fold max ⊥ fun j => s (ix2 j i) := by
  pointwise [top]
  rw [ofBits_bot]

theorem ctxTop_apply (s : FVec Ideal S256x256 .f32) (i : Fin 256) :
    ctxTop s (ix2 0 i) = (Finset.univ : Finset (Fin 256)).fold max ⊥ fun j => s (ix2 j i) := by
  pointwise [ctxTop]
  rw [ofBits_bot]

theorem weigh_apply (v : Vec Ideal S1x80x512 .bf16) (m : FVec Ideal S1x256 .f32) (s : FVec Ideal S512x256 .f32) (r : Fin 80) (i : Fin 256) :
    weigh v (weights m s) (ix2 r i) = ∑ j : Fin 512, v (ix3 0 r j) * Ideal.exp2 (s (ix2 j i) - m (ix2 0 i)) := by
  pointwise [weigh, weights]
  rfl

theorem ctxWeigh_apply (v : Vec Ideal S1x80x256 .bf16) (m : FVec Ideal S1x256 .f32) (s : FVec Ideal S256x256 .f32) (r : Fin 80) (i : Fin 256) :
    ctxWeigh m s v (ix2 r i) = ∑ j : Fin 256, v (ix3 0 r j) * Ideal.exp2 (s (ix2 j i) - m (ix2 0 i)) := by
  pointwise [ctxWeigh]
  rfl

theorem absorb_apply (m x : FVec Ideal S1x256 .f32) (a : FVec Ideal S80x256 .f32) (s : FVec Ideal S512x256 .f32)
    (v : Vec Ideal S1x80x512 .bf16) (r : Fin 80) (i : Fin 256) :
    absorb m x a s v (ix2 r i) = Ideal.exp2 (m (ix2 0 i) - max (m (ix2 0 i)) (x (ix2 0 i))) * a (ix2 r i)
      + ∑ j : Fin 512, v (ix3 0 r j) * Ideal.exp2 (s (ix2 j i) - max (m (ix2 0 i)) (x (ix2 0 i))) := by
  rw [absorb]
  pointwise [weigh_apply]
  rfl

theorem normed_apply (a : FVec Ideal S80x256 .f32) (d : Fin 64) (i : Fin 256) :
    normed a (ix2 d i) = Ideal.div (a (ix2 ⟨d, by omega⟩ i)) (a (ix2 64 i)) := by
  pointwise [normed]

theorem keyTile_apply (K : Vec Ideal S1x8192x1024 .bf16) (h : Fin 8) (j : ℕ) (hj : j < 16) (k : Fin 512) (d : Fin 128) :
    keyTile K h j (ix3 0 k d) = K (ix3 0 ⟨512 * j + k, by omega⟩ ⟨128 * h + d, by omega⟩) := by
  unfold keyTile
  rw [tile_apply K _ _ _ (fun a => by fin_cases a <;> simp <;> omega)]
  refine congrArg K (funext fun a => ?_)
  fin_cases a <;> rfl

theorem valTile_apply (W : Vec Ideal S1x640x8192 .bf16) (h : Fin 8) (j : ℕ) (hj : j < 16) (r : Fin 80) (k : Fin 512) :
    valTile W h j (ix3 0 r k) = W (ix3 0 ⟨80 * h + r, by omega⟩ ⟨512 * j + k, by omega⟩) := by
  unfold valTile
  rw [tile_apply W _ _ _ (fun a => by fin_cases a <;> simp <;> omega)]
  refine congrArg W (funext fun a => ?_)
  fin_cases a <;> rfl

theorem ctxKeys_apply (KC : Vec Ideal S1x256x1024 .bf16) (h : Fin 8) (k : Fin 256) (d : Fin 128) :
    ctxKeys KC h (ix3 0 k d) = KC (ix3 0 k ⟨128 * h + d, by omega⟩) := by
  unfold ctxKeys
  rw [tile_apply KC _ _ _ (fun a => by fin_cases a <;> simp <;> omega)]
  refine congrArg KC (funext fun a => ?_)
  fin_cases a <;> simp [ix3]

theorem ctxVals_apply (WC : Vec Ideal S1x640x256 .bf16) (h : Fin 8) (r : Fin 80) (k : Fin 256) :
    ctxVals WC h (ix3 0 r k) = WC (ix3 0 ⟨80 * h + r, by omega⟩ k) := by
  unfold ctxVals
  rw [tile_apply WC _ _ _ (fun a => by fin_cases a <;> simp <;> omega)]
  refine congrArg WC (funext fun a => ?_)
  fin_cases a <;> simp [ix3]

theorem query_apply (Q : Vec Ideal S1x256x1024 .bf16) (h : Fin 8) (i : Fin 256) (d : Fin 128) :
    query Q h (ix2 i d) = Q (ix3 0 i ⟨128 * h + d, by omega⟩) := by
  have e : query Q h (ix2 i d) = (tile Q ![0, 0, 128 * h] S1x256x128.size : Vec Ideal S1x256x128 .bf16) (ix3 0 i d) := by
    pointwise [query]
  rw [e, tile_apply Q _ _ _ (fun a => by fin_cases a <;> simp <;> omega)]
  refine congrArg Q (funext fun a => ?_)
  fin_cases a <;> simp [ix3]

theorem block_apply (Q : Vec Ideal S1x256x1024 .bf16) (KC : Vec Ideal S1x256x1024 .bf16) (WC : Vec Ideal S1x640x256 .bf16)
    (K : Vec Ideal S1x8192x1024 .bf16) (W : Vec Ideal S1x640x8192 .bf16) (i : Fin 256) (h : Fin 8) (d : Fin 64) :
    block Q KC WC K W (ix3 0 i ⟨64 * h + d, by omega⟩) = normed (total Q KC WC K W h) (ix2 d i) := by
  pointwise [block]
  obtain ⟨h, hh⟩ := h
  have hd := d.isLt
  interval_cases h <;>
    · repeat rw [dif_neg (by simp only; omega)]
      try rw [dif_pos (by simp only; omega)]
      refine congrArg (fun e => normed _ (ix2 e i)) (Fin.ext ?_)
      simp only
      omega

end Cert.KernelIdeal.Attn

end
-- ==== Proof.Attn.Lane.lean ====
/-
# One query of one head, chunk by chunk

For one query of a head the carried state is followed in the reals: its maximum is a real number `μ`, and its sums are
those of the values seen so far, each weighted by 2 to its score less `μ`.
-/
module

public import proofs.«01_k».proof.Proof.Attn.Reads
public import proofs.«01_k».proof.Proof.Attn.Math

@[expose] public section

set_option maxRecDepth 16384

noncomputable section

namespace Cert.KernelIdeal.Attn

open Idealize.ShloMosaic Idealize.ShloMosaic.TcCoe
open Gen

/-- The power of two that a score less a maximum gives. -/
theorem exp2_sub (x y : ℝ) : Ideal.exp2 ((x : EReal) - (y : EReal)) = (((2 : ℝ) ^ (x - y) : ℝ) : EReal) := by
  rw [← EReal.coe_sub]
  rfl

theorem max_coe (x y : ℝ) : max (x : EReal) (y : EReal) = ((max x y : ℝ) : EReal) :=
  (EReal.coe_strictMono.monotone.map_max).symm

variable (q : FVec Ideal S256x128 .bf16) (KC : Vec Ideal S1x256x1024 .bf16) (WC : Vec Ideal S1x640x256 .bf16)
  (K : Vec Ideal S1x8192x1024 .bf16) (W : Vec Ideal S1x640x8192 .bf16) (h : Fin 8) (i : Fin 256)
  (t : ℕ → ℝ) (v : Fin 80 → ℕ → EReal)

/-- Query `i`'s scores are the real numbers `t`, and the rows of values are `v`: the context's keys first, then the latent ones. -/
structure Lane : Prop where
  ctxScore : ∀ k : Fin 256, ctxScore q (ctxKeys KC h) (ix2 k i) = (t k : EReal)
  score : ∀ j < 16, ∀ k : Fin 512, score q (keyTile K h j) (ix2 k i) = (t (256 + 512 * j + k) : EReal)
  ctxVal : ∀ (r : Fin 80) (k : Fin 256), ctxVals WC h (ix3 0 r k) = v r k
  val : ∀ j < 16, ∀ (r : Fin 80) (k : Fin 512), valTile W h j (ix3 0 r k) = v r (256 + 512 * j + k)

/-- The state after `n` chunks, at query `i`. -/
def Good (n : ℕ) (s : St Ideal) : Prop :=
  ∃ μ : ℝ, s.m (ix2 0 i) = (μ : EReal) ∧ (n < 16 → ∃ x : ℝ, s.x (ix2 0 i) = (x : EReal))
    ∧ ∀ r : Fin 80, s.a (ix2 r i) = part t (v r) μ (256 + 512 * n)

variable {q KC WC K W h i t v}

theorem top_real (l : Lane q KC WC K W h i t v) (j : ℕ) (hj : j < 16) : ∃ x : ℝ, top (Attn.score q (keyTile K h j)) (ix2 0 i) = (x : EReal) := by
  rw [top_apply]
  exact fold_max_real (by norm_num) _ _ (l.score j hj)

theorem ctxTop_real (l : Lane q KC WC K W h i t v) : ∃ x : ℝ, ctxTop (Attn.ctxScore q (ctxKeys KC h)) (ix2 0 i) = (x : EReal) := by
  rw [ctxTop_apply]
  exact fold_max_real (by norm_num) _ _ l.ctxScore

/-- One chunk's weighted sum, once its maximum is a real number. -/
theorem weigh_part (l : Lane q KC WC K W h i t v) (j : ℕ) (hj : j < 16) (m : FVec Ideal S1x256 .f32) (μ : ℝ) (hm : m (ix2 0 i) = (μ : EReal)) (r : Fin 80) :
    part t (v r) μ (256 + 512 * j) + weigh (valTile W h j) (weights m (stored q (keyTile K h j))) (ix2 r i) = part t (v r) μ (256 + 512 * (j + 1)) := by
  rw [weigh_apply, show 256 + 512 * (j + 1) = (256 + 512 * j) + 512 by ring, part_add t (v r) μ (256 + 512 * j) 512]
  simp only [l.val j hj, stored_apply, l.score j hj, hm, exp2_sub]

theorem first_m (h : ℕ) : (first q KC WC K W h).m = top0 q KC K h := rfl
theorem first_x (h : ℕ) : (first q KC WC K W h).x = top (Attn.score q (keyTile K h 1)) := by dsimp only [first]
theorem first_a (h : ℕ) : (first q KC WC K W h).a = addf (ctxWeigh (top0 q KC K h) (ctxStored q (ctxKeys KC h)) (ctxVals WC h))
      (weigh (valTile W h 0) (weights (top0 q KC K h) (stored q (keyTile K h 0)))) := rfl
theorem step_m (h n : ℕ) (s : St Ideal) : (step q K W h n s).m = maximumf s.m s.x := rfl
theorem step_x (h n : ℕ) (s : St Ideal) : (step q K W h n s).x = top (Attn.score q (keyTile K h (n + 1))) := by dsimp only [step]
theorem step_a (h n : ℕ) (s : St Ideal) :
    (step q K W h n s).a = absorb s.m s.x s.a (stored q (keyTile K h n)) (valTile W h n) := rfl

theorem good_first (l : Lane q KC WC K W h i t v) : Good i t v 1 (first q KC WC K W h) := by
  obtain ⟨x0, h0⟩ := ctxTop_real l
  obtain ⟨x1, h1⟩ := top_real l 0 (by norm_num)
  have hm : top0 q KC K h (ix2 0 i) = ((max x0 x1 : ℝ) : EReal) := by
    rw [← max_coe, ← h0, ← h1]
    rfl
  unfold Good
  rw [first_m, first_x, first_a]
  refine ⟨max x0 x1, hm, fun _ => top_real l 1 (by norm_num), fun r => ?_⟩
  rw [← weigh_part l 0 (by norm_num) _ _ hm r]
  rw [addf_apply, Ideal.addf_def, ctxWeigh_apply, show 256 + 512 * 0 = 0 + 256 from rfl, part_add t (v r) _ 0 256]
  simp only [l.ctxVal, ctxStored_apply, l.ctxScore, hm, exp2_sub, Nat.zero_add]
  rw [show part t (v r) (max x0 x1) 0 = 0 from Finset.sum_range_zero _, zero_add]

theorem good_step (l : Lane q KC WC K W h i t v) (n : ℕ) (hn : n < 16) (s : St Ideal) (g : Good i t v n s) :
    Good i t v (n + 1) (step q K W h n s) := by
  obtain ⟨μ, hm, hx, ha⟩ := g
  obtain ⟨x, hx⟩ := hx hn
  have hm' : maximumf s.m s.x (ix2 0 i) = ((max μ x : ℝ) : EReal) := by
    rw [← max_coe, ← hm, ← hx]
    rfl
  unfold Good
  rw [step_m, step_x, step_a]
  refine ⟨max μ x, hm', fun h' => top_real l (n + 1) h', fun r => ?_⟩
  rw [← weigh_part l n hn _ _ hm' r, weigh_apply, absorb_apply, ha r, hm, hx, max_coe, exp2_sub, part_rescale, ← hm']

theorem good_steps (l : Lane q KC WC K W h i t v) (n : ℕ) (hn : n < 16) : Good i t v (1 + n) (steps q K W h 1 n (first q KC WC K W h)) := by
  induction n with
  | zero => exact good_first l
  | succ n ih => exact good_step l (1 + n) (by omega) _ (ih (by omega))

/-- The sums over all keys, at one query. -/
theorem total_part {Q : Vec Ideal S1x256x1024 .bf16} (l : Lane (query Q h) KC WC K W h i t v) :
    ∃ μ : ℝ, ∀ r : Fin 80, total Q KC WC K W h (ix2 r i) = part t (v r) μ 8448 := by
  obtain ⟨μ, -, -, ha⟩ := good_steps l 15 (by norm_num)
  exact ⟨μ, ha⟩

/-- The block's result at query `i`, lane `d` of head `h`: the softmax's weighted sum of the values. -/
theorem block_part {Q : Vec Ideal S1x256x1024 .bf16} (σ : ℕ → ℝ) (M : ℝ)
    (l : Lane (query Q h) KC WC K W h i (fun j => σ j / Real.log 2) v) (hv : ∀ j < 8448, v 64 j = 1) (d : Fin 64) :
    block Q KC WC K W (ix3 0 i ⟨64 * h + d, by omega⟩)
      = ∑ j ∈ Finset.range 8448, Ideal.div (Real.exp (σ j - M) : ℝ) ((∑ i ∈ Finset.range 8448, Real.exp (σ i - M) : ℝ) : EReal)
          * v ⟨d, by omega⟩ j := by
  obtain ⟨μ, ha⟩ := total_part l
  rw [block_apply, normed_apply, ha, ha]
  exact part_div_part σ _ _ μ M 8448 (by norm_num) hv

end Cert.KernelIdeal.Attn

end
-- ==== Proof.Attn.Result.lean ====
/-
# What the kernel computes

Its result array is the reference's: each grid point's block holds the attention of Spec at the point's queries.
-/
module

public import proofs.«01_k».proof.Proof.Attn.Blocks
public import proofs.«01_k».proof.Proof.Attn.Host
public import proofs.«01_k».proof.Proof.Attn.Lane
public import proofs.«01_k».proof.Proof.Attn.Reads
public import proofs.«01_k».proof.Proof.Attn.Spec

@[expose] public section

set_option maxRecDepth 16384

noncomputable section

namespace Cert.KernelIdeal.Attn

open Cert.KernelIdeal Cert.KernelIdeal.Gen Idealize.ShloMosaic Idealize.ShloMosaic.TcCoe
open Cert.Attn (Reals key value scale scale_over padded_score)

variable (m : (ℓ : Loc nD τ sig) → Buf (Elt Ideal) ℓ) (c : Dev nD) (t : Fin cfg0.N)

/-- The five arguments. -/
abbrev argQ : FVec Ideal S2x8192x8x96 .f32 := m ((c : Thread nD τ).loc main_arg0)
abbrev argKC : FVec Ideal S2x256x8x96 .f32 := m ((c : Thread nD τ).loc main_arg1)
abbrev argVC : FVec Ideal S2x256x8x64 .f32 := m ((c : Thread nD τ).loc main_arg2)
abbrev argK : FVec Ideal S2x8192x8x96 .f32 := m ((c : Thread nD τ).loc main_arg3)
abbrev argV : FVec Ideal S2x8192x8x64 .f32 := m ((c : Thread nD τ).loc main_arg4)

/-- The queries of point `t`. -/
theorem query_at (h : Fin 8) (i : Fin 256) (d : Fin 128) :
    query (iblk m c 0 t) h (ix2 i d) = if hd : d.val < 96 then
      (argQ m c (ix4 (entryOf t) (queryOf t i) h ⟨d, hd⟩) : EReal) * ((scale / Real.log 2 : ℝ) : EReal) else 0 := by
  rw [query_apply, block_0, entry_q, padded_apply]
  simp only [scaled_apply, scale_over]

theorem ctxKeys_at (h : Fin 8) (k : Fin 256) (d : Fin 128) :
    ctxKeys (iblk m c 1 t) h (ix3 0 k d) = if hd : d.val < 96 then key (argKC m c) (argK m c) (entryOf t) h k ⟨d, hd⟩ else 0 := by
  rw [ctxKeys_apply, block_1, entry_kc, ctxPadded_apply]
  simp only [key, k.isLt, dif_pos]

theorem keyTile_at (h : Fin 8) (j : ℕ) (hj : j < 16) (k : Fin 512) (d : Fin 128) :
    keyTile (iblk m c 3 t) h j (ix3 0 k d)
      = if hd : d.val < 96 then key (argKC m c) (argK m c) (entryOf t) h (256 + 512 * j + k) ⟨d, hd⟩ else 0 := by
  rw [keyTile_apply _ h j hj, block_3, entry_k, padded_apply]
  have h1 : ¬ 256 + 512 * j + k.val < 256 := by omega
  have h2 : 256 + 512 * j + k.val - 256 = 512 * j + k.val := by omega
  have h3 : 512 * j + k.val < 8192 := by omega
  simp only [key, h1, h2, h3, dif_pos, dif_neg, not_false_eq_true]

theorem ctxVals_at (h : Fin 8) (r : Fin 80) (k : Fin 256) :
    ctxVals (iblk m c 2 t) h (ix3 0 r k) = value (argVC m c) (argV m c) (entryOf t) h r k := by
  rw [ctxVals_apply, block_2, entry_vc, ctxRows_apply]
  simp only [value, k.isLt, dif_pos]

theorem valTile_at (h : Fin 8) (j : ℕ) (hj : j < 16) (r : Fin 80) (k : Fin 512) :
    valTile (iblk m c 4 t) h j (ix3 0 r k) = value (argVC m c) (argV m c) (entryOf t) h r (256 + 512 * j + k) := by
  rw [valTile_apply _ h j hj, block_4, entry_v, rows_apply]
  have h1 : ¬ 256 + 512 * j + k.val < 256 := by omega
  have h2 : 256 + 512 * j + k.val - 256 = 512 * j + k.val := by omega
  have h3 : 512 * j + k.val < 8192 := by omega
  simp only [value, h1, h2, h3, dif_pos, dif_neg, not_false_eq_true]

variable {m c}

/-- One query of one head, as the kernel meets it. -/
theorem lane (hq : Reals (argQ m c)) (hc : Reals (argKC m c)) (hl : Reals (argK m c)) (h : Fin 8) (i : Fin 256) :
    Lane (query (iblk m c 0 t) h) (iblk m c 1 t) (iblk m c 2 t) (iblk m c 3 t) (iblk m c 4 t) h i
      (fun j => Cert.Attn.score (argQ m c) (argKC m c) (argK m c) (entryOf t) h (queryOf t i) j / Real.log 2)
      (value (argVC m c) (argV m c) (entryOf t) h) where
  ctxScore k := by
    rw [ctxScore_apply]
    exact padded_score hq hc hl _ h _ k _ _ (ctxKeys_at m c t h k) (query_at m c t h i)
  score j hj k := by
    rw [score_apply]
    exact padded_score hq hc hl _ h _ _ _ _ (keyTile_at m c t h j hj k) (query_at m c t h i)
  ctxVal r k := ctxVals_at m c t h r k
  val j hj r k := valTile_at m c t h j hj r k

/-- Point `t`'s block at row `i`, head `h`, entry `d`, for any reals `M` subtracted from the scores. -/
theorem outAt_apply (hq : Reals (argQ m c)) (hc : Reals (argKC m c)) (hl : Reals (argK m c)) (h : Fin 8) (i : Fin 256) (d : Fin 64) (M : ℝ) :
    outAt m c t (ix3 0 i ⟨64 * h + d, by omega⟩) = ∑ j ∈ Finset.range 8448,
      Ideal.div (Real.exp (Cert.Attn.score (argQ m c) (argKC m c) (argK m c) (entryOf t) h (queryOf t i) j - M) : ℝ)
        ((∑ j ∈ Finset.range 8448, Real.exp (Cert.Attn.score (argQ m c) (argKC m c) (argK m c) (entryOf t) h (queryOf t i) j - M) : ℝ) : EReal)
        * value (argVC m c) (argV m c) (entryOf t) h ⟨d, by omega⟩ j :=
  block_part _ M (lane t hq hc hl h i) (fun j _ => by simp [value]) d

/-- The result array is `G` once `G` is the attention at every query. -/
theorem array_eq (hq : Reals (argQ m c)) (hc : Reals (argKC m c)) (hl : Reals (argK m c)) (G : FVec Ideal S2x8192x512 .bf16)
    (hG : ∀ (b : Fin 2) (h : Fin 8) (i : Fin 8192), ∃ M : ℝ, ∀ d : Fin 64, G (ix3 b i ⟨64 * h + d, by omega⟩)
      = ∑ j ∈ Finset.range 8448, Ideal.div (Real.exp (Cert.Attn.score (argQ m c) (argKC m c) (argK m c) b h i j - M) : ℝ)
          ((∑ j ∈ Finset.range 8448, Real.exp (Cert.Attn.score (argQ m c) (argKC m c) (argK m c) b h i j - M) : ℝ) : EReal)
          * value (argVC m c) (argV m c) b h ⟨d, by omega⟩ j) :
    (dats m 0 c).arrAt 5 cfg0.N = G := by
  have key : ∀ (t : Fin cfg0.N) (y : S1x256x512.Idx), outAt m c t y = G (((cfg0.win 5).blk t).view.emb y) := fun t y => by
    obtain ⟨i, k, rfl⟩ : ∃ (i : Fin 256) (k : Fin 512), y = ix3 0 i k :=
      ⟨y 1, y 2, (eq_ix3 y).trans (by congr 1; exact Subsingleton.elim _ _)⟩
    rw [place_5]
    obtain ⟨M, hM⟩ := hG (entryOf t) ⟨k.val / 64, by omega⟩ (queryOf t i)
    have hk : k = ⟨64 * (k.val / 64) + k.val % 64, by omega⟩ := Fin.ext (Nat.div_add_mod _ _).symm
    rw [hk]
    exact (outAt_apply t hq hc hl ⟨k.val / 64, by omega⟩ i ⟨k.val % 64, by omega⟩ M).trans (hM ⟨k.val % 64, by omega⟩).symm
  refine (dats m 0 c).arrAt_eq_of_covers 5 _ (by decide +kernel) fun t hf y => ?_
  blk_simp
  rw [after_5]
  exact key t y

end Cert.KernelIdeal.Attn

end
-- ==== Proof.Mlp.Framed.lean ====
/-
# The MLP's frame, over any float values
-/
module

public import proofs.«01_k».proof.Proof.Gen.Kernel2Ideal.Frame

@[expose] public section

noncomputable section

namespace Cert.Kernel2Ideal.Mlp

open Cert.Kernel2Ideal Cert.Kernel2Ideal.Gen Idealize.ShloMosaic Idealize.ShloMosaic.TcCoe Idealize.SL.Sem

variable {F : FTy → Type} [FloatOps F] (m : (ℓ : Loc nD τ sig) → Buf (Elt F) ℓ) (ρ : Dev nD → PrngReg)

/-- The program runs, leaves its arguments as they were, and leaves every semaphore at zero. -/
def Framed : Prop :=
  θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)

theorem run_frame : Framed m ρ := Cert.Kernel2Ideal.Gen.frame m ρ

end Cert.Kernel2Ideal.Mlp

end
-- ==== Proof.Mlp.Spec.lean ====
/-
# The squared-relu MLP of one row

A row of 1024 numbers is normed by the root of its mean square, scaled and shifted, sent through 4096 squared rectified
sums, and added back behind a gate; the sum is normed once more.
-/
module

public import Idealize.ShloMosaic.Lib.Pointwise

@[expose] public section

noncomputable section

namespace Cert.Mlp

open Idealize.ShloMosaic

/-- One over the root of the row's mean square plus a small number. -/
def inv (x : Fin 1024 → EReal) : EReal :=
  Ideal.rsqrt (Ideal.div (∑ k : Fin 1024, x k * x k) (Ideal.ofBits .f32 0x44800000#32) + Ideal.ofBits .f32 0x358637BD#32)

/-- The row normed with gains `g`, scaled by `1 + sc` and shifted by `sh`. -/
def normed (x g sc sh : Fin 1024 → EReal) (k : Fin 1024) : EReal :=
  x k * inv x * g k * (Ideal.ofBits .f32 0x3F800000#32 + sc k) + sh k

/-- What a hidden unit with weights `w` adds where its outgoing weight is `u`. -/
def unit (y w : Fin 1024 → EReal) (u : EReal) : EReal :=
  max (∑ l : Fin 1024, y l * w l) 0 * max (∑ l : Fin 1024, y l * w l) 0 * u

/-- The row with the MLP's output `a` added behind the gate `g2`. -/
def added (x g2 a : Fin 1024 → EReal) (k : Fin 1024) : EReal := x k + g2 k * a k

/-- A row normed with gains `fg`. -/
def final (y fg : Fin 1024 → EReal) (k : Fin 1024) : EReal := y k * inv y * fg k

/-- A sum over 4096 units is the sum of its four quarters, taken in turn from zero. -/
theorem quarters (f : Fin 4096 → EReal) :
    (((0 + ∑ j : Fin 1024, f ⟨1024 * 0 + j, by omega⟩) + ∑ j : Fin 1024, f ⟨1024 * 1 + j, by omega⟩)
      + ∑ j : Fin 1024, f ⟨1024 * 2 + j, by omega⟩) + ∑ j : Fin 1024, f ⟨1024 * 3 + j, by omega⟩ = ∑ j : Fin 4096, f j := by
  have h : ∑ j : Fin 4096, f j = ∑ q : Fin 4, ∑ j : Fin 1024, f ⟨1024 * q + j, by omega⟩ := by
    rw [← Fintype.sum_prod_type']
    refine (Fintype.sum_equiv (finProdFinEquiv : Fin 4 × Fin 1024 ≃ Fin (4 * 1024)) _ f fun x => ?_).symm
    exact congrArg f (Fin.ext (by simp [finProdFinEquiv]; omega))
  rw [h, Fin.sum_univ_four, zero_add]
  rfl

end Cert.Mlp

end
-- ==== Proof.Mlp.RefReads.lean ====
/-
# The reference's operations, an element at a time
-/
module

public import proofs.«01_k».proof.Proof.Gen.Reference2Ideal
public import proofs.«01_k».proof.Proof.Mlp.Spec

@[expose] public section

set_option maxRecDepth 16384

noncomputable section

namespace Cert.Reference2Ideal.Mlp

open Cert.Reference2Ideal Cert.Reference2Ideal.Gen Idealize.ShloMosaic
open Cert.Mlp (inv)

/-- Every row over the root of its mean square. -/
def rooted (x : FVec Ideal S2x8192x1024 .f32) : FVec Ideal S2x8192x1024 .f32 :=
  mulf x (broadcastInDim S2x8192x1024 ![0, 1, 2] bcast_S2x8192x1_S2x8192x1024_0_1_2 (Host.rsqrt (addf (Host.divf
    (broadcastInDim S2x8192x1 ![0, 1] bcast_S2x8192_S2x8192x1_0_1
      (Host.reduceAdd (mulf x x) (constant S_ .f32 0x00000000#32) reducesTo_S2x8192x1024_S2x8192_d2 h_S_))
    (broadcastInDim S2x8192x1 ![] bcast_S_S2x8192x1 (constant S_ .f32 0x44800000#32)))
    (broadcastInDim S2x8192x1 ![] bcast_S_S2x8192x1 (constant S_ .f32 0x358637BD#32)))))

/-- The last layer's gains on the rows `x`. -/
def gained (x : FVec Ideal S2x8192x1024 .f32) (n : FVec Ideal S4x1024 .f32) : FVec Ideal S2x8192x1024 .f32 :=
  mulf x (broadcastInDim S2x8192x1024 ![0, 1, 2] bcast_S1x1x1024_S2x8192x1024_0_1_2
    (broadcastInDim S1x1x1024 ![2] bcast_S1024_S1x1x1024_2
      (shapeCast _ (extractStridedSlice S1x1024 ![3, 0] n slices_S4x1024_S1x1024_3_0) shapeCasts_S1x1024_S1024)))

/-- The modulation, with an axis added. -/
def modulation (s : FVec Ideal S2x6144 .f32) : FVec Ideal S2x1x6144 .f32 :=
  broadcastInDim S2x1x6144 ![0, 2] bcast_S2x6144_S2x1x6144_0_2 s

/-- The rows `x` scaled and shifted by the modulation. -/
def moved (x : FVec Ideal S2x8192x1024 .f32) (s : FVec Ideal S2x1x6144 .f32) : FVec Ideal S2x8192x1024 .f32 :=
  addf (mulf x (broadcastInDim S2x8192x1024 ![0, 1, 2] bcast_S2x1x1024_S2x8192x1024_0_1_2
      (addf (broadcastInDim S2x1x1024 ![] bcast_S_S2x1x1024 (constant S_ .f32 0x3F800000#32))
        (extractStridedSlice S2x1x1024 ![0, 0, 4096] s slices_S2x1x6144_S2x1x1024_0_0_4096))))
    (broadcastInDim S2x8192x1024 ![0, 1, 2] bcast_S2x1x1024_S2x8192x1024_0_1_2
      (extractStridedSlice S2x1x1024 ![0, 0, 3072] s slices_S2x1x6144_S2x1x1024_0_0_3072))

/-- The last layer's weights into the hidden units. -/
def into (w : FVec Ideal S4x1024x4096 .f32) : FVec Ideal S1024x4096 .f32 :=
  shapeCast _ (extractStridedSlice S1x1024x4096 ![3, 0, 0] w slices_S4x1024x4096_S1x1024x4096_3_0_0) shapeCasts_S1x1024x4096_S1024x4096

/-- The last layer's weights out of the hidden units. -/
def outOf (u : FVec Ideal S4x4096x1024 .f32) : FVec Ideal S4096x1024 .f32 :=
  shapeCast _ (extractStridedSlice S1x4096x1024 ![3, 0, 0] u slices_S4x4096x1024_S1x4096x1024_3_0_0) shapeCasts_S1x4096x1024_S4096x1024

/-- The hidden units' rectified sums. -/
def hidden (y : FVec Ideal S2x8192x1024 .f32) (w : FVec Ideal S1024x4096 .f32) : FVec Ideal S2x8192x4096 .f32 :=
  maximumf (Host.dotGeneral dot_S2x8192x1024_S1024x4096_S2x8192x4096_2_0_01_1_n_n none y w)
    (broadcastInDim S2x8192x4096 ![] bcast_S_S2x8192x4096 (constant S_ .f32 0x00000000#32))

/-- The squares of `a` through the outgoing weights. -/
def squared (a : FVec Ideal S2x8192x4096 .f32) (u : FVec Ideal S4096x1024 .f32) : FVec Ideal S2x8192x1024 .f32 :=
  Host.dotGeneral dot_S2x8192x4096_S4096x1024_S2x8192x1024_2_0_01_1_n_n none (mulf a a) u

/-- `a` added to the rows `x` behind the modulation's gate. -/
def gated (x a : FVec Ideal S2x8192x1024 .f32) (s : FVec Ideal S2x1x6144 .f32) : FVec Ideal S2x8192x1024 .f32 :=
  addf x (mulf (broadcastInDim S2x8192x1024 ![0, 1, 2] bcast_S2x1x1024_S2x8192x1024_0_1_2
    (extractStridedSlice S2x1x1024 ![0, 0, 5120] s slices_S2x1x6144_S2x1x1024_0_0_5120)) a)

/-- The last gains on the rows `x`. -/
def finished (x : FVec Ideal S2x8192x1024 .f32) (f : FVec Ideal S1024 .f32) : FVec Ideal S2x8192x1024 .f32 :=
  mulf x (broadcastInDim S2x8192x1024 ![0, 1, 2] bcast_S1x1x1024_S2x8192x1024_0_1_2
    (broadcastInDim S1x1x1024 ![2] bcast_S1024_S1x1x1024_2 f))

theorem rooted_apply (x : FVec Ideal S2x8192x1024 .f32) (b : Fin 2) (i : Fin 8192) (k : Fin 1024) :
    rooted x (ix3 b i k) = x (ix3 b i k) * inv fun k => x (ix3 b i k) := by
  pointwise [rooted, Cert.Mlp.inv]

theorem gained_apply (x : FVec Ideal S2x8192x1024 .f32) (n : FVec Ideal S4x1024 .f32) (b : Fin 2) (i : Fin 8192) (k : Fin 1024) :
    gained x n (ix3 b i k) = x (ix3 b i k) * n (ix2 3 k) := by
  pointwise [gained]

theorem modulation_apply (s : FVec Ideal S2x6144 .f32) (b : Fin 2) (k : Fin 6144) : modulation s (ix3 b 0 k) = s (ix2 b k) := by
  pointwise [modulation]

theorem moved_apply (x : FVec Ideal S2x8192x1024 .f32) (s : FVec Ideal S2x1x6144 .f32) (b : Fin 2) (i : Fin 8192) (k : Fin 1024) :
    moved x s (ix3 b i k) = x (ix3 b i k) * (Ideal.ofBits .f32 0x3F800000#32 + s (ix3 b 0 ⟨4096 + k, by omega⟩))
      + s (ix3 b 0 ⟨3072 + k, by omega⟩) := by
  pointwise [moved]

theorem into_apply (w : FVec Ideal S4x1024x4096 .f32) (l : Fin 1024) (j : Fin 4096) : into w (ix2 l j) = w (ix3 3 l j) := by
  pointwise [into]

theorem outOf_apply (u : FVec Ideal S4x4096x1024 .f32) (j : Fin 4096) (k : Fin 1024) : outOf u (ix2 j k) = u (ix3 3 j k) := by
  pointwise [outOf]

theorem hidden_apply (y : FVec Ideal S2x8192x1024 .f32) (w : FVec Ideal S1024x4096 .f32) (b : Fin 2) (i : Fin 8192) (j : Fin 4096) :
    hidden y w (ix3 b i j) = max (∑ l : Fin 1024, y (ix3 b i l) * w (ix2 l j)) 0 := by
  pointwise [hidden]

theorem squared_apply (a : FVec Ideal S2x8192x4096 .f32) (u : FVec Ideal S4096x1024 .f32) (b : Fin 2) (i : Fin 8192) (k : Fin 1024) :
    squared a u (ix3 b i k) = ∑ j : Fin 4096, a (ix3 b i j) * a (ix3 b i j) * u (ix2 j k) := by
  pointwise [squared]

theorem gated_apply (x a : FVec Ideal S2x8192x1024 .f32) (s : FVec Ideal S2x1x6144 .f32) (b : Fin 2) (i : Fin 8192) (k : Fin 1024) :
    gated x a s (ix3 b i k) = x (ix3 b i k) + s (ix3 b 0 ⟨5120 + k, by omega⟩) * a (ix3 b i k) := by
  pointwise [gated]

theorem finished_apply (x : FVec Ideal S2x8192x1024 .f32) (f : FVec Ideal S1024 .f32) (b : Fin 2) (i : Fin 8192) (k : Fin 1024) :
    finished x f (ix3 b i k) = x (ix3 b i k) * f (ix1 k) := by
  pointwise [finished]

end Cert.Reference2Ideal.Mlp

end
-- ==== Proof.Mlp.RefVal.lean ====
/-
# What the reference computes

Its result is the MLP of Spec at every row.
-/
module

public import proofs.«01_k».proof.Proof.Mlp.RefReads
public import proofs.«01_k».proof.Proof.Gen.Reference2Ideal.Run

@[expose] public section

set_option maxRecDepth 16384

noncomputable section

namespace Cert.Reference2Ideal.Mlp

open Cert.Reference2Ideal Cert.Reference2Ideal.Gen Idealize.ShloMosaic
open Idealize.SL.Sem Idealize.ShloMosaic.TcCoe
open Cert.Mlp (inv normed unit added final)

variable (x : FVec Ideal S2x8192x1024 .f32) (s : FVec Ideal S2x6144 .f32) (n : FVec Ideal S4x1024 .f32)
  (w : FVec Ideal S4x1024x4096 .f32) (u : FVec Ideal S4x4096x1024 .f32) (f : FVec Ideal S1024 .f32)

/-- The hidden units' rectified sums, from the arguments. -/
def units : FVec Ideal S2x8192x4096 .f32 := hidden (moved (gained (rooted x) n) (modulation s)) (into w)

/-- The rows with the MLP's output added. -/
def total : FVec Ideal S2x8192x1024 .f32 := gated x (squared (units x s n w) (outOf u)) (modulation s)

/-- The reference's result, its steps named. -/
def result : FVec Ideal S2x8192x1024 .f32 := finished (rooted (total x s n w u)) f

/-- Row `i` normed. -/
def rowOf (b : Fin 2) (i : Fin 8192) : Fin 1024 → EReal :=
  normed (fun k => x (ix3 b i k)) (fun k => n (ix2 3 k)) (fun k => s (ix2 b ⟨4096 + k, by omega⟩)) (fun k => s (ix2 b ⟨3072 + k, by omega⟩))

/-- Row `i` with the MLP's output added. -/
def totalOf (b : Fin 2) (i : Fin 8192) : Fin 1024 → EReal :=
  added (fun k => x (ix3 b i k)) (fun k => s (ix2 b ⟨5120 + k, by omega⟩))
    fun k => ∑ j : Fin 4096, unit (rowOf x s n b i) (fun l => w (ix3 3 l j)) (u (ix3 3 j k))

theorem units_apply (b : Fin 2) (i : Fin 8192) (j : Fin 4096) :
    units x s n w (ix3 b i j) = max (∑ l : Fin 1024, rowOf x s n b i l * w (ix3 3 l j)) 0 := by
  unfold units
  rw [hidden_apply]
  simp only [moved_apply, gained_apply, rooted_apply, modulation_apply, into_apply]
  rfl

theorem total_apply (b : Fin 2) (i : Fin 8192) (k : Fin 1024) : total x s n w u (ix3 b i k) = totalOf x s n w u b i k := by
  unfold total
  rw [gated_apply, squared_apply]
  simp only [units_apply, modulation_apply, outOf_apply]
  rfl

theorem result_apply (b : Fin 2) (i : Fin 8192) (k : Fin 1024) :
    result x s n w u f (ix3 b i k) = final (totalOf x s n w u b i) (fun k => f (ix1 k)) k := by
  unfold result
  rw [finished_apply, rooted_apply]
  simp only [total_apply]
  rfl

/-- The reference's run, its result by name. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v51) = result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans rfl, (h c).2⟩) (Value.run m ρ)

end Cert.Reference2Ideal.Mlp

end
-- ==== Proof.Mlp.Blocks.lean ====
/-
# Where the blocks lie

Grid point `t` takes batch entry `t / 32`, rows `1024 · (t / 4 mod 8)` onwards, and hidden units `1024 · (t mod 4)` onwards.
-/
module

public import proofs.«01_k».proof.Proof.Gen.Kernel2Ideal.Frame
public import Idealize.ShloMosaic.Lib.Claim
public import Idealize.ShloMosaic.Lib.Pointwise
public import Idealize.ShloMosaic.Lib.Pipeline.ValueKit

@[expose] public section

set_option maxRecDepth 16384

noncomputable section

namespace Cert.Kernel2Ideal.Mlp

open Cert.Kernel2Ideal Cert.Kernel2Ideal.Gen Idealize.ShloMosaic Idealize.ShloMosaic.TcCoe

theorem points : grid0.N = 64 := by decide

/-- The batch entry of point `t`. -/
def entryOf (t : Fin cfg0.N) : Fin 2 := ⟨t.val / 32, by have := t.isLt; have e : cfg0.N = 64 := points; omega⟩

/-- Row `i` of point `t`'s block. -/
def rowOf (t : Fin cfg0.N) (i : Fin 1024) : Fin 8192 := ⟨1024 * (t.val / 4 % 8) + i, by omega⟩

/-- Hidden unit `j` of point `t`'s chunk. -/
def unitOf (t : Fin cfg0.N) (j : Fin 1024) : Fin 4096 := ⟨1024 * (t.val % 4) + j, by omega⟩

/-- Entry `k` of part `p` of the modulation. -/
def partOf (p : Fin 6) (k : Fin 1024) : Fin 6144 := ⟨1024 * p + k, by omega⟩

theorem at_0 : ∀ t : Fin grid0.N, win0_0.index t = ![t.val / 32, t.val / 4 % 8, 0] := by decide +kernel
theorem at_1 : ∀ t : Fin grid0.N, win0_1.index t = ![t.val / 32, 0, 3] := by decide +kernel
theorem at_2 : ∀ t : Fin grid0.N, win0_2.index t = ![t.val / 32, 0, 4] := by decide +kernel
theorem at_3 : ∀ t : Fin grid0.N, win0_3.index t = ![t.val / 32, 0, 5] := by decide +kernel
theorem at_4 : ∀ t : Fin grid0.N, win0_4.index t = ![3, 0, 0] := by decide +kernel
theorem at_5 : ∀ t : Fin grid0.N, win0_5.index t = ![0, 0, 0] := by decide +kernel
theorem at_6 : ∀ t : Fin grid0.N, win0_6.index t = ![3, 0, t.val % 4] := by decide +kernel
theorem at_7 : ∀ t : Fin grid0.N, win0_7.index t = ![3, t.val % 4, 0] := by decide +kernel
theorem at_8 : ∀ t : Fin grid0.N, win0_8.index t = ![t.val / 32, t.val / 4 % 8, 0] := by decide +kernel

variable (m : (ℓ : Loc nD τ sig) → Buf (Elt Ideal) ℓ) (c : Dev nD) (t : Fin cfg0.N)

/-! Where each window's block places its entries. -/

theorem place_0 (i k : Fin 1024) : ((cfg0.win 0).blk t).view.emb (ix3 0 i k) = (ix3 (entryOf t) (rowOf t i) k : S2x8192x1024.Idx) := by
  blk_ext [at_0 t, entryOf, rowOf]

theorem place_1 (k : Fin 1024) : ((cfg0.win 1).blk t).view.emb (ix3 0 0 k) = (ix3 (entryOf t) 0 (partOf 3 k) : S2x1x6144.Idx) := by
  blk_ext [at_1 t, entryOf, partOf]

theorem place_2 (k : Fin 1024) : ((cfg0.win 2).blk t).view.emb (ix3 0 0 k) = (ix3 (entryOf t) 0 (partOf 4 k) : S2x1x6144.Idx) := by
  blk_ext [at_2 t, entryOf, partOf]

theorem place_3 (k : Fin 1024) : ((cfg0.win 3).blk t).view.emb (ix3 0 0 k) = (ix3 (entryOf t) 0 (partOf 5 k) : S2x1x6144.Idx) := by
  blk_ext [at_3 t, entryOf, partOf]

theorem place_4 (k : Fin 1024) : ((cfg0.win 4).blk t).view.emb (ix3 0 0 k) = (ix3 3 0 k : S4x1x1024.Idx) := by
  blk_ext [at_4 t]

theorem place_5 (k : Fin 1024) : ((cfg0.win 5).blk t).view.emb (ix3 0 0 k) = (ix3 0 0 k : S1x1x1024.Idx) := by
  blk_ext [at_5 t]

theorem place_6 (l j : Fin 1024) : ((cfg0.win 6).blk t).view.emb (ix3 0 l j) = (ix3 3 l (unitOf t j) : S4x1024x4096.Idx) := by
  blk_ext [at_6 t, unitOf]

theorem place_7 (j k : Fin 1024) : ((cfg0.win 7).blk t).view.emb (ix3 0 j k) = (ix3 3 (unitOf t j) k : S4x4096x1024.Idx) := by
  blk_ext [at_7 t, unitOf]

theorem place_8 (i k : Fin 1024) : ((cfg0.win 8).blk t).view.emb (ix3 0 i k) = (ix3 (entryOf t) (rowOf t i) k : S2x8192x1024.Idx) := by
  blk_ext [at_8 t, entryOf, rowOf]

/-! So the input blocks hold what the arrays hold there. -/

theorem read_0 (X : Vec Ideal S2x8192x1024 .f32) (i k : Fin 1024) :
    (((cfg0.win 0).blk t).view.read (Elt Ideal) X : Vec Ideal S1x1024x1024 .f32) (ix3 0 i k) = X (ix3 (entryOf t) (rowOf t i) k) :=
  congrArg X (place_0 t i k)

theorem block_0 (i k : Fin 1024) :
    (iblk m c 0 t : Vec Ideal S1x1024x1024 .f32) (ix3 0 i k) = (V m c main_arg0 : Vec Ideal S2x8192x1024 .f32) (ix3 (entryOf t) (rowOf t i) k) :=
  read_0 t (V m c main_arg0) i k

theorem read_1 (X : Vec Ideal S2x1x6144 .f32) (k : Fin 1024) :
    (((cfg0.win 1).blk t).view.read (Elt Ideal) X : Vec Ideal S1x1x1024 .f32) (ix3 0 0 k) = X (ix3 (entryOf t) 0 (partOf 3 k)) :=
  congrArg X (place_1 t k)

theorem block_1 (k : Fin 1024) :
    (iblk m c 1 t : Vec Ideal S1x1x1024 .f32) (ix3 0 0 k) = (V m c main_v4 : Vec Ideal S2x1x6144 .f32) (ix3 (entryOf t) 0 (partOf 3 k)) :=
  read_1 t (V m c main_v4) k

theorem read_2 (X : Vec Ideal S2x1x6144 .f32) (k : Fin 1024) :
    (((cfg0.win 2).blk t).view.read (Elt Ideal) X : Vec Ideal S1x1x1024 .f32) (ix3 0 0 k) = X (ix3 (entryOf t) 0 (partOf 4 k)) :=
  congrArg X (place_2 t k)

theorem block_2 (k : Fin 1024) :
    (iblk m c 2 t : Vec Ideal S1x1x1024 .f32) (ix3 0 0 k) = (V m c main_v4 : Vec Ideal S2x1x6144 .f32) (ix3 (entryOf t) 0 (partOf 4 k)) :=
  read_2 t (V m c main_v4) k

theorem read_3 (X : Vec Ideal S2x1x6144 .f32) (k : Fin 1024) :
    (((cfg0.win 3).blk t).view.read (Elt Ideal) X : Vec Ideal S1x1x1024 .f32) (ix3 0 0 k) = X (ix3 (entryOf t) 0 (partOf 5 k)) :=
  congrArg X (place_3 t k)

theorem block_3 (k : Fin 1024) :
    (iblk m c 3 t : Vec Ideal S1x1x1024 .f32) (ix3 0 0 k) = (V m c main_v4 : Vec Ideal S2x1x6144 .f32) (ix3 (entryOf t) 0 (partOf 5 k)) :=
  read_3 t (V m c main_v4) k

theorem read_4 (X : Vec Ideal S4x1x1024 .f32) (k : Fin 1024) :
    (((cfg0.win 4).blk t).view.read (Elt Ideal) X : Vec Ideal S1x1x1024 .f32) (ix3 0 0 k) = X (ix3 3 0 k) :=
  congrArg X (place_4 t k)

theorem block_4 (k : Fin 1024) :
    (iblk m c 4 t : Vec Ideal S1x1x1024 .f32) (ix3 0 0 k) = (V m c main_v0 : Vec Ideal S4x1x1024 .f32) (ix3 3 0 k) :=
  read_4 t (V m c main_v0) k

theorem read_5 (X : Vec Ideal S1x1x1024 .f32) (k : Fin 1024) :
    (((cfg0.win 5).blk t).view.read (Elt Ideal) X : Vec Ideal S1x1x1024 .f32) (ix3 0 0 k) = X (ix3 0 0 k) :=
  congrArg X (place_5 t k)

theorem block_5 (k : Fin 1024) :
    (iblk m c 5 t : Vec Ideal S1x1x1024 .f32) (ix3 0 0 k) = (V m c main_v1 : Vec Ideal S1x1x1024 .f32) (ix3 0 0 k) :=
  read_5 t (V m c main_v1) k

theorem read_6 (X : Vec Ideal S4x1024x4096 .bf16) (l j : Fin 1024) :
    (((cfg0.win 6).blk t).view.read (Elt Ideal) X : Vec Ideal S1x1024x1024 .bf16) (ix3 0 l j) = X (ix3 3 l (unitOf t j)) :=
  congrArg X (place_6 t l j)

theorem block_6 (l j : Fin 1024) :
    (iblk m c 6 t : Vec Ideal S1x1024x1024 .bf16) (ix3 0 l j) = (V m c main_v2 : Vec Ideal S4x1024x4096 .bf16) (ix3 3 l (unitOf t j)) :=
  read_6 t (V m c main_v2) l j

theorem read_7 (X : Vec Ideal S4x4096x1024 .bf16) (j k : Fin 1024) :
    (((cfg0.win 7).blk t).view.read (Elt Ideal) X : Vec Ideal S1x1024x1024 .bf16) (ix3 0 j k) = X (ix3 3 (unitOf t j) k) :=
  congrArg X (place_7 t j k)

theorem block_7 (j k : Fin 1024) :
    (iblk m c 7 t : Vec Ideal S1x1024x1024 .bf16) (ix3 0 j k) = (V m c main_v3 : Vec Ideal S4x4096x1024 .bf16) (ix3 3 (unitOf t j) k) :=
  read_7 t (V m c main_v3) j k

end Cert.Kernel2Ideal.Mlp

end
-- ==== Proof.Mlp.Body.lean ====
/-
# What the body computes, an element at a time
-/
module

public import proofs.«01_k».proof.Proof.Gen.Kernel2Ideal.Skeleton
public import proofs.«01_k».proof.Proof.Mlp.Spec

@[expose] public section

set_option maxRecDepth 16384

noncomputable section

namespace Cert.Kernel2Ideal.Mlp

open Cert.Kernel2Ideal Cert.Kernel2Ideal.Gen Idealize.ShloMosaic Idealize.ShloMosaic.TcCoe
open Cert.Mlp (normed unit added final)

/-- The normed rows. -/
theorem pay1_apply (x : Vec Ideal S1x1024x1024 .f32) (g sc sh : Vec Ideal S1x1x1024 .f32) (i k : Fin 1024) :
    k0_pay1 x g sc sh (ix2 i k)
      = normed (fun k => x (ix3 0 i k)) (fun k => g (ix3 0 0 k)) (fun k => sc (ix3 0 0 k)) (fun k => sh (ix3 0 0 k)) k := by
  pointwise [k0_pay1, Cert.Mlp.normed, Cert.Mlp.inv]

/-- Nothing is accumulated at first. -/
theorem pay2_apply (i k : Fin 1024) : (k0_pay2 : FVec Ideal S1024x1024 .f32) (ix2 i k) = 0 := by
  pointwise [k0_pay2]

/-- One chunk's units are added. -/
theorem pay3_apply (y : Vec Ideal S1024x1024 .bf16) (w : Vec Ideal S1x1024x1024 .bf16) (a : Vec Ideal S1024x1024 .f32)
    (u : Vec Ideal S1x1024x1024 .bf16) (i k : Fin 1024) :
    k0_pay3 y w a u (ix2 i k)
      = a (ix2 i k) + ∑ j : Fin 1024, unit (fun l => y (ix2 i l)) (fun l => w (ix3 0 l j)) (u (ix3 0 j k)) := by
  pointwise [k0_pay3, Cert.Mlp.unit]

/-- The finished rows. -/
theorem pay4_apply (x : Vec Ideal S1x1024x1024 .f32) (g2 : Vec Ideal S1x1x1024 .f32) (a : Vec Ideal S1024x1024 .f32)
    (fg : Vec Ideal S1x1x1024 .f32) (i k : Fin 1024) :
    k0_pay4 x g2 a fg (ix3 0 i k)
      = final (added (fun k => x (ix3 0 i k)) (fun k => g2 (ix3 0 0 k)) (fun k => a (ix2 i k))) (fun k => fg (ix3 0 0 k)) k := by
  pointwise [k0_pay4, Cert.Mlp.final, Cert.Mlp.added, Cert.Mlp.inv]

end Cert.Kernel2Ideal.Mlp

end
-- ==== Proof.Mlp.Host.lean ====
/-
# What the call is handed

The host adds axes of length one to the gains and the modulation; the weights are handed as they are.
-/
module

public import proofs.«01_k».proof.Proof.Mlp.Blocks

@[expose] public section

set_option maxRecDepth 16384

noncomputable section

namespace Cert.Kernel2Ideal.Mlp

open Cert.Kernel2Ideal Cert.Kernel2Ideal.Gen Idealize.ShloMosaic Idealize.ShloMosaic.TcCoe

variable (m : (ℓ : Loc nD τ sig) → Buf (Elt Ideal) ℓ) (c : Dev nD)

/-- The six arguments. -/
abbrev argH : FVec Ideal S2x8192x1024 .f32 := m ((c : Thread nD τ).loc main_arg0)
abbrev argM : FVec Ideal S2x6144 .f32 := m ((c : Thread nD τ).loc main_arg1)
abbrev argN : FVec Ideal S4x1024 .f32 := m ((c : Thread nD τ).loc main_arg2)
abbrev argW : FVec Ideal S4x1024x4096 .f32 := m ((c : Thread nD τ).loc main_arg3)
abbrev argU : FVec Ideal S4x4096x1024 .f32 := m ((c : Thread nD τ).loc main_arg4)
abbrev argF : FVec Ideal S1024 .f32 := m ((c : Thread nD τ).loc main_arg5)

/-- The gains of the four layers, with an axis added. -/
def gains (x : FVec Ideal S4x1024 .f32) : FVec Ideal S4x1x1024 .f32 :=
  broadcastInDim S4x1x1024 ![0, 2] bcast_S4x1024_S4x1x1024_0_2 x

theorem gains_apply (x : FVec Ideal S4x1024 .f32) (l : Fin 4) (k : Fin 1024) : gains x (ix3 l 0 k) = x (ix2 l k) := by
  pointwise [gains]

/-- The last gains, with two axes added. -/
def lastGains (x : FVec Ideal S1024 .f32) : FVec Ideal S1x1x1024 .f32 :=
  broadcastInDim S1x1x1024 ![2] bcast_S1024_S1x1x1024_2 x

theorem lastGains_apply (x : FVec Ideal S1024 .f32) (k : Fin 1024) : lastGains x (ix3 0 0 k) = x (ix1 k) := by
  pointwise [lastGains]

/-- The modulation, with an axis added. -/
def modulation (x : FVec Ideal S2x6144 .f32) : FVec Ideal S2x1x6144 .f32 :=
  broadcastInDim S2x1x6144 ![0, 2] bcast_S2x6144_S2x1x6144_0_2 x

theorem modulation_apply (x : FVec Ideal S2x6144 .f32) (b : Fin 2) (k : Fin 6144) : modulation x (ix3 b 0 k) = x (ix2 b k) := by
  pointwise [modulation]

/-- The weights into the hidden units. -/
def into (x : FVec Ideal S4x1024x4096 .f32) : FVec Ideal S4x1024x4096 .bf16 := truncf .bf16 x bitsLt_bf16_f32

theorem into_apply (x : FVec Ideal S4x1024x4096 .f32) (l : Fin 4) (i : Fin 1024) (j : Fin 4096) :
    into x (ix3 l i j) = x (ix3 l i j) := by
  pointwise [into]

/-- The weights out of the hidden units. -/
def outOf (x : FVec Ideal S4x4096x1024 .f32) : FVec Ideal S4x4096x1024 .bf16 := truncf .bf16 x bitsLt_bf16_f32

theorem outOf_apply (x : FVec Ideal S4x4096x1024 .f32) (l : Fin 4) (j : Fin 4096) (k : Fin 1024) :
    outOf x (ix3 l j k) = x (ix3 l j k) := by
  pointwise [outOf]

theorem entry_h : V m c main_arg0 = argH m c := by
  unfold_abbrev_sides
  after_results_simp

theorem entry_n : V m c main_v0 = gains (argN m c) := by
  unfold gains
  unfold_abbrev_sides
  after_results_simp

theorem entry_f : V m c main_v1 = lastGains (argF m c) := by
  unfold lastGains
  unfold_abbrev_sides
  after_results_simp

theorem entry_w : V m c main_v2 = into (argW m c) := by
  unfold into
  unfold_abbrev_sides
  after_results_simp

theorem entry_u : V m c main_v3 = outOf (argU m c) := by
  unfold outOf
  unfold_abbrev_sides
  after_results_simp

theorem entry_m : V m c main_v4 = modulation (argM m c) := by
  unfold modulation
  unfold_abbrev_sides
  after_results_simp

end Cert.Kernel2Ideal.Mlp

end
-- ==== Proof.Mlp.Points.lean ====
/-
# What a point leaves

The normed rows stay as the first of four points leaves them; each point adds its chunk to the accumulator; the last one
writes the finished rows.
-/
module

public import proofs.«01_k».proof.Proof.Gen.Kernel2Ideal.Frame
public import Idealize.ShloMosaic.Lib.Pipeline.ValueKit

@[expose] public section

set_option maxRecDepth 16384

noncomputable section

namespace Cert.Kernel2Ideal.Mlp

open Cert.Kernel2Ideal Cert.Kernel2Ideal.Gen Idealize.ShloMosaic Idealize.ShloMosaic.TcCoe

theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ) (c : Dev nD) (t : Fin cfg0.N)

/-- The point before. -/
abbrev prev : t.val - 1 < cfg0.N := Nat.lt_of_le_of_lt (Nat.sub_le _ _) t.isLt

theorem rows_A (h0 : t.val % 4 = 0) (h1 : ¬t.val % 4 = 3) :
    (outsAt0 m c t.val t.isLt).2.1 = k0_pay1 (iblk m c 0 t) (iblk m c 4 t) (iblk m c 2 t) (iblk m c 1 t) := by
  rw [outsAt0_A m c t h0 h1]
  dsimp only
  unfold sout0_A_0
  rw [View.read_writes_eq_canon _ _ _ (fun y => scover0_A_0 (y := y) ..)]
  unfold kernelRun0_A
  dsimp only
  sl_unfold_words
  rw [View.canon_unit_zero hz2]
  simp only [View.readAt_eq_ld, (hs0_0 t).read_unread, (hs0_1 t).read_unread, (hs0_2 t).read_unread, (hs0_4 t).read_unread,
    View.ld_unit_zero (S := S1x1024x1024) hz3, View.ld_unit_zero (S := S1x1x1024) hz3]

theorem acc_A (h0 : t.val % 4 = 0) (h1 : ¬t.val % 4 = 3) :
    (outsAt0 m c t.val t.isLt).2.2 = k0_pay3 (outsAt0 m c t.val t.isLt).2.1 (iblk m c 6 t) (k0_pay2 (F := Ideal)) (iblk m c 7 t) := by
  rw [rows_A m c t h0 h1, outsAt0_A m c t h0 h1]
  dsimp only
  unfold sout0_A_1
  rw [View.read_writes_eq_canon _ _ _ (fun y => scover0_A_1 (y := y) ..)]
  unfold kernelRun0_A
  dsimp only
  sl_unfold_words
  rw [View.canon_cons_unit_zero (S := S1024x1024) hz2]
  simp only [View.readAt_eq_ld, (hs0_0 t).read_unread, (hs0_1 t).read_unread, (hs0_2 t).read_unread, (hs0_4 t).read_unread,
    (hs0_6 t).read_unread, (hs0_7 t).read_unread,
    View.ld_unit_zero (S := S1x1024x1024) hz3, View.ld_unit_zero (S := S1x1x1024) hz3]
  rw [View.readCov_unit_zero (S := S1024x1024) _ hz2, View.readCov_unit_zero (S := S1024x1024) _ hz2]

theorem rows_B (h0 : ¬t.val % 4 = 0) (h1 : ¬t.val % 4 = 3) :
    (outsAt0 m c t.val t.isLt).2.1 = (outsAt0 m c (t.val - 1) (prev t)).2.1 := by
  rw [outsAt0_B m c t h0 h1]
  rfl

theorem acc_B (h0 : ¬t.val % 4 = 0) (h1 : ¬t.val % 4 = 3) :
    (outsAt0 m c t.val t.isLt).2.2
      = k0_pay3 (outsAt0 m c (t.val - 1) (prev t)).2.1 (iblk m c 6 t) (outsAt0 m c (t.val - 1) (prev t)).2.2 (iblk m c 7 t) := by
  rw [outsAt0_B m c t h0 h1]
  dsimp only
  unfold sout0_B_1
  rw [View.read_writes_eq_canon _ _ _ (fun y => scover0_B_1 (y := y) ..)]
  unfold kernelRun0_B
  dsimp only
  rw [View.canon_unit_zero hz2]
  simp only [View.readAt_eq_ld, (hs0_6 t).read_unread, (hs0_7 t).read_unread, (Memref.isWhole_whole _).read_unread,
    View.ld_unit_zero (S := S1x1024x1024) hz3, View.ld_unit_zero (S := S1024x1024) hz2]

theorem out_C (h0 : ¬t.val % 4 = 0) (h1 : t.val % 4 = 3) :
    (outsAt0 m c t.val t.isLt).1
      = k0_pay4 (iblk m c 0 t) (iblk m c 3 t)
          (k0_pay3 (outsAt0 m c (t.val - 1) (prev t)).2.1 (iblk m c 6 t) (outsAt0 m c (t.val - 1) (prev t)).2.2 (iblk m c 7 t))
          (iblk m c 5 t) := by
  rw [outsAt0_C m c t h0 h1]
  dsimp only
  unfold out0_C_8
  rw [View.read_writes_eq_canon _ _ _ (fun y => cover0_C_8 (y := y) ..)]
  unfold kernelRun0_C
  dsimp only
  sl_unfold_words
  rw [View.canon_unit_zero hz3]
  simp only [View.readAt_eq_ld, (hs0_0 t).read_unread, (hs0_3 t).read_unread, (hs0_5 t).read_unread, (hs0_6 t).read_unread,
    (hs0_7 t).read_unread, (Memref.isWhole_whole _).read_unread, View.ld_unit_zero (S := S1x1024x1024) hz3,
    View.ld_unit_zero (S := S1x1x1024) hz3, View.ld_unit_zero (S := S1024x1024) hz2]
  rw [View.readCov_unit_zero (S := S1024x1024) _ hz2]

end Cert.Kernel2Ideal.Mlp

end
-- ==== Proof.Mlp.Result.lean ====
/-
# What the kernel computes

The four points of a block add up the four quarters of the hidden units; the last one writes the MLP of Spec at the
block's rows.
-/
module

public import proofs.«01_k».proof.Proof.Mlp.Blocks
public import proofs.«01_k».proof.Proof.Mlp.Body
public import proofs.«01_k».proof.Proof.Mlp.Host
public import proofs.«01_k».proof.Proof.Mlp.Points
public import proofs.«01_k».proof.Proof.Gen.Kernel2Ideal.Value

@[expose] public section

set_option maxRecDepth 16384

noncomputable section

namespace Cert.Kernel2Ideal.Mlp

open Cert.Kernel2Ideal Cert.Kernel2Ideal.Gen Idealize.ShloMosaic Idealize.ShloMosaic.TcCoe
open Cert.Mlp (normed unit added final quarters)

variable (m : (ℓ : Loc nD τ sig) → Buf (Elt Ideal) ℓ) (c : Dev nD) (t : Fin cfg0.N)

/-! The blocks, by the arguments. -/

theorem h_at (i k : Fin 1024) :
    (iblk m c 0 t : Vec Ideal S1x1024x1024 .f32) (ix3 0 i k) = argH m c (ix3 (entryOf t) (rowOf t i) k) :=
  (block_0 m c t i k).trans (congrFun (entry_h m c) _)

theorem shift_at (k : Fin 1024) :
    (iblk m c 1 t : Vec Ideal S1x1x1024 .f32) (ix3 0 0 k) = argM m c (ix2 (entryOf t) (partOf 3 k)) :=
  (block_1 m c t k).trans ((congrFun (entry_m m c) _).trans (modulation_apply _ _ _))

theorem scale_at (k : Fin 1024) :
    (iblk m c 2 t : Vec Ideal S1x1x1024 .f32) (ix3 0 0 k) = argM m c (ix2 (entryOf t) (partOf 4 k)) :=
  (block_2 m c t k).trans ((congrFun (entry_m m c) _).trans (modulation_apply _ _ _))

theorem gate_at (k : Fin 1024) :
    (iblk m c 3 t : Vec Ideal S1x1x1024 .f32) (ix3 0 0 k) = argM m c (ix2 (entryOf t) (partOf 5 k)) :=
  (block_3 m c t k).trans ((congrFun (entry_m m c) _).trans (modulation_apply _ _ _))

theorem gain_at (k : Fin 1024) : (iblk m c 4 t : Vec Ideal S1x1x1024 .f32) (ix3 0 0 k) = argN m c (ix2 3 k) :=
  (block_4 m c t k).trans ((congrFun (entry_n m c) _).trans (gains_apply _ _ _))

theorem lastGain_at (k : Fin 1024) : (iblk m c 5 t : Vec Ideal S1x1x1024 .f32) (ix3 0 0 k) = argF m c (ix1 k) :=
  (block_5 m c t k).trans ((congrFun (entry_f m c) _).trans (lastGains_apply _ _))

theorem into_at (l j : Fin 1024) : (iblk m c 6 t : Vec Ideal S1x1024x1024 .bf16) (ix3 0 l j) = argW m c (ix3 3 l (unitOf t j)) :=
  (block_6 m c t l j).trans ((congrFun (entry_w m c) _).trans (into_apply _ _ _ _))

theorem outOf_at (j k : Fin 1024) : (iblk m c 7 t : Vec Ideal S1x1024x1024 .bf16) (ix3 0 j k) = argU m c (ix3 3 (unitOf t j) k) :=
  (block_7 m c t j k).trans ((congrFun (entry_u m c) _).trans (outOf_apply _ _ _ _))

/-- Row `r` of batch entry `b`, normed. -/
def row (b : Fin 2) (r : Fin 8192) : Fin 1024 → EReal :=
  normed (fun k => argH m c (ix3 b r k)) (fun k => argN m c (ix2 3 k)) (fun k => argM m c (ix2 b (partOf 4 k)))
    (fun k => argM m c (ix2 b (partOf 3 k)))

/-- What hidden unit `j` adds to the row's entry `k`. -/
def unitAt (b : Fin 2) (r : Fin 8192) (k : Fin 1024) (j : Fin 4096) : EReal :=
  unit (row m c b r) (fun l => argW m c (ix3 3 l j)) (argU m c (ix3 3 j k))

/-- What the `q`-th quarter of the units adds. -/
def quarter (b : Fin 2) (r : Fin 8192) (k : Fin 1024) (q : Fin 4) : EReal :=
  ∑ j : Fin 1024, unitAt m c b r k ⟨1024 * q + j, by omega⟩

/-- A row of the finished block. -/
def finalRow (b : Fin 2) (r : Fin 8192) : Fin 1024 → EReal :=
  final (added (fun k => argH m c (ix3 b r k)) (fun k => argM m c (ix2 b (partOf 5 k))) (fun k => ∑ j : Fin 4096, unitAt m c b r k j))
    fun k => argF m c (ix1 k)

/-- The point before, as a point. -/
abbrev before : Fin cfg0.N := ⟨t.val - 1, prev t⟩

variable {m c t}

theorem entry_before (h : ¬t.val % 4 = 0) : entryOf (before t) = entryOf t := Fin.ext (by simp only [entryOf]; omega)

theorem row_before (h : ¬t.val % 4 = 0) (i : Fin 1024) : rowOf (before t) i = rowOf t i := Fin.ext (by simp only [rowOf]; omega)

/-- What the first point leaves as rows. -/
theorem rows_0 (h : t.val % 4 = 0) (i k : Fin 1024) :
    (outsAt0 m c t.val t.isLt).2.1 (ix2 i k) = row m c (entryOf t) (rowOf t i) k := by
  rw [rows_A m c t h (by omega), pay1_apply]
  simp only [h_at, shift_at, scale_at, gain_at]
  rfl

/-- A later point that isn't the last keeps the rows. -/
theorem rows_next (h0 : ¬t.val % 4 = 0) (h1 : ¬t.val % 4 = 3)
    (hp : ∀ i k : Fin 1024, (outsAt0 m c (t.val - 1) (prev t)).2.1 (ix2 i k) = row m c (entryOf (before t)) (rowOf (before t) i) k)
    (i k : Fin 1024) : (outsAt0 m c t.val t.isLt).2.1 (ix2 i k) = row m c (entryOf t) (rowOf t i) k := by
  rw [rows_B m c t h0 h1, hp, entry_before h0, row_before h0]

theorem rows_1 (h : t.val % 4 = 1) (i k : Fin 1024) :
    (outsAt0 m c t.val t.isLt).2.1 (ix2 i k) = row m c (entryOf t) (rowOf t i) k :=
  rows_next (by omega) (by omega) (rows_0 (t := before t) (by simp only; omega)) i k

theorem rows_2 (h : t.val % 4 = 2) (i k : Fin 1024) :
    (outsAt0 m c t.val t.isLt).2.1 (ix2 i k) = row m c (entryOf t) (rowOf t i) k :=
  rows_next (by omega) (by omega) (rows_1 (t := before t) (by simp only; omega)) i k

/-- A point adds its quarter. -/
theorem added_quarter (q : Fin 4) (h : t.val % 4 = q) (y : Vec Ideal S1024x1024 .bf16) (a : Vec Ideal S1024x1024 .f32) (i k : Fin 1024)
    (hy : ∀ l : Fin 1024, y (ix2 i l) = row m c (entryOf t) (rowOf t i) l) :
    k0_pay3 y (iblk m c 6 t) a (iblk m c 7 t) (ix2 i k) = a (ix2 i k) + quarter m c (entryOf t) (rowOf t i) k q := by
  rw [pay3_apply]
  simp only [into_at, outOf_at, hy]
  have hu : ∀ j : Fin 1024, unitOf t j = ⟨1024 * q + j, by omega⟩ := fun j => Fin.ext (by simp only [unitOf, h])
  simp only [hu]
  rfl

theorem acc_0 (h : t.val % 4 = 0) (i k : Fin 1024) :
    (outsAt0 m c t.val t.isLt).2.2 (ix2 i k) = 0 + quarter m c (entryOf t) (rowOf t i) k 0 := by
  rw [acc_A m c t h (by omega), added_quarter 0 h _ _ i k (rows_0 h i), pay2_apply]

theorem acc_1 (h : t.val % 4 = 1) (i k : Fin 1024) :
    (outsAt0 m c t.val t.isLt).2.2 (ix2 i k)
      = (0 + quarter m c (entryOf t) (rowOf t i) k 0) + quarter m c (entryOf t) (rowOf t i) k 1 := by
  have h0 : ¬t.val % 4 = 0 := by omega
  have hb : (before t).val % 4 = 0 := by simp only; omega
  have hy : ∀ l : Fin 1024, (outsAt0 m c (t.val - 1) (prev t)).2.1 (ix2 i l) = row m c (entryOf t) (rowOf t i) l := fun l =>
    (rows_0 (t := before t) hb i l).trans (by rw [entry_before h0, row_before h0])
  rw [acc_B m c t h0 (by omega), added_quarter 1 h _ _ i k hy]
  have ha := acc_0 (m := m) (c := c) (t := before t) hb i k
  rw [entry_before h0, row_before h0] at ha
  rw [← ha]

theorem acc_2 (h : t.val % 4 = 2) (i k : Fin 1024) :
    (outsAt0 m c t.val t.isLt).2.2 (ix2 i k)
      = ((0 + quarter m c (entryOf t) (rowOf t i) k 0) + quarter m c (entryOf t) (rowOf t i) k 1)
        + quarter m c (entryOf t) (rowOf t i) k 2 := by
  have h0 : ¬t.val % 4 = 0 := by omega
  have hb : (before t).val % 4 = 1 := by simp only; omega
  have hy : ∀ l : Fin 1024, (outsAt0 m c (t.val - 1) (prev t)).2.1 (ix2 i l) = row m c (entryOf t) (rowOf t i) l := fun l =>
    (rows_1 (t := before t) hb i l).trans (by rw [entry_before h0, row_before h0])
  rw [acc_B m c t h0 (by omega), added_quarter 2 h _ _ i k hy]
  have ha := acc_1 (m := m) (c := c) (t := before t) hb i k
  rw [entry_before h0, row_before h0] at ha
  rw [← ha]

/-- What the last of four points writes. -/
theorem out_3 (h : t.val % 4 = 3) (i k : Fin 1024) :
    (outsAt0 m c t.val t.isLt).1 (ix3 0 i k) = finalRow m c (entryOf t) (rowOf t i) k := by
  have h0 : ¬t.val % 4 = 0 := by omega
  have hb : (before t).val % 4 = 2 := by simp only; omega
  have hy : ∀ l : Fin 1024, (outsAt0 m c (t.val - 1) (prev t)).2.1 (ix2 i l) = row m c (entryOf t) (rowOf t i) l := fun l =>
    (rows_2 (t := before t) hb i l).trans (by rw [entry_before h0, row_before h0])
  have hs : ∀ k : Fin 1024, k0_pay3 (outsAt0 m c (t.val - 1) (prev t)).2.1 (iblk m c 6 t) (outsAt0 m c (t.val - 1) (prev t)).2.2 (iblk m c 7 t)
      (ix2 i k) = ∑ j : Fin 4096, unitAt m c (entryOf t) (rowOf t i) k j := fun k => by
    have ha := acc_2 (m := m) (c := c) (t := before t) hb i k
    rw [entry_before h0, row_before h0] at ha
    rw [added_quarter 3 h _ _ i k hy, ha]
    exact quarters (unitAt m c (entryOf t) (rowOf t i) k)
  rw [out_C m c t h0 h, pay4_apply]
  simp only [hs, h_at, gate_at, lastGain_at]
  rfl

/-- The result array is `G` once `G` is the finished row at every row. -/
theorem array_eq (G : FVec Ideal S2x8192x1024 .f32)
    (hG : ∀ (b : Fin 2) (r : Fin 8192) (k : Fin 1024), G (ix3 b r k) = finalRow m c b r k) :
    (dats m 0 c).arrAt 8 cfg0.N = G := by
  have key : ∀ (t : Fin cfg0.N) (_ : t.val % 4 = 3) (y : S1x1024x1024.Idx),
      (outsAt0 m c t.val t.isLt).1 y = G (((cfg0.win 8).blk t).view.emb y) := fun t h y => by
    obtain ⟨i, k, rfl⟩ : ∃ (i k : Fin 1024), y = ix3 0 i k :=
      ⟨y 1, y 2, (eq_ix3 y).trans (by congr 1; exact Subsingleton.elim _ _)⟩
    rw [place_8, hG]
    exact out_3 h i k
  refine (dats m 0 c).arrAt_eq_of_covers 8 _ (by decide +kernel) fun t hf y => ?_
  blk_simp
  rw [after0_8]
  exact key t ((flush0_8 t).mp hf) y

end Cert.Kernel2Ideal.Mlp

end
-- ==== Proof.Proj.Framed.lean ====
/-
# The input projection's frame, over any float values
-/
module

public import proofs.«01_k».proof.Proof.Gen.Kernel3Ideal.Frame

@[expose] public section

noncomputable section

namespace Cert.Kernel3Ideal.Proj

open Cert.Kernel3Ideal Cert.Kernel3Ideal.Gen Idealize.ShloMosaic Idealize.ShloMosaic.TcCoe Idealize.SL.Sem

variable {F : FTy → Type} [FloatOps F] (m : (ℓ : Loc nD τ sig) → Buf (Elt F) ℓ) (ρ : Dev nD → PrngReg)

/-- The program runs, leaves its arguments as they were, and leaves every semaphore at zero. -/
def Framed : Prop :=
  θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0)

theorem run_frame : Framed m ρ := Cert.Kernel3Ideal.Gen.frame m ρ

end Cert.Kernel3Ideal.Proj

end
-- ==== Proof.Proj.Spec.lean ====
/-
# A column of the input projection

The row is normed as for the MLP, and a column of the projection is its product with a column of weights.
-/
module

public import proofs.«01_k».proof.Proof.Mlp.Spec

@[expose] public section

noncomputable section

namespace Cert.Proj

open Idealize.ShloMosaic

/-- The row `x`, normed with gains `g`, scale `sc` and shift `sh`, through the weights `w`. -/
def column (x g sc sh w : Fin 1024 → EReal) : EReal := ∑ l : Fin 1024, Cert.Mlp.normed x g sc sh l * w l

end Cert.Proj

end
-- ==== Proof.Proj.RefReads.lean ====
/-
# The reference's operations, an element at a time
-/
module

public import proofs.«01_k».proof.Proof.Gen.Reference3Ideal
public import proofs.«01_k».proof.Proof.Proj.Spec

@[expose] public section

set_option maxRecDepth 16384

noncomputable section

namespace Cert.Reference3Ideal.Proj

open Cert.Reference3Ideal Cert.Reference3Ideal.Gen Idealize.ShloMosaic
open Cert.Mlp (inv)

/-- Every row over the root of its mean square. -/
def rooted (x : FVec Ideal S2x8192x1024 .f32) : FVec Ideal S2x8192x1024 .f32 :=
  mulf x (broadcastInDim S2x8192x1024 ![0, 1, 2] bcast_S2x8192x1_S2x8192x1024_0_1_2 (Host.rsqrt (addf (Host.divf
    (broadcastInDim S2x8192x1 ![0, 1] bcast_S2x8192_S2x8192x1_0_1
      (Host.reduceAdd (mulf x x) (constant S_ .f32 0x00000000#32) reducesTo_S2x8192x1024_S2x8192_d2 h_S_))
    (broadcastInDim S2x8192x1 ![] bcast_S_S2x8192x1 (constant S_ .f32 0x44800000#32)))
    (broadcastInDim S2x8192x1 ![] bcast_S_S2x8192x1 (constant S_ .f32 0x358637BD#32)))))

/-- The last layer's gains on the rows `x`. -/
def gained (x : FVec Ideal S2x8192x1024 .f32) (n : FVec Ideal S4x1024 .f32) : FVec Ideal S2x8192x1024 .f32 :=
  mulf x (broadcastInDim S2x8192x1024 ![0, 1, 2] bcast_S1x1x1024_S2x8192x1024_0_1_2
    (broadcastInDim S1x1x1024 ![2] bcast_S1024_S1x1x1024_2
      (shapeCast _ (extractStridedSlice S1x1024 ![3, 0] n slices_S4x1024_S1x1024_3_0) shapeCasts_S1x1024_S1024)))

/-- The modulation, with an axis added. -/
def modulation (s : FVec Ideal S2x6144 .f32) : FVec Ideal S2x1x6144 .f32 :=
  broadcastInDim S2x1x6144 ![0, 2] bcast_S2x6144_S2x1x6144_0_2 s

/-- The rows `x` scaled and shifted by the modulation. -/
def moved (x : FVec Ideal S2x8192x1024 .f32) (s : FVec Ideal S2x1x6144 .f32) : FVec Ideal S2x8192x1024 .f32 :=
  addf (mulf x (broadcastInDim S2x8192x1024 ![0, 1, 2] bcast_S2x1x1024_S2x8192x1024_0_1_2
      (addf (broadcastInDim S2x1x1024 ![] bcast_S_S2x1x1024 (constant S_ .f32 0x3F800000#32))
        (extractStridedSlice S2x1x1024 ![0, 0, 1024] s slices_S2x1x6144_S2x1x1024_0_0_1024))))
    (broadcastInDim S2x8192x1024 ![0, 1, 2] bcast_S2x1x1024_S2x8192x1024_0_1_2
      (extractStridedSlice S2x1x1024 ![0, 0, 0] s slices_S2x1x6144_S2x1x1024_0_0_0))

/-- The last layer's projection weights. -/
def weights (w : FVec Ideal S4x1024x5792 .f32) : FVec Ideal S1024x5792 .f32 :=
  shapeCast _ (extractStridedSlice S1x1024x5792 ![3, 0, 0] w slices_S4x1024x5792_S1x1024x5792_3_0_0) shapeCasts_S1x1024x5792_S1024x5792

/-- The rows `y` through the weights. -/
def through (y : FVec Ideal S2x8192x1024 .f32) (w : FVec Ideal S1024x5792 .f32) : FVec Ideal S2x8192x5792 .f32 :=
  Host.dotGeneral dot_S2x8192x1024_S1024x5792_S2x8192x5792_2_0_01_1_n_n none y w

/-- The gates' columns. -/
def gates (p : FVec Ideal S2x8192x5792 .f32) : FVec Ideal S2x8192x3072 .bf16 :=
  truncf .bf16 (extractStridedSlice S2x8192x3072 ![0, 0, 2720] p slices_S2x8192x5792_S2x8192x3072_0_0_2720) bitsLt_bf16_f32

/-- The pooling's columns. -/
def pooling (p : FVec Ideal S2x8192x5792 .f32) : FVec Ideal S2x8192x512 .f32 :=
  extractStridedSlice S2x8192x512 ![0, 0, 0] p slices_S2x8192x5792_S2x8192x512_0_0_0

/-- The Hyena branch's columns, as rows. -/
def hyena (p : FVec Ideal S2x8192x5792 .f32) : FVec Ideal S2x1536x8192 .f32 :=
  transpose S2x1536x8192 [0, 2, 1] (extractStridedSlice S2x8192x1536 ![0, 0, 512] p slices_S2x8192x5792_S2x8192x1536_0_0_512)
    transposes_S2x8192x1536_S2x1536x8192_0_2_1

theorem rooted_apply (x : FVec Ideal S2x8192x1024 .f32) (b : Fin 2) (i : Fin 8192) (k : Fin 1024) :
    rooted x (ix3 b i k) = x (ix3 b i k) * inv fun k => x (ix3 b i k) := by
  pointwise [rooted, Cert.Mlp.inv]

theorem gained_apply (x : FVec Ideal S2x8192x1024 .f32) (n : FVec Ideal S4x1024 .f32) (b : Fin 2) (i : Fin 8192) (k : Fin 1024) :
    gained x n (ix3 b i k) = x (ix3 b i k) * n (ix2 3 k) := by
  pointwise [gained]

theorem modulation_apply (s : FVec Ideal S2x6144 .f32) (b : Fin 2) (k : Fin 6144) : modulation s (ix3 b 0 k) = s (ix2 b k) := by
  pointwise [modulation]

theorem moved_apply (x : FVec Ideal S2x8192x1024 .f32) (s : FVec Ideal S2x1x6144 .f32) (b : Fin 2) (i : Fin 8192) (k : Fin 1024) :
    moved x s (ix3 b i k) = x (ix3 b i k) * (Ideal.ofBits .f32 0x3F800000#32 + s (ix3 b 0 ⟨1024 + k, by omega⟩))
      + s (ix3 b 0 ⟨k, by omega⟩) := by
  pointwise [moved]

theorem weights_apply (w : FVec Ideal S4x1024x5792 .f32) (l : Fin 1024) (j : Fin 5792) : weights w (ix2 l j) = w (ix3 3 l j) := by
  pointwise [weights]

theorem through_apply (y : FVec Ideal S2x8192x1024 .f32) (w : FVec Ideal S1024x5792 .f32) (b : Fin 2) (i : Fin 8192) (j : Fin 5792) :
    through y w (ix3 b i j) = ∑ l : Fin 1024, y (ix3 b i l) * w (ix2 l j) := by
  pointwise [through]

theorem gates_apply (p : FVec Ideal S2x8192x5792 .f32) (b : Fin 2) (i : Fin 8192) (j : Fin 3072) :
    gates p (ix3 b i j) = p (ix3 b i ⟨2720 + j, by omega⟩) := by
  pointwise [gates]

theorem pooling_apply (p : FVec Ideal S2x8192x5792 .f32) (b : Fin 2) (i : Fin 8192) (j : Fin 512) :
    pooling p (ix3 b i j) = p (ix3 b i ⟨j, by omega⟩) := by
  pointwise [pooling]

theorem hyena_apply (p : FVec Ideal S2x8192x5792 .f32) (b : Fin 2) (j : Fin 1536) (i : Fin 8192) :
    hyena p (ix3 b j i) = p (ix3 b i ⟨512 + j, by omega⟩) := by
  pointwise [hyena]

end Cert.Reference3Ideal.Proj

end
-- ==== Proof.Proj.LatentSpec.lean ====
/-
# A value of the attention

The latents are normed on their own, and a value is their product with a column of weights.
-/
module

public import proofs.«01_k».proof.Proof.Proj.Spec

@[expose] public section

noncomputable section

namespace Cert.Proj

open Idealize.ShloMosaic

/-- One over the root of the latents' mean square plus a small number. -/
def rootInv (y : Fin 256 → EReal) : EReal :=
  Ideal.rsqrt (Ideal.div (∑ k : Fin 256, y k * y k) (Ideal.ofBits .f32 0x43800000#32) + Ideal.ofBits .f32 0x358637BD#32)

/-- The latents `y`, normed with gains `g`. -/
def latent (y g : Fin 256 → EReal) (k : Fin 256) : EReal := y k * rootInv y * g k

/-- The normed latents through the weights `w`. -/
def value (y g w : Fin 256 → EReal) : EReal := ∑ a : Fin 256, latent y g a * w a

end Cert.Proj

end
-- ==== Proof.Proj.LatentReads.lean ====
/-
# The reference's operations on the latents, an element at a time
-/
module

public import proofs.«01_k».proof.Proof.Gen.Reference3Ideal
public import proofs.«01_k».proof.Proof.Proj.LatentSpec

@[expose] public section

set_option maxRecDepth 16384

noncomputable section

namespace Cert.Reference3Ideal.Proj

open Cert.Reference3Ideal Cert.Reference3Ideal.Gen Idealize.ShloMosaic
open Cert.Proj (rootInv)

/-- The latents' columns of the projection. -/
def latents (p : FVec Ideal S2x8192x5792 .f32) : FVec Ideal S2x8192x256 .f32 :=
  extractStridedSlice S2x8192x256 ![0, 0, 0]
    (extractStridedSlice S2x8192x288 ![0, 0, 2432] p slices_S2x8192x5792_S2x8192x288_0_0_2432) slices_S2x8192x288_S2x8192x256_0_0_0

/-- Every row of latents over the root of its mean square. -/
def latentRooted (x : FVec Ideal S2x8192x256 .f32) : FVec Ideal S2x8192x256 .f32 :=
  mulf x (broadcastInDim S2x8192x256 ![0, 1, 2] bcast_S2x8192x1_S2x8192x256_0_1_2 (Host.rsqrt (addf (Host.divf
    (broadcastInDim S2x8192x1 ![0, 1] bcast_S2x8192_S2x8192x1_0_1
      (Host.reduceAdd (mulf x x) (constant S_ .f32 0x00000000#32) reducesTo_S2x8192x256_S2x8192_d2 h_S_))
    (broadcastInDim S2x8192x1 ![] bcast_S_S2x8192x1 (constant S_ .f32 0x43800000#32)))
    (broadcastInDim S2x8192x1 ![] bcast_S_S2x8192x1 (constant S_ .f32 0x358637BD#32)))))

/-- The last layer's gains on the latents `x`. -/
def latentGained (x : FVec Ideal S2x8192x256 .f32) (g : FVec Ideal S4x256 .f32) : FVec Ideal S2x8192x256 .f32 :=
  mulf x (broadcastInDim S2x8192x256 ![0, 1, 2] bcast_S1x1x256_S2x8192x256_0_1_2
    (broadcastInDim S1x1x256 ![2] bcast_S256_S1x1x256_2
      (shapeCast _ (extractStridedSlice S1x256 ![3, 0] g slices_S4x256_S1x256_3_0) shapeCasts_S1x256_S256)))

/-- The last layer's weights of the keys and values. -/
def latentWeights (u : FVec Ideal S4x256x1024 .f32) : FVec Ideal S256x1024 .f32 :=
  shapeCast _ (extractStridedSlice S1x256x1024 ![3, 0, 0] u slices_S4x256x1024_S1x256x1024_3_0_0) shapeCasts_S1x256x1024_S256x1024

/-- The latents `y` through those weights. -/
def latentThrough (y : FVec Ideal S2x8192x256 .f32) (u : FVec Ideal S256x1024 .f32) : FVec Ideal S2x8192x1024 .f32 :=
  Host.dotGeneral dot_S2x8192x256_S256x1024_S2x8192x1024_2_0_01_1_n_n none y u

/-- The values of each head, as rows. -/
def values (x : FVec Ideal S2x8192x1024 .f32) : FVec Ideal S2x8x64x8192 .bf16 :=
  truncf .bf16 (transpose S2x8x64x8192 [0, 2, 3, 1] (extractStridedSlice S2x8192x8x64 ![0, 0, 0, 64]
    (shapeCast S2x8192x8x128 x shapeCasts_S2x8192x1024_S2x8192x8x128) slices_S2x8192x8x128_S2x8192x8x64_0_0_0_64)
    transposes_S2x8192x8x64_S2x8x64x8192_0_2_3_1) bitsLt_bf16_f32

theorem latents_apply (p : FVec Ideal S2x8192x5792 .f32) (b : Fin 2) (i : Fin 8192) (j : Fin 256) :
    latents p (ix3 b i j) = p (ix3 b i ⟨2432 + j, by omega⟩) := by
  pointwise [latents]

theorem latentRooted_apply (x : FVec Ideal S2x8192x256 .f32) (b : Fin 2) (i : Fin 8192) (k : Fin 256) :
    latentRooted x (ix3 b i k) = x (ix3 b i k) * rootInv fun k => x (ix3 b i k) := by
  pointwise [latentRooted, Cert.Proj.rootInv]

theorem latentGained_apply (x : FVec Ideal S2x8192x256 .f32) (g : FVec Ideal S4x256 .f32) (b : Fin 2) (i : Fin 8192) (k : Fin 256) :
    latentGained x g (ix3 b i k) = x (ix3 b i k) * g (ix2 3 k) := by
  pointwise [latentGained]

theorem latentWeights_apply (u : FVec Ideal S4x256x1024 .f32) (a : Fin 256) (j : Fin 1024) : latentWeights u (ix2 a j) = u (ix3 3 a j) := by
  pointwise [latentWeights]

theorem latentThrough_apply (y : FVec Ideal S2x8192x256 .f32) (u : FVec Ideal S256x1024 .f32) (b : Fin 2) (i : Fin 8192) (j : Fin 1024) :
    latentThrough y u (ix3 b i j) = ∑ a : Fin 256, y (ix3 b i a) * u (ix2 a j) := by
  pointwise [latentThrough]

theorem values_apply (x : FVec Ideal S2x8192x1024 .f32) (b : Fin 2) (h : Fin 8) (d : Fin 64) (i : Fin 8192) :
    values x (ix4 b h d i) = x (ix3 b i ⟨128 * h + 64 + d, by omega⟩) := by
  pointwise [values]
  exact congrArg (fun q => x (ix3 b i q)) (Fin.ext (by simp only; omega))

end Cert.Reference3Ideal.Proj

end
-- ==== Proof.Proj.QuerySpec.lean ====
/-
# The unrotated part of a query

The queries' latents are normed on their own, and an entry is their product with a column of weights.
-/
module

public import proofs.«01_k».proof.Proof.Proj.LatentSpec

@[expose] public section

noncomputable section

namespace Cert.Proj

open Idealize.ShloMosaic

/-- One over the root of the queries' latents' mean square plus a small number. -/
def queryInv (y : Fin 384 → EReal) : EReal :=
  Ideal.rsqrt (Ideal.div (∑ k : Fin 384, y k * y k) (Ideal.ofBits .f32 0x43C00000#32) + Ideal.ofBits .f32 0x358637BD#32)

/-- The latents `y`, normed with gains `g`, through the weights `w`. -/
def query (y g w : Fin 384 → EReal) : EReal := ∑ a : Fin 384, y a * queryInv y * g a * w a

/-- Columns of zeros give zero. -/
theorem column_zero (x g sc sh : Fin 1024 → EReal) : column x g sc sh (fun _ => 0) = 0 := by
  simp [column]

/-- The constant folded into the queries divides out again. -/
theorem scaled_back (x : EReal) : Ideal.div (x * Ideal.ofBits .f32 0x3E16C740#32) (Ideal.ofBits .f32 0x3E16C740#32) = x := by
  have e : Ideal.ofBits .f32 0x3E16C740#32 = ((9881408 / 67108864 : ℝ) : EReal) := by
    simp [Ideal.ofBits, Ideal.ieee, -EReal.coe_mul]
    norm_num
  have h : (9881408 / 67108864 : ℝ) ≠ 0 := by norm_num
  have h' : ((9881408 / 67108864 : ℝ) : EReal) ≠ 0 := fun q => h (EReal.coe_eq_zero.mp q)
  rw [e]
  unfold Ideal.div
  rw [if_neg h', mul_assoc, ← EReal.coe_inv, ← EReal.coe_mul, mul_inv_cancel₀ h, EReal.coe_one, mul_one]

end Cert.Proj

end
-- ==== Proof.Proj.QueryReads.lean ====
/-
# The reference's operations on the queries and keys, an element at a time
-/
module

public import proofs.«01_k».proof.Proof.Proj.LatentReads
public import proofs.«01_k».proof.Proof.Proj.QuerySpec

@[expose] public section

set_option maxRecDepth 16384

noncomputable section

namespace Cert.Reference3Ideal.Proj

open Cert.Reference3Ideal Cert.Reference3Ideal.Gen Idealize.ShloMosaic
open Cert.Proj (queryInv)

/-- The queries' latents' columns of the projection. -/
def queryLatents (p : FVec Ideal S2x8192x5792 .f32) : FVec Ideal S2x8192x384 .f32 :=
  extractStridedSlice S2x8192x384 ![0, 0, 2048] p slices_S2x8192x5792_S2x8192x384_0_0_2048

/-- Every row of them over the root of its mean square. -/
def queryRooted (x : FVec Ideal S2x8192x384 .f32) : FVec Ideal S2x8192x384 .f32 :=
  mulf x (broadcastInDim S2x8192x384 ![0, 1, 2] bcast_S2x8192x1_S2x8192x384_0_1_2 (Host.rsqrt (addf (Host.divf
    (broadcastInDim S2x8192x1 ![0, 1] bcast_S2x8192_S2x8192x1_0_1
      (Host.reduceAdd (mulf x x) (constant S_ .f32 0x00000000#32) reducesTo_S2x8192x384_S2x8192_d2 h_S_))
    (broadcastInDim S2x8192x1 ![] bcast_S_S2x8192x1 (constant S_ .f32 0x43C00000#32)))
    (broadcastInDim S2x8192x1 ![] bcast_S_S2x8192x1 (constant S_ .f32 0x358637BD#32)))))

/-- The last layer's gains on them. -/
def queryGained (x : FVec Ideal S2x8192x384 .f32) (g : FVec Ideal S4x384 .f32) : FVec Ideal S2x8192x384 .f32 :=
  mulf x (broadcastInDim S2x8192x384 ![0, 1, 2] bcast_S1x1x384_S2x8192x384_0_1_2
    (broadcastInDim S1x1x384 ![2] bcast_S384_S1x1x384_2
      (shapeCast _ (extractStridedSlice S1x384 ![3, 0] g slices_S4x384_S1x384_3_0) shapeCasts_S1x384_S384)))

/-- The last layer's weights of the queries. -/
def queryWeights (u : FVec Ideal S4x384x768 .f32) : FVec Ideal S384x768 .f32 :=
  shapeCast _ (extractStridedSlice S1x384x768 ![3, 0, 0] u slices_S4x384x768_S1x384x768_3_0_0) shapeCasts_S1x384x768_S384x768

/-- The latents `y` through those weights. -/
def queryThrough (y : FVec Ideal S2x8192x384 .f32) (u : FVec Ideal S384x768 .f32) : FVec Ideal S2x8192x768 .f32 :=
  Host.dotGeneral dot_S2x8192x384_S384x768_S2x8192x768_2_0_01_1_n_n none y u

/-- The unrotated entries of each head's query. -/
def queries (x : FVec Ideal S2x8192x768 .f32) : FVec Ideal S2x8192x8x64 .f32 :=
  extractStridedSlice S2x8192x8x64 ![0, 0, 0, 0] (shapeCast S2x8192x8x96 x shapeCasts_S2x8192x768_S2x8192x8x96)
    slices_S2x8192x8x96_S2x8192x8x64_0_0_0_0

/-- The unrotated entries of each head's key. -/
def keys (x : FVec Ideal S2x8192x1024 .f32) : FVec Ideal S2x8192x8x64 .bf16 :=
  truncf .bf16 (extractStridedSlice S2x8192x8x64 ![0, 0, 0, 0] (shapeCast S2x8192x8x128 x shapeCasts_S2x8192x1024_S2x8192x8x128)
    slices_S2x8192x8x128_S2x8192x8x64_0_0_0_0) bitsLt_bf16_f32

theorem queryLatents_apply (p : FVec Ideal S2x8192x5792 .f32) (b : Fin 2) (i : Fin 8192) (j : Fin 384) :
    queryLatents p (ix3 b i j) = p (ix3 b i ⟨2048 + j, by omega⟩) := by
  pointwise [queryLatents]

theorem queryRooted_apply (x : FVec Ideal S2x8192x384 .f32) (b : Fin 2) (i : Fin 8192) (k : Fin 384) :
    queryRooted x (ix3 b i k) = x (ix3 b i k) * queryInv fun k => x (ix3 b i k) := by
  pointwise [queryRooted, Cert.Proj.queryInv]

theorem queryGained_apply (x : FVec Ideal S2x8192x384 .f32) (g : FVec Ideal S4x384 .f32) (b : Fin 2) (i : Fin 8192) (k : Fin 384) :
    queryGained x g (ix3 b i k) = x (ix3 b i k) * g (ix2 3 k) := by
  pointwise [queryGained]

theorem queryWeights_apply (u : FVec Ideal S4x384x768 .f32) (a : Fin 384) (j : Fin 768) : queryWeights u (ix2 a j) = u (ix3 3 a j) := by
  pointwise [queryWeights]

theorem queryThrough_apply (y : FVec Ideal S2x8192x384 .f32) (u : FVec Ideal S384x768 .f32) (b : Fin 2) (i : Fin 8192) (j : Fin 768) :
    queryThrough y u (ix3 b i j) = ∑ a : Fin 384, y (ix3 b i a) * u (ix2 a j) := by
  pointwise [queryThrough]

theorem queries_apply (x : FVec Ideal S2x8192x768 .f32) (b : Fin 2) (i : Fin 8192) (h : Fin 8) (d : Fin 64) :
    queries x (ix4 b i h d) = x (ix3 b i ⟨96 * h + d, by omega⟩) := by
  pointwise [queries]
  exact congrArg (fun q => x (ix3 b i q)) (Fin.ext (by simp only; omega))

theorem keys_apply (x : FVec Ideal S2x8192x1024 .f32) (b : Fin 2) (i : Fin 8192) (h : Fin 8) (d : Fin 64) :
    keys x (ix4 b i h d) = x (ix3 b i ⟨128 * h + d, by omega⟩) := by
  pointwise [keys]
  exact congrArg (fun q => x (ix3 b i q)) (Fin.ext (by simp only; omega))

end Cert.Reference3Ideal.Proj

end
-- ==== Proof.Proj.RefVal.lean ====
/-
# What the reference computes

Three of its results are columns of the projection of Spec at every row, the others its latents normed and through the
weights of values, queries and keys.
-/
module

public import proofs.«01_k».proof.Proof.Proj.RefReads
public import proofs.«01_k».proof.Proof.Proj.LatentReads
public import proofs.«01_k».proof.Proof.Proj.QueryReads
public import proofs.«01_k».proof.Proof.Gen.Reference3Ideal.Run

@[expose] public section

set_option maxRecDepth 16384

noncomputable section

namespace Cert.Reference3Ideal.Proj

open Cert.Reference3Ideal Cert.Reference3Ideal.Gen Idealize.ShloMosaic
open Idealize.SL.Sem Idealize.ShloMosaic.TcCoe
open Cert.Proj (column value query)

variable (x : FVec Ideal S2x8192x1024 .f32) (s : FVec Ideal S2x6144 .f32) (n : FVec Ideal S4x1024 .f32)
  (w : FVec Ideal S4x1024x5792 .f32) (g : FVec Ideal S4x256 .f32) (u : FVec Ideal S4x256x1024 .f32)
  (e : FVec Ideal S4x384 .f32) (uq : FVec Ideal S4x384x768 .f32)

/-- The projection, its steps named. -/
def projected : FVec Ideal S2x8192x5792 .f32 := through (moved (gained (rooted x) n) (modulation s)) (weights w)

/-- Column `j` of the projection at row `i` of batch entry `b`. -/
def columnOf (b : Fin 2) (i : Fin 8192) (j : Fin 5792) : EReal :=
  column (fun k => x (ix3 b i k)) (fun k => n (ix2 3 k)) (fun k => s (ix2 b ⟨1024 + k, by omega⟩)) (fun k => s (ix2 b ⟨k, by omega⟩))
    fun l => w (ix3 3 l j)

theorem projected_apply (b : Fin 2) (i : Fin 8192) (j : Fin 5792) : projected x s n w (ix3 b i j) = columnOf x s n w b i j := by
  unfold projected
  rw [through_apply]
  simp only [moved_apply, gained_apply, rooted_apply, modulation_apply, weights_apply]
  rfl

theorem gates_result (b : Fin 2) (i : Fin 8192) (j : Fin 3072) :
    gates (projected x s n w) (ix3 b i j) = columnOf x s n w b i ⟨2720 + j, by omega⟩ :=
  (gates_apply _ _ _ _).trans (projected_apply ..)

theorem pooling_result (b : Fin 2) (i : Fin 8192) (j : Fin 512) :
    pooling (projected x s n w) (ix3 b i j) = columnOf x s n w b i ⟨j, by omega⟩ :=
  (pooling_apply _ _ _ _).trans (projected_apply ..)

theorem hyena_result (b : Fin 2) (j : Fin 1536) (i : Fin 8192) :
    hyena (projected x s n w) (ix3 b j i) = columnOf x s n w b i ⟨512 + j, by omega⟩ :=
  (hyena_apply _ _ _ _).trans (projected_apply ..)

/-- The latents of the rows normed and through their weights, the steps named. -/
def valued (p : FVec Ideal S2x8192x5792 .f32) : FVec Ideal S2x8x64x8192 .bf16 :=
  values (latentThrough (latentGained (latentRooted (latents p)) g) (latentWeights u))

theorem values_result (b : Fin 2) (h : Fin 8) (d : Fin 64) (i : Fin 8192) :
    valued g u (projected x s n w) (ix4 b h d i)
      = value (fun j => columnOf x s n w b i ⟨2432 + j, by omega⟩) (fun j => g (ix2 3 j)) fun a => u (ix3 3 a ⟨128 * h + 64 + d, by omega⟩) := by
  unfold valued
  rw [values_apply, latentThrough_apply]
  simp only [latentGained_apply, latentRooted_apply, latents_apply, projected_apply, latentWeights_apply]
  rfl

/-- The queries' latents normed and through their weights. -/
def queried (p : FVec Ideal S2x8192x5792 .f32) : FVec Ideal S2x8192x8x64 .f32 :=
  queries (queryThrough (queryGained (queryRooted (queryLatents p)) e) (queryWeights uq))

theorem queries_result (b : Fin 2) (i : Fin 8192) (h : Fin 8) (d : Fin 64) :
    queried e uq (projected x s n w) (ix4 b i h d)
      = query (fun j => columnOf x s n w b i ⟨2048 + j, by omega⟩) (fun j => e (ix2 3 j)) fun a => uq (ix3 3 a ⟨96 * h + d, by omega⟩) := by
  unfold queried
  rw [queries_apply, queryThrough_apply]
  simp only [queryGained_apply, queryRooted_apply, queryLatents_apply, projected_apply, queryWeights_apply]
  rfl

/-- The keys' columns of what gives the values. -/
def keyed (p : FVec Ideal S2x8192x5792 .f32) : FVec Ideal S2x8192x8x64 .bf16 :=
  keys (latentThrough (latentGained (latentRooted (latents p)) g) (latentWeights u))

theorem keys_result (b : Fin 2) (i : Fin 8192) (h : Fin 8) (d : Fin 64) :
    keyed g u (projected x s n w) (ix4 b i h d)
      = value (fun j => columnOf x s n w b i ⟨2432 + j, by omega⟩) (fun j => g (ix2 3 j)) fun a => u (ix3 3 a ⟨128 * h + d, by omega⟩) := by
  unfold keyed
  rw [keys_apply, latentThrough_apply]
  simp only [latentGained_apply, latentRooted_apply, latents_apply, projected_apply, latentWeights_apply]
  rfl

/-- The projection of the reference's own arguments. -/
abbrev given (m : (ℓ : Loc nD τ sig) → Buf (Elt Ideal) ℓ) (c : Dev nD) : FVec Ideal S2x8192x5792 .f32 :=
  projected (m ((c.tc : Thread nD τ).loc main_arg0)) (m ((c.tc : Thread nD τ).loc main_arg1)) (m ((c.tc : Thread nD τ).loc main_arg2))
    (m ((c.tc : Thread nD τ).loc main_arg3))

/-- The reference's run, its results by name. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v75) = gates (given m c)
      ∧ r.2.mem ((c.tc : Thread nD τ).loc main_v76) = pooling (given m c)
      ∧ r.2.mem ((c.tc : Thread nD τ).loc main_v78) = hyena (given m c)
      ∧ r.2.mem ((c.tc : Thread nD τ).loc main_v80) = valued (m ((c.tc : Thread nD τ).loc main_arg6)) (m ((c.tc : Thread nD τ).loc main_arg7)) (given m c)
      ∧ r.2.mem ((c.tc : Thread nD τ).loc main_v81) = queried (m ((c.tc : Thread nD τ).loc main_arg4)) (m ((c.tc : Thread nD τ).loc main_arg5)) (given m c)
      ∧ r.2.mem ((c.tc : Thread nD τ).loc main_v82) = keyed (m ((c.tc : Thread nD τ).loc main_arg6)) (m ((c.tc : Thread nD τ).loc main_arg7)) (given m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans rfl, (h c).2.1.trans rfl, (h c).2.2.1.trans rfl, (h c).2.2.2.1.trans rfl,
    (h c).2.2.2.2.1.trans rfl, (h c).2.2.2.2.2.1.trans rfl, (h c).2.2.2.2.2.2⟩) (Value.run m ρ)

end Cert.Reference3Ideal.Proj

end
-- ==== Proof.Proj.Body.lean ====
/-
# What the body computes, an element at a time
-/
module

public import proofs.«01_k».proof.Proof.Gen.Kernel3Ideal.Skeleton
public import proofs.«01_k».proof.Proof.Proj.Spec

@[expose] public section

set_option maxRecDepth 16384

noncomputable section

namespace Cert.Kernel3Ideal.Proj

open Cert.Kernel3Ideal Cert.Kernel3Ideal.Gen Idealize.ShloMosaic Idealize.ShloMosaic.TcCoe
open Cert.Mlp (normed)

/-- The normed rows. -/
theorem pay3_apply (x : Vec Ideal S1x512x1024 .f32) (g sc sh : Vec Ideal S1x1x1024 .f32) (i : Fin 512) (k : Fin 1024) :
    k0_pay3 x g sc sh (ix2 i k)
      = normed (fun k => x (ix3 0 i k)) (fun k => g (ix3 0 0 k)) (fun k => sc (ix3 0 0 k)) (fun k => sh (ix3 0 0 k)) k := by
  pointwise [k0_pay3, Cert.Mlp.normed, Cert.Mlp.inv]

/-- The pooling's columns. -/
theorem pay4_apply (x : Vec Ideal S1x512x1024 .f32) (g sc sh : Vec Ideal S1x1x1024 .f32) (w : Vec Ideal S1x1024x512 .bf16)
    (i j : Fin 512) :
    k0_pay4 x g sc sh w (ix3 0 i j) = ∑ l : Fin 1024, k0_pay3 x g sc sh (ix2 i l) * w (ix3 0 l j) := by
  pointwise [k0_pay4]

/-- The gates' columns, a third at a time. -/
theorem pay8_apply (y : FVec Ideal S512x1024 .bf16) (w : Vec Ideal S1x1024x1024 .bf16) (i : Fin 512) (j : Fin 1024) :
    k0_pay8 y w (ix3 0 i j) = ∑ l : Fin 1024, y (ix2 i l) * w (ix3 0 l j) := by
  pointwise [k0_pay8]

theorem pay9_apply (y : FVec Ideal S512x1024 .bf16) (w : Vec Ideal S1x1024x1024 .bf16) (i : Fin 512) (j : Fin 1024) :
    k0_pay9 y w (ix3 0 i j) = ∑ l : Fin 1024, y (ix2 i l) * w (ix3 0 l j) := by
  pointwise [k0_pay9]

theorem pay11_apply (y : FVec Ideal S512x1024 .bf16) (w : Vec Ideal S1x1024x1024 .bf16) (i : Fin 512) (j : Fin 1024) :
    k0_pay11 (k0_pay10 y w) (ix3 0 i j) = ∑ l : Fin 1024, y (ix2 i l) * w (ix3 0 l j) := by
  pointwise [k0_pay11, k0_pay10]

/-- The Hyena branch's columns, as rows, a third at a time. -/
theorem pay12_apply (y : FVec Ideal S512x1024 .bf16) (w : Vec Ideal S1x512x1024 .bf16) (r i : Fin 512) :
    k0_pay12 y w (ix3 0 r i) = ∑ l : Fin 1024, y (ix2 i l) * w (ix3 0 r l) := by
  pointwise [k0_pay12]
  exact Finset.sum_congr rfl fun _ _ => mul_comm _ _

theorem pay13_apply (y : FVec Ideal S512x1024 .bf16) (w : Vec Ideal S1x512x1024 .bf16) (r i : Fin 512) :
    k0_pay13 y w (ix3 0 r i) = ∑ l : Fin 1024, y (ix2 i l) * w (ix3 0 r l) := by
  pointwise [k0_pay13]
  exact Finset.sum_congr rfl fun _ _ => mul_comm _ _

theorem pay14_apply (y : FVec Ideal S512x1024 .bf16) (w : Vec Ideal S1x512x1024 .bf16) (r i : Fin 512) :
    k0_pay14 y w (ix3 0 r i) = ∑ l : Fin 1024, y (ix2 i l) * w (ix3 0 r l) := by
  pointwise [k0_pay14]
  exact Finset.sum_congr rfl fun _ _ => mul_comm _ _

end Cert.Kernel3Ideal.Proj

end
-- ==== Proof.Proj.Blocks.lean ====
/-
# Where the blocks lie

Grid point `t` takes batch entry `t / 16` and its rows `512 · (t mod 16)` onwards, and all of the last layer's weights.
-/
module

public import proofs.«01_k».proof.Proof.Gen.Kernel3Ideal.Frame
public import Idealize.ShloMosaic.Lib.Claim
public import Idealize.ShloMosaic.Lib.Pointwise
public import Idealize.ShloMosaic.Lib.Pipeline.ValueKit

@[expose] public section

set_option maxRecDepth 16384

noncomputable section

namespace Cert.Kernel3Ideal.Proj

open Cert.Kernel3Ideal Cert.Kernel3Ideal.Gen Idealize.ShloMosaic Idealize.ShloMosaic.TcCoe

theorem points : grid0.N = 32 := by decide

/-- The batch entry of point `t`. -/
def entryOf (t : Fin cfg0.N) : Fin 2 := ⟨t.val / 16, by have := t.isLt; have e : cfg0.N = 32 := points; omega⟩

/-- Row `i` of point `t`'s block. -/
def rowOf (t : Fin cfg0.N) (i : Fin 512) : Fin 8192 := ⟨512 * (t.val % 16) + i, by omega⟩

theorem at_0 : ∀ t : Fin grid0.N, win0_0.index t = ![t.val / 16, t.val % 16, 0] := by decide +kernel
theorem at_1 : ∀ t : Fin grid0.N, win0_1.index t = ![t.val / 16, 0, 0] := by decide +kernel
theorem at_2 : ∀ t : Fin grid0.N, win0_2.index t = ![t.val / 16, 0, 1] := by decide +kernel
theorem at_3 : ∀ t : Fin grid0.N, win0_3.index t = ![3, 0, 0] := by decide +kernel
theorem at_4 : ∀ t : Fin grid0.N, win0_4.index t = ![3, 0, 0] := by decide +kernel
theorem at_5 : ∀ t : Fin grid0.N, win0_5.index t = ![3, 0, 0] := by decide +kernel
theorem at_16 : ∀ t : Fin grid0.N, win0_16.index t = ![t.val / 16, t.val % 16, 0] := by decide +kernel
theorem at_17 : ∀ t : Fin grid0.N, win0_17.index t = ![t.val / 16, t.val % 16, 0] := by decide +kernel
theorem at_18 : ∀ t : Fin grid0.N, win0_18.index t = ![t.val / 16, 0, t.val % 16] := by decide +kernel

variable (m : (ℓ : Loc nD τ sig) → Buf (Elt Ideal) ℓ) (c : Dev nD) (t : Fin cfg0.N)

/-! Where each window's block places its entries. -/

theorem place_0 (i : Fin 512) (k : Fin 1024) :
    ((cfg0.win 0).blk t).view.emb (ix3 0 i k) = (ix3 (entryOf t) (rowOf t i) k : S2x8192x1024.Idx) := by
  blk_ext [at_0 t, entryOf, rowOf]

theorem place_1 (k : Fin 1024) : ((cfg0.win 1).blk t).view.emb (ix3 0 0 k) = (ix3 (entryOf t) 0 ⟨k, by omega⟩ : S2x1x6144.Idx) := by
  blk_ext [at_1 t, entryOf]

theorem place_2 (k : Fin 1024) :
    ((cfg0.win 2).blk t).view.emb (ix3 0 0 k) = (ix3 (entryOf t) 0 ⟨1024 + k, by omega⟩ : S2x1x6144.Idx) := by
  blk_ext [at_2 t, entryOf]

theorem place_3 (k : Fin 1024) : ((cfg0.win 3).blk t).view.emb (ix3 0 0 k) = (ix3 3 0 k : S4x1x1024.Idx) := by
  blk_ext [at_3 t]

theorem place_4 (l : Fin 1024) (j : Fin 4480) : ((cfg0.win 4).blk t).view.emb (ix3 0 l j) = (ix3 3 l j : S4x1024x4480.Idx) := by
  blk_ext [at_4 t]

theorem place_5 (r : Fin 1536) (l : Fin 1024) : ((cfg0.win 5).blk t).view.emb (ix3 0 r l) = (ix3 3 r l : S4x1536x1024.Idx) := by
  blk_ext [at_5 t]

theorem place_16 (i : Fin 512) (j : Fin 3072) :
    ((cfg0.win 16).blk t).view.emb (ix3 0 i j) = (ix3 (entryOf t) (rowOf t i) j : S2x8192x3072.Idx) := by
  blk_ext [at_16 t, entryOf, rowOf]

theorem place_17 (i j : Fin 512) :
    ((cfg0.win 17).blk t).view.emb (ix3 0 i j) = (ix3 (entryOf t) (rowOf t i) j : S2x8192x512.Idx) := by
  blk_ext [at_17 t, entryOf, rowOf]

theorem place_18 (r : Fin 1536) (i : Fin 512) :
    ((cfg0.win 18).blk t).view.emb (ix3 0 r i) = (ix3 (entryOf t) r (rowOf t i) : S2x1536x8192.Idx) := by
  blk_ext [at_18 t, entryOf, rowOf]

/-! So the input blocks hold what the arrays hold there. -/

theorem read_0 (X : Vec Ideal S2x8192x1024 .f32) (i : Fin 512) (k : Fin 1024) :
    (((cfg0.win 0).blk t).view.read (Elt Ideal) X : Vec Ideal S1x512x1024 .f32) (ix3 0 i k) = X (ix3 (entryOf t) (rowOf t i) k) :=
  congrArg X (place_0 t i k)

theorem block_0 (i : Fin 512) (k : Fin 1024) :
    (iblk m c 0 t : Vec Ideal S1x512x1024 .f32) (ix3 0 i k) = (V m c main_arg0 : Vec Ideal S2x8192x1024 .f32) (ix3 (entryOf t) (rowOf t i) k) :=
  read_0 t (V m c main_arg0) i k

theorem read_1 (X : Vec Ideal S2x1x6144 .f32) (k : Fin 1024) :
    (((cfg0.win 1).blk t).view.read (Elt Ideal) X : Vec Ideal S1x1x1024 .f32) (ix3 0 0 k) = X (ix3 (entryOf t) 0 ⟨k, by omega⟩) :=
  congrArg X (place_1 t k)

theorem block_1 (k : Fin 1024) :
    (iblk m c 1 t : Vec Ideal S1x1x1024 .f32) (ix3 0 0 k) = (V m c main_v110 : Vec Ideal S2x1x6144 .f32) (ix3 (entryOf t) 0 ⟨k, by omega⟩) :=
  read_1 t (V m c main_v110) k

theorem read_2 (X : Vec Ideal S2x1x6144 .f32) (k : Fin 1024) :
    (((cfg0.win 2).blk t).view.read (Elt Ideal) X : Vec Ideal S1x1x1024 .f32) (ix3 0 0 k) = X (ix3 (entryOf t) 0 ⟨1024 + k, by omega⟩) :=
  congrArg X (place_2 t k)

theorem block_2 (k : Fin 1024) :
    (iblk m c 2 t : Vec Ideal S1x1x1024 .f32) (ix3 0 0 k)
      = (V m c main_v110 : Vec Ideal S2x1x6144 .f32) (ix3 (entryOf t) 0 ⟨1024 + k, by omega⟩) :=
  read_2 t (V m c main_v110) k

theorem read_3 (X : Vec Ideal S4x1x1024 .f32) (k : Fin 1024) :
    (((cfg0.win 3).blk t).view.read (Elt Ideal) X : Vec Ideal S1x1x1024 .f32) (ix3 0 0 k) = X (ix3 3 0 k) :=
  congrArg X (place_3 t k)

theorem block_3 (k : Fin 1024) :
    (iblk m c 3 t : Vec Ideal S1x1x1024 .f32) (ix3 0 0 k) = (V m c main_v53 : Vec Ideal S4x1x1024 .f32) (ix3 3 0 k) :=
  read_3 t (V m c main_v53) k

theorem read_4 (X : Vec Ideal S4x1024x4480 .bf16) (l : Fin 1024) (j : Fin 4480) :
    (((cfg0.win 4).blk t).view.read (Elt Ideal) X : Vec Ideal S1x1024x4480 .bf16) (ix3 0 l j) = X (ix3 3 l j) :=
  congrArg X (place_4 t l j)

theorem block_4 (l : Fin 1024) (j : Fin 4480) :
    (iblk m c 4 t : Vec Ideal S1x1024x4480 .bf16) (ix3 0 l j) = (V m c main_v17 : Vec Ideal S4x1024x4480 .bf16) (ix3 3 l j) :=
  read_4 t (V m c main_v17) l j

theorem read_5 (X : Vec Ideal S4x1536x1024 .bf16) (r : Fin 1536) (l : Fin 1024) :
    (((cfg0.win 5).blk t).view.read (Elt Ideal) X : Vec Ideal S1x1536x1024 .bf16) (ix3 0 r l) = X (ix3 3 r l) :=
  congrArg X (place_5 t r l)

theorem block_5 (r : Fin 1536) (l : Fin 1024) :
    (iblk m c 5 t : Vec Ideal S1x1536x1024 .bf16) (ix3 0 r l) = (V m c main_v56 : Vec Ideal S4x1536x1024 .bf16) (ix3 3 r l) :=
  read_5 t (V m c main_v56) r l

end Cert.Kernel3Ideal.Proj

end
-- ==== Proof.Proj.Out.lean ====
/-
# What a grid point leaves of each result

The gates' block is stored a third of its columns at a time, and the Hyena branch's a third of its rows: the loads
and stores of a third are at the same place, so each block is one function of the index.
-/
module

public import proofs.«01_k».proof.Proof.Proj.Body
public import proofs.«01_k».proof.Proof.Proj.Blocks

@[expose] public section

set_option maxRecDepth 16384

noncomputable section

namespace Cert.Kernel3Ideal.Proj

open Cert.Kernel3Ideal Cert.Kernel3Ideal.Gen Idealize.ShloMosaic Idealize.ShloMosaic.TcCoe
open Cert.Mlp (normed)
open Cert.Proj (column)

variable (x0 : Vec Ideal S1x512x1024 .f32) (x1 x2 x3 : Vec Ideal S1x1x1024 .f32) (x4 : Vec Ideal S1x1024x4480 .bf16)
  (x5 : Vec Ideal S1x1536x1024 .bf16) (x6 : Vec Ideal S1x1x384 .f32) (x7 : Vec Ideal S1x1x256 .f32)
  (x8 : Vec Ideal S1x384x2048 .bf16) (x9 : Vec Ideal S1x256x1024 .bf16) (x10 : Vec Ideal S1x640x256 .bf16)
  (x11 : Vec Ideal S1x640x1 .f32) (x12 x13 x14 x15 : Vec Ideal S512x128 .f32)

/-- The block's row `i` through the weights `w`. -/
def rowColumn (w : Fin 1024 → EReal) (i : Fin 512) : EReal :=
  column (fun k => x0 (ix3 0 i k)) (fun k => x3 (ix3 0 0 k)) (fun k => x2 (ix3 0 0 k)) (fun k => x1 (ix3 0 0 k)) w

theorem hz3 : (![0, 0, 0] : Fin 3 → Nat) = fun _ => 0 := funext fun a => by fin_cases a <;> rfl

/-! The weights loaded. -/

theorem load_2 (l : Fin 1024) (j : Fin 512) : View.ld x4 r0_2 (ix3 0 l j) = x4 (ix3 0 l ⟨j, by omega⟩) := by
  rw [View.ld_unit]
  pointwise

theorem load_7 (l j : Fin 1024) : View.ld x4 r0_7 (ix3 0 l j) = x4 (ix3 0 l ⟨1408 + j, by omega⟩) := by
  rw [View.ld_unit]
  pointwise

theorem load_9 (l j : Fin 1024) : View.ld x4 r0_9 (ix3 0 l j) = x4 (ix3 0 l ⟨2432 + j, by omega⟩) := by
  rw [View.ld_unit]
  pointwise

theorem load_11 (l j : Fin 1024) : View.ld x4 r0_11 (ix3 0 l j) = x4 (ix3 0 l ⟨3456 + j, by omega⟩) := by
  rw [View.ld_unit]
  pointwise

theorem load_13 (r : Fin 512) (l : Fin 1024) : View.ld x5 r0_13 (ix3 0 r l) = x5 (ix3 0 ⟨r, by omega⟩ l) := by
  rw [View.ld_unit]
  pointwise

theorem load_15 (r : Fin 512) (l : Fin 1024) : View.ld x5 r0_15 (ix3 0 r l) = x5 (ix3 0 ⟨512 + r, by omega⟩ l) := by
  rw [View.ld_unit]
  pointwise

theorem load_17 (r : Fin 512) (l : Fin 1024) : View.ld x5 r0_17 (ix3 0 r l) = x5 (ix3 0 ⟨1024 + r, by omega⟩ l) := by
  rw [View.ld_unit]
  pointwise

/-! Where a third's entries lie. -/

theorem emb_8 (i : Fin 512) (j : Fin 1024) : r0_8.emb (ix3 0 i j) = (ix3 0 i ⟨j, by omega⟩ : S1x512x3072.Idx) := by
  funext a; fin_cases a <;> exact Fin.ext (by simp [Rect.emb_apply])

theorem emb_10 (i : Fin 512) (j : Fin 1024) : r0_10.emb (ix3 0 i j) = (ix3 0 i ⟨1024 + j, by omega⟩ : S1x512x3072.Idx) := by
  funext a; fin_cases a <;> exact Fin.ext (by simp [Rect.emb_apply])

theorem emb_12 (i : Fin 512) (j : Fin 1024) : r0_12.emb (ix3 0 i j) = (ix3 0 i ⟨2048 + j, by omega⟩ : S1x512x3072.Idx) := by
  funext a; fin_cases a <;> exact Fin.ext (by simp [Rect.emb_apply])

theorem emb_14 (r i : Fin 512) : r0_14.emb (ix3 0 r i) = (ix3 0 ⟨r, by omega⟩ i : S1x1536x512.Idx) := by
  funext a; fin_cases a <;> exact Fin.ext (by simp [Rect.emb_apply])

theorem emb_16 (r i : Fin 512) : r0_16.emb (ix3 0 r i) = (ix3 0 ⟨512 + r, by omega⟩ i : S1x1536x512.Idx) := by
  funext a; fin_cases a <;> exact Fin.ext (by simp [Rect.emb_apply])

theorem emb_18 (r i : Fin 512) : r0_18.emb (ix3 0 r i) = (ix3 0 ⟨1024 + r, by omega⟩ i : S1x1536x512.Idx) := by
  funext a; fin_cases a <;> exact Fin.ext (by simp [Rect.emb_apply])

/-- The normed rows of the block. -/
theorem rows_apply (i : Fin 512) (k : Fin 1024) :
    k0_pay41 x0 x1 x2 x3 x4 x5 x6 x7 x8 x9 x10 x11 x12 x13 x14 x15 (ix2 i k)
      = normed (fun k => x0 (ix3 0 i k)) (fun k => x3 (ix3 0 0 k)) (fun k => x2 (ix3 0 0 k)) (fun k => x1 (ix3 0 0 k)) k := by
  unfold k0_pay41
  rw [View.ld_unit_zero (S := S1x512x1024) hz3, View.ld_unit_zero (S := S1x1x1024) hz3, View.ld_unit_zero (S := S1x1x1024) hz3,
    View.ld_unit_zero (S := S1x1x1024) hz3, pay3_apply]

/-- The gates' columns at the block's rows. -/
def gatesOf : Vec Ideal S1x512x3072 .bf16 := fun y =>
  rowColumn x0 x1 x2 x3 (fun l => x4 (ix3 0 l ⟨1408 + y 2, by have : (y 2).val < 3072 := (y 2).isLt; omega⟩)) (y 1)

/-- The Hyena branch's columns at the block's rows. -/
def hyenaOf : Vec Ideal S1x1536x512 .f32 := fun y => rowColumn x0 x1 x2 x3 (fun l => x5 (ix3 0 (y 1) l)) (y 2)

theorem gatesOf_apply (i : Fin 512) (j : Fin 3072) :
    gatesOf x0 x1 x2 x3 x4 (ix3 0 i j) = rowColumn x0 x1 x2 x3 (fun l => x4 (ix3 0 l ⟨1408 + j, by omega⟩)) i := rfl

theorem hyenaOf_apply (r : Fin 1536) (i : Fin 512) :
    hyenaOf x0 x1 x2 x3 x5 (ix3 0 r i) = rowColumn x0 x1 x2 x3 (fun l => x5 (ix3 0 r l)) i := rfl

/-- A column of weights at an index of the same value. -/
theorem same_gate (i : Fin 512) (j : Fin 3072) (q : Fin 4480) (h : q.val = 1408 + j) :
    (∑ l : Fin 1024, normed (fun k => x0 (ix3 0 i k)) (fun k => x3 (ix3 0 0 k)) (fun k => x2 (ix3 0 0 k)) (fun k => x1 (ix3 0 0 k)) l
      * x4 (ix3 0 l q)) = gatesOf x0 x1 x2 x3 x4 (ix3 0 i j) := by
  have e : q = ⟨1408 + j.val, Nat.lt_of_le_of_lt (Nat.le_of_eq h.symm) q.isLt⟩ := Fin.ext h
  exact Finset.sum_congr rfl fun l _ => congrArg (_ * ·) (congrArg (fun q => x4 (ix3 0 l q)) e)

theorem indices_gate (x : S1x512x1024.Idx) : ∃ (i : Fin 512) (j : Fin 1024), x = ix3 0 i j :=
  ⟨x 1, x 2, (eq_ix3 x).trans (by congr 1; exact Subsingleton.elim _ _)⟩

theorem indices_hyena (x : S1x512x512.Idx) : ∃ r i : Fin 512, x = ix3 0 r i :=
  ⟨x 1, x 2, (eq_ix3 x).trans (by congr 1; exact Subsingleton.elim _ _)⟩

/-- Each third stored of the gates is that of `gatesOf`. -/
theorem third_0 (x : S1x512x1024.Idx) :
    k0_pay8 (k0_pay41 x0 x1 x2 x3 x4 x5 x6 x7 x8 x9 x10 x11 x12 x13 x14 x15) (View.ld x4 r0_7) x = gatesOf x0 x1 x2 x3 x4 (r0_8.emb x) := by
  obtain ⟨i, j, rfl⟩ := indices_gate x
  rw [emb_8, pay8_apply]
  refine (Finset.sum_congr rfl fun l _ => congrArg₂ (· * ·) (rows_apply ..) (load_7 x4 l j)).trans ?_
  exact same_gate _ _ _ _ _ i ⟨j, by omega⟩ _ rfl

theorem third_1 (x : S1x512x1024.Idx) :
    k0_pay9 (k0_pay41 x0 x1 x2 x3 x4 x5 x6 x7 x8 x9 x10 x11 x12 x13 x14 x15) (View.ld x4 r0_9) x = gatesOf x0 x1 x2 x3 x4 (r0_10.emb x) := by
  obtain ⟨i, j, rfl⟩ := indices_gate x
  rw [emb_10, pay9_apply]
  refine (Finset.sum_congr rfl fun l _ => congrArg₂ (· * ·) (rows_apply ..) (load_9 x4 l j)).trans ?_
  exact same_gate _ _ _ _ _ i ⟨1024 + j, by omega⟩ _ (by simp only; omega)

theorem third_2 (x : S1x512x1024.Idx) :
    k0_pay11 (k0_pay10 (k0_pay41 x0 x1 x2 x3 x4 x5 x6 x7 x8 x9 x10 x11 x12 x13 x14 x15) (View.ld x4 r0_11)) x = gatesOf x0 x1 x2 x3 x4 (r0_12.emb x) := by
  obtain ⟨i, j, rfl⟩ := indices_gate x
  rw [emb_12, pay11_apply]
  refine (Finset.sum_congr rfl fun l _ => congrArg₂ (· * ·) (rows_apply ..) (load_11 x4 l j)).trans ?_
  exact same_gate _ _ _ _ _ i ⟨2048 + j, by omega⟩ _ (by simp only; omega)

/-- Each third stored of the Hyena branch is that of `hyenaOf`. -/
theorem rows_0 (x : S1x512x512.Idx) :
    k0_pay12 (k0_pay41 x0 x1 x2 x3 x4 x5 x6 x7 x8 x9 x10 x11 x12 x13 x14 x15) (View.ld x5 r0_13) x = hyenaOf x0 x1 x2 x3 x5 (r0_14.emb x) := by
  obtain ⟨r, i, rfl⟩ := indices_hyena x
  rw [emb_14, pay12_apply]
  exact Finset.sum_congr rfl fun l _ => congrArg₂ (· * ·) (rows_apply ..) (load_13 x5 r l)

theorem rows_1 (x : S1x512x512.Idx) :
    k0_pay13 (k0_pay41 x0 x1 x2 x3 x4 x5 x6 x7 x8 x9 x10 x11 x12 x13 x14 x15) (View.ld x5 r0_15) x = hyenaOf x0 x1 x2 x3 x5 (r0_16.emb x) := by
  obtain ⟨r, i, rfl⟩ := indices_hyena x
  rw [emb_16, pay13_apply]
  exact Finset.sum_congr rfl fun l _ => congrArg₂ (· * ·) (rows_apply ..) (load_15 x5 r l)

theorem rows_2 (x : S1x512x512.Idx) :
    k0_pay14 (k0_pay41 x0 x1 x2 x3 x4 x5 x6 x7 x8 x9 x10 x11 x12 x13 x14 x15) (View.ld x5 r0_17) x = hyenaOf x0 x1 x2 x3 x5 (r0_18.emb x) := by
  obtain ⟨r, i, rfl⟩ := indices_hyena x
  rw [emb_18, pay14_apply]
  exact Finset.sum_congr rfl fun l _ => congrArg₂ (· * ·) (rows_apply ..) (load_17 x5 r l)

theorem out_gates (y : S1x512x3072.Idx) : out0_16 x0 x1 x2 x3 x4 x5 x6 x7 x8 x9 x10 x11 x12 x13 x14 x15 y = gatesOf x0 x1 x2 x3 x4 y := by
  unfold out0_16
  refine View.canon_apply_of_pieces (gatesOf x0 x1 x2 x3 x4) _ ?_ y (cover0_16 _ _ _ _)
  intro pc hpc
  rcases List.mem_cons.mp hpc with rfl | hpc
  · exact fun x => third_2 x0 x1 x2 x3 x4 x5 x6 x7 x8 x9 x10 x11 x12 x13 x14 x15 x
  rcases List.mem_cons.mp hpc with rfl | hpc
  · exact fun x => third_1 x0 x1 x2 x3 x4 x5 x6 x7 x8 x9 x10 x11 x12 x13 x14 x15 x
  rcases List.mem_cons.mp hpc with rfl | hpc
  · exact fun x => third_0 x0 x1 x2 x3 x4 x5 x6 x7 x8 x9 x10 x11 x12 x13 x14 x15 x
  nomatch hpc

theorem out_hyena (y : S1x1536x512.Idx) : out0_18 x0 x1 x2 x3 x4 x5 x6 x7 x8 x9 x10 x11 x12 x13 x14 x15 y = hyenaOf x0 x1 x2 x3 x5 y := by
  unfold out0_18
  refine View.canon_apply_of_pieces (hyenaOf x0 x1 x2 x3 x5) _ ?_ y (cover0_18 _ _ _ _)
  intro pc hpc
  rcases List.mem_cons.mp hpc with rfl | hpc
  · exact fun x => rows_2 x0 x1 x2 x3 x4 x5 x6 x7 x8 x9 x10 x11 x12 x13 x14 x15 x
  rcases List.mem_cons.mp hpc with rfl | hpc
  · exact fun x => rows_1 x0 x1 x2 x3 x4 x5 x6 x7 x8 x9 x10 x11 x12 x13 x14 x15 x
  rcases List.mem_cons.mp hpc with rfl | hpc
  · exact fun x => rows_0 x0 x1 x2 x3 x4 x5 x6 x7 x8 x9 x10 x11 x12 x13 x14 x15 x
  nomatch hpc

/-- The pooling's columns are stored whole. -/
theorem out_pooling (i j : Fin 512) :
    out0_17 x0 x1 x2 x3 x4 x5 x6 x7 x8 x9 x10 x11 x12 x13 x14 x15 (ix3 0 i j) = rowColumn x0 x1 x2 x3 (fun l => x4 (ix3 0 l ⟨j, by omega⟩)) i := by
  unfold out0_17
  rw [View.canon_unit_zero hz3, View.ld_unit_zero (S := S1x512x1024) hz3, View.ld_unit_zero (S := S1x1x1024) hz3,
    View.ld_unit_zero (S := S1x1x1024) hz3, View.ld_unit_zero (S := S1x1x1024) hz3, pay4_apply]
  exact Finset.sum_congr rfl fun l _ => congrArg₂ (· * ·) (pay3_apply ..) (load_2 x4 l j)

end Cert.Kernel3Ideal.Proj

end
-- ==== Proof.Proj.LatentBody.lean ====
/-
# What the body computes of the values, an element at a time
-/
module

public import proofs.«01_k».proof.Proof.Proj.Out
public import proofs.«01_k».proof.Proof.Proj.LatentSpec

@[expose] public section

set_option maxRecDepth 16384

noncomputable section

namespace Cert.Kernel3Ideal.Proj

open Cert.Kernel3Ideal Cert.Kernel3Ideal.Gen Idealize.ShloMosaic Idealize.ShloMosaic.TcCoe
open Cert.Mlp (normed)
open Cert.Proj (column latent value)

/-- The latents. -/
theorem pay6_apply (y : FVec Ideal S512x1024 .bf16) (w : Vec Ideal S1x1024x256 .bf16) (i : Fin 512) (j : Fin 256) :
    k0_pay6 y w (ix2 i j) = ∑ l : Fin 1024, y (ix2 i l) * w (ix3 0 l j) := by
  pointwise [k0_pay6]

/-- The latents normed. -/
theorem pay29_apply (y : FVec Ideal S512x256 .f32) (g : Vec Ideal S1x1x256 .f32) (i : Fin 512) (j : Fin 256) :
    k0_pay29 y g (ix2 i j) = latent (fun j => y (ix2 i j)) (fun j => g (ix3 0 0 j)) j := by
  pointwise [k0_pay29, Cert.Proj.latent, Cert.Proj.rootInv]

/-- The values, as rows, with the column added to each row. -/
theorem pay2_apply (y : FVec Ideal S512x256 .bf16) (w : Vec Ideal S1x640x256 .bf16) (o : Vec Ideal S1x640x1 .f32) (r : Fin 640)
    (i : Fin 512) : k0_pay2 y w o (ix3 0 r i) = (∑ a : Fin 256, y (ix2 i a) * w (ix3 0 r a)) + o (ix3 0 r 0) := by
  pointwise [k0_pay2]
  exact congrArg (· + _) (Finset.sum_congr rfl fun _ _ => mul_comm _ _)

variable (x0 : Vec Ideal S1x512x1024 .f32) (x1 x2 x3 : Vec Ideal S1x1x1024 .f32) (x4 : Vec Ideal S1x1024x4480 .bf16)
  (x5 : Vec Ideal S1x1536x1024 .bf16) (x6 : Vec Ideal S1x1x384 .f32) (x7 : Vec Ideal S1x1x256 .f32)
  (x8 : Vec Ideal S1x384x2048 .bf16) (x9 : Vec Ideal S1x256x1024 .bf16) (x10 : Vec Ideal S1x640x256 .bf16)
  (x11 : Vec Ideal S1x640x1 .f32) (x12 x13 x14 x15 : Vec Ideal S512x128 .f32)

theorem load_5 (l : Fin 1024) (j : Fin 256) : View.ld x4 r0_5 (ix3 0 l j) = x4 (ix3 0 l ⟨896 + j, by omega⟩) := by
  rw [View.ld_unit]
  pointwise

/-- The block's latents are columns of the projection. -/
theorem latents_apply (i : Fin 512) (j : Fin 256) :
    k0_pay42 x0 x1 x2 x3 x4 x5 x6 x7 x8 x9 x10 x11 x12 x13 x14 x15 (ix2 i j)
      = rowColumn x0 x1 x2 x3 (fun l => x4 (ix3 0 l ⟨896 + j, by omega⟩)) i := by
  unfold k0_pay42
  rw [pay6_apply]
  exact Finset.sum_congr rfl fun l _ => congrArg₂ (· * ·) (rows_apply ..) (load_5 x4 l j)

/-- The values are stored whole. -/
theorem out_values (r : Fin 640) (i : Fin 512) :
    out0_21 x0 x1 x2 x3 x4 x5 x6 x7 x8 x9 x10 x11 x12 x13 x14 x15 (ix3 0 r i)
      = value (fun j => rowColumn x0 x1 x2 x3 (fun l => x4 (ix3 0 l ⟨896 + j, by omega⟩)) i) (fun j => x7 (ix3 0 0 j))
          (fun a => x10 (ix3 0 r a)) + x11 (ix3 0 r 0) := by
  unfold out0_21
  rw [View.canon_unit_zero hz3, View.ld_unit_zero (S := S1x1x256) hz3, View.ld_unit_zero (S := S1x640x256) hz3,
    View.ld_unit_zero (S := S1x640x1) hz3, pay2_apply]
  simp only [pay29_apply, latents_apply]
  rfl

end Cert.Kernel3Ideal.Proj

end
-- ==== Proof.Proj.QueryBody.lean ====
/-
# What the body computes of the queries and keys, an element at a time

Each head has 128 lanes. A query's lane is a column of the product times the cosine table, and the column 1024 further
on times the sine table. A key's lane is a column of the product, and what the rotated lanes, common to all heads, add.
-/
module

public import proofs.«01_k».proof.Proof.Proj.LatentBody
public import proofs.«01_k».proof.Proof.Proj.QuerySpec

@[expose] public section

set_option maxRecDepth 16384

noncomputable section

namespace Cert.Kernel3Ideal.Proj

open Cert.Kernel3Ideal Cert.Kernel3Ideal.Gen Idealize.ShloMosaic Idealize.ShloMosaic.TcCoe
open Cert.Proj (query queryInv latent value)

/-- The lanes of the queries from the products `p` and the tables. -/
def mix (p : FVec Ideal S512x2048 .f32) (co si : Vec Ideal S512x128 .f32) : Vec Ideal S1x512x1024 .bf16 := fun y =>
  p (ix2 (y 1) ⟨(y 2).val, by have : (y 2).val < 1024 := (y 2).isLt; omega⟩) * co (ix2 (y 1) ⟨(y 2).val % 128, by omega⟩)
    + p (ix2 (y 1) ⟨1024 + (y 2).val, by have : (y 2).val < 1024 := (y 2).isLt; omega⟩) * si (ix2 (y 1) ⟨(y 2).val % 128, by omega⟩)

theorem mix_apply (p : FVec Ideal S512x2048 .f32) (co si : Vec Ideal S512x128 .f32) (i : Fin 512) (q : Fin 1024) :
    mix p co si (ix3 0 i q) = p (ix2 i ⟨q, by omega⟩) * co (ix2 i ⟨q.val % 128, by omega⟩)
      + p (ix2 i ⟨1024 + q, by omega⟩) * si (ix2 i ⟨q.val % 128, by omega⟩) := rfl

/-- The lanes of the keys from the products `p` and the rotated lanes. -/
def join (p : FVec Ideal S512x1024 .f32) (ro : FVec Ideal S512x128 .f32) : Vec Ideal S1x512x1024 .bf16 := fun y =>
  p (ix2 (y 1) (y 2)) + ro (ix2 (y 1) ⟨(y 2).val % 128, by omega⟩)

theorem join_apply (p : FVec Ideal S512x1024 .f32) (ro : FVec Ideal S512x128 .f32) (i : Fin 512) (q : Fin 1024) :
    join p ro (ix3 0 i q) = p (ix2 i q) + ro (ix2 i ⟨q.val % 128, by omega⟩) := rfl

/-- Lane `j` of the head whose lanes begin at `o`. -/
theorem mix_at (p : FVec Ideal S512x2048 .f32) (co si : Vec Ideal S512x128 .f32) (i : Fin 512) (j : Fin 128) (o : Nat) (q : Fin 1024)
    (a b : Fin 2048) (ho : o % 128 = 0) (hq : q.val = o + j) (ha : a.val = o + j) (hb : b.val = 1024 + o + j) :
    p (ix2 i a) * co (ix2 i j) + p (ix2 i b) * si (ix2 i j) = mix p co si (ix3 0 i q) := by
  have e : (⟨q.val % 128, by omega⟩ : Fin 128) = j := Fin.ext (by simp only; omega)
  have ea : (⟨q, by omega⟩ : Fin 2048) = a := Fin.ext (by simp only; omega)
  have eb : (⟨1024 + q, by omega⟩ : Fin 2048) = b := Fin.ext (by simp only; omega)
  rw [mix_apply, e, ea, eb]

theorem join_at (p : FVec Ideal S512x1024 .f32) (ro : FVec Ideal S512x128 .f32) (i : Fin 512) (j : Fin 128) (o : Nat) (q : Fin 1024)
    (a : Fin 1024) (ho : o % 128 = 0) (hq : q.val = o + j) (ha : a.val = o + j) :
    p (ix2 i a) + ro (ix2 i j) = join p ro (ix3 0 i q) := by
  have e : (⟨q.val % 128, by omega⟩ : Fin 128) = j := Fin.ext (by simp only; omega)
  have ea : q = a := Fin.ext (by omega)
  rw [join_apply, e, ea]

/-! Where a head's lanes lie. -/

theorem lanes_0 (i : Fin 512) (j : Fin 128) : r0_22.emb (ix3 0 i j) = (ix3 0 i ⟨0 + j, by omega⟩ : S1x512x1024.Idx) := by
  funext a; fin_cases a <;> exact Fin.ext (by simp [Rect.emb_apply])
theorem lanes_1 (i : Fin 512) (j : Fin 128) : r0_23.emb (ix3 0 i j) = (ix3 0 i ⟨128 + j, by omega⟩ : S1x512x1024.Idx) := by
  funext a; fin_cases a <;> exact Fin.ext (by simp [Rect.emb_apply])
theorem lanes_2 (i : Fin 512) (j : Fin 128) : r0_24.emb (ix3 0 i j) = (ix3 0 i ⟨256 + j, by omega⟩ : S1x512x1024.Idx) := by
  funext a; fin_cases a <;> exact Fin.ext (by simp [Rect.emb_apply])
theorem lanes_3 (i : Fin 512) (j : Fin 128) : r0_25.emb (ix3 0 i j) = (ix3 0 i ⟨384 + j, by omega⟩ : S1x512x1024.Idx) := by
  funext a; fin_cases a <;> exact Fin.ext (by simp [Rect.emb_apply])
theorem lanes_4 (i : Fin 512) (j : Fin 128) : r0_26.emb (ix3 0 i j) = (ix3 0 i ⟨512 + j, by omega⟩ : S1x512x1024.Idx) := by
  funext a; fin_cases a <;> exact Fin.ext (by simp [Rect.emb_apply])
theorem lanes_5 (i : Fin 512) (j : Fin 128) : r0_27.emb (ix3 0 i j) = (ix3 0 i ⟨640 + j, by omega⟩ : S1x512x1024.Idx) := by
  funext a; fin_cases a <;> exact Fin.ext (by simp [Rect.emb_apply])
theorem lanes_6 (i : Fin 512) (j : Fin 128) : r0_28.emb (ix3 0 i j) = (ix3 0 i ⟨768 + j, by omega⟩ : S1x512x1024.Idx) := by
  funext a; fin_cases a <;> exact Fin.ext (by simp [Rect.emb_apply])
theorem lanes_7 (i : Fin 512) (j : Fin 128) : r0_29.emb (ix3 0 i j) = (ix3 0 i ⟨896 + j, by omega⟩ : S1x512x1024.Idx) := by
  funext a; fin_cases a <;> exact Fin.ext (by simp [Rect.emb_apply])

theorem indices_lanes (x : S1x512x128.Idx) : ∃ (i : Fin 512) (j : Fin 128), x = ix3 0 i j :=
  ⟨x 1, x 2, (eq_ix3 x).trans (by congr 1; exact Subsingleton.elim _ _)⟩

/-! What is stored for each head of the queries: the first three name the products by what they are computed from. -/

section
variable (l : FVec Ideal S512x384 .f32) (g : Vec Ideal S1x1x384 .f32) (w : Vec Ideal S1x384x2048 .bf16)
  (p : FVec Ideal S512x2048 .f32) (co si : Vec Ideal S512x128 .f32) (x : S1x512x128.Idx)

theorem query_0 : k0_pay19 l g w co si x = mix (k0_pay16 l g w) co si (r0_22.emb x) := by
  obtain ⟨i, j, rfl⟩ := indices_lanes x
  rw [lanes_0]
  refine Eq.trans (b := k0_pay16 l g w (ix2 i ⟨0 + j, by omega⟩) * co (ix2 i j) + k0_pay16 l g w (ix2 i ⟨1024 + j, by omega⟩) * si (ix2 i j)) ?_ ?_
  · pointwise [k0_pay19, k0_pay17, k0_pay18]
  · exact mix_at _ _ _ i j 0 _ _ _ rfl rfl rfl rfl

theorem query_1 : k0_pay20 l g w co si x = mix (k0_pay16 l g w) co si (r0_23.emb x) := by
  obtain ⟨i, j, rfl⟩ := indices_lanes x
  rw [lanes_1]
  refine Eq.trans (b := k0_pay16 l g w (ix2 i ⟨128 + j, by omega⟩) * co (ix2 i j) + k0_pay16 l g w (ix2 i ⟨1152 + j, by omega⟩) * si (ix2 i j)) ?_ ?_
  · pointwise [k0_pay20, k0_pay17, k0_pay18]
  · exact mix_at _ _ _ i j 128 _ _ _ rfl rfl rfl rfl

theorem query_2 : k0_pay22 (k0_pay21 l g w co si) x = mix (k0_pay16 l g w) co si (r0_24.emb x) := by
  obtain ⟨i, j, rfl⟩ := indices_lanes x
  rw [lanes_2]
  refine Eq.trans (b := k0_pay16 l g w (ix2 i ⟨256 + j, by omega⟩) * co (ix2 i j) + k0_pay16 l g w (ix2 i ⟨1280 + j, by omega⟩) * si (ix2 i j)) ?_ ?_
  · pointwise [k0_pay22, k0_pay21, k0_pay17, k0_pay18]
  · exact mix_at _ _ _ i j 256 _ _ _ rfl rfl rfl rfl

theorem query_3 : k0_pay23 p co si x = mix p co si (r0_25.emb x) := by
  obtain ⟨i, j, rfl⟩ := indices_lanes x
  rw [lanes_3]
  refine Eq.trans (b := p (ix2 i ⟨384 + j, by omega⟩) * co (ix2 i j) + p (ix2 i ⟨1408 + j, by omega⟩) * si (ix2 i j)) ?_ ?_
  · pointwise [k0_pay23]
  · exact mix_at _ _ _ i j 384 _ _ _ rfl rfl rfl rfl

theorem query_4 : k0_pay24 p co si x = mix p co si (r0_26.emb x) := by
  obtain ⟨i, j, rfl⟩ := indices_lanes x
  rw [lanes_4]
  refine Eq.trans (b := p (ix2 i ⟨512 + j, by omega⟩) * co (ix2 i j) + p (ix2 i ⟨1536 + j, by omega⟩) * si (ix2 i j)) ?_ ?_
  · pointwise [k0_pay24]
  · exact mix_at _ _ _ i j 512 _ _ _ rfl rfl rfl rfl

theorem query_5 : k0_pay25 p co si x = mix p co si (r0_27.emb x) := by
  obtain ⟨i, j, rfl⟩ := indices_lanes x
  rw [lanes_5]
  refine Eq.trans (b := p (ix2 i ⟨640 + j, by omega⟩) * co (ix2 i j) + p (ix2 i ⟨1664 + j, by omega⟩) * si (ix2 i j)) ?_ ?_
  · pointwise [k0_pay25]
  · exact mix_at _ _ _ i j 640 _ _ _ rfl rfl rfl rfl

theorem query_6 : k0_pay26 p co si x = mix p co si (r0_28.emb x) := by
  obtain ⟨i, j, rfl⟩ := indices_lanes x
  rw [lanes_6]
  refine Eq.trans (b := p (ix2 i ⟨768 + j, by omega⟩) * co (ix2 i j) + p (ix2 i ⟨1792 + j, by omega⟩) * si (ix2 i j)) ?_ ?_
  · pointwise [k0_pay26]
  · exact mix_at _ _ _ i j 768 _ _ _ rfl rfl rfl rfl

theorem query_7 : k0_pay28 (k0_pay27 p co si) x = mix p co si (r0_29.emb x) := by
  obtain ⟨i, j, rfl⟩ := indices_lanes x
  rw [lanes_7]
  refine Eq.trans (b := p (ix2 i ⟨896 + j, by omega⟩) * co (ix2 i j) + p (ix2 i ⟨1920 + j, by omega⟩) * si (ix2 i j)) ?_ ?_
  · pointwise [k0_pay28, k0_pay27]
  · exact mix_at _ _ _ i j 896 _ _ _ rfl rfl rfl rfl

end

/-! What is stored for each head of the keys. -/

section
variable (l ro' : FVec Ideal S512x256 .f32) (g : Vec Ideal S1x1x256 .f32) (w : Vec Ideal S1x256x1024 .bf16)
  (p : FVec Ideal S512x1024 .f32) (ro : FVec Ideal S512x128 .f32) (co si : Vec Ideal S512x128 .f32) (x : S1x512x128.Idx)

theorem key_0 : k0_pay32 l ro' g w co si x = join (k0_pay30 l g w) (k0_pay31 ro' co si) (r0_22.emb x) := by
  obtain ⟨i, j, rfl⟩ := indices_lanes x
  rw [lanes_0]
  refine Eq.trans (b := k0_pay30 l g w (ix2 i ⟨0 + j, by omega⟩) + k0_pay31 ro' co si (ix2 i j)) ?_ ?_
  · pointwise [k0_pay32]
  · exact join_at _ _ i j 0 _ _ rfl rfl rfl

theorem key_1 : k0_pay34 (k0_pay33 l ro' g w co si) x = join (k0_pay30 l g w) (k0_pay31 ro' co si) (r0_23.emb x) := by
  obtain ⟨i, j, rfl⟩ := indices_lanes x
  rw [lanes_1]
  refine Eq.trans (b := k0_pay30 l g w (ix2 i ⟨128 + j, by omega⟩) + k0_pay31 ro' co si (ix2 i j)) ?_ ?_
  · pointwise [k0_pay34, k0_pay33]
  · exact join_at _ _ i j 128 _ _ rfl rfl rfl

theorem key_2 : k0_pay35 p ro x = join p ro (r0_24.emb x) := by
  obtain ⟨i, j, rfl⟩ := indices_lanes x
  rw [lanes_2]
  refine Eq.trans (b := p (ix2 i ⟨256 + j, by omega⟩) + ro (ix2 i j)) ?_ ?_
  · pointwise [k0_pay35]
  · exact join_at _ _ i j 256 _ _ rfl rfl rfl

theorem key_3 : k0_pay36 p ro x = join p ro (r0_25.emb x) := by
  obtain ⟨i, j, rfl⟩ := indices_lanes x
  rw [lanes_3]
  refine Eq.trans (b := p (ix2 i ⟨384 + j, by omega⟩) + ro (ix2 i j)) ?_ ?_
  · pointwise [k0_pay36]
  · exact join_at _ _ i j 384 _ _ rfl rfl rfl

theorem key_4 : k0_pay37 p ro x = join p ro (r0_26.emb x) := by
  obtain ⟨i, j, rfl⟩ := indices_lanes x
  rw [lanes_4]
  refine Eq.trans (b := p (ix2 i ⟨512 + j, by omega⟩) + ro (ix2 i j)) ?_ ?_
  · pointwise [k0_pay37]
  · exact join_at _ _ i j 512 _ _ rfl rfl rfl

theorem key_5 : k0_pay38 p ro x = join p ro (r0_27.emb x) := by
  obtain ⟨i, j, rfl⟩ := indices_lanes x
  rw [lanes_5]
  refine Eq.trans (b := p (ix2 i ⟨640 + j, by omega⟩) + ro (ix2 i j)) ?_ ?_
  · pointwise [k0_pay38]
  · exact join_at _ _ i j 640 _ _ rfl rfl rfl

theorem key_6 : k0_pay39 p ro x = join p ro (r0_28.emb x) := by
  obtain ⟨i, j, rfl⟩ := indices_lanes x
  rw [lanes_6]
  refine Eq.trans (b := p (ix2 i ⟨768 + j, by omega⟩) + ro (ix2 i j)) ?_ ?_
  · pointwise [k0_pay39]
  · exact join_at _ _ i j 768 _ _ rfl rfl rfl

theorem key_7 : k0_pay1 (k0_pay40 p ro) x = join p ro (r0_29.emb x) := by
  obtain ⟨i, j, rfl⟩ := indices_lanes x
  rw [lanes_7]
  refine Eq.trans (b := p (ix2 i ⟨896 + j, by omega⟩) + ro (ix2 i j)) ?_ ?_
  · pointwise [k0_pay1, k0_pay40]
  · exact join_at _ _ i j 896 _ _ rfl rfl rfl

end

/-! The products and the rotated lanes. -/

theorem pay5_apply (y : FVec Ideal S512x1024 .bf16) (w : Vec Ideal S1x1024x384 .bf16) (i : Fin 512) (j : Fin 384) :
    k0_pay5 y w (ix2 i j) = ∑ l : Fin 1024, y (ix2 i l) * w (ix3 0 l j) := by
  pointwise [k0_pay5]

theorem pay7_apply (y : FVec Ideal S512x1024 .bf16) (w : Vec Ideal S1x1024x256 .bf16) (i : Fin 512) (j : Fin 256) :
    k0_pay7 y w (ix2 i j) = ∑ l : Fin 1024, y (ix2 i l) * w (ix3 0 l j) := by
  pointwise [k0_pay7]

theorem pay15_apply (y : FVec Ideal S512x384 .f32) (i : Fin 512) (j : Fin 384) :
    k0_pay15 y (ix2 i j) = y (ix2 i j) * queryInv fun j => y (ix2 i j) := by
  pointwise [k0_pay15, Cert.Proj.queryInv]

theorem pay16_apply (y : FVec Ideal S512x384 .f32) (g : Vec Ideal S1x1x384 .f32) (w : Vec Ideal S1x384x2048 .bf16) (i : Fin 512)
    (n : Fin 2048) : k0_pay16 y g w (ix2 i n) = ∑ a : Fin 384, y (ix2 i a) * g (ix3 0 0 a) * w (ix3 0 a n) := by
  pointwise [k0_pay16]

theorem pay30_apply (y : FVec Ideal S512x256 .f32) (g : Vec Ideal S1x1x256 .f32) (w : Vec Ideal S1x256x1024 .bf16) (i : Fin 512)
    (n : Fin 1024) : k0_pay30 y g w (ix2 i n) = ∑ a : Fin 256, k0_pay29 y g (ix2 i a) * w (ix3 0 a n) := by
  pointwise [k0_pay30]

theorem pay31_apply (y : FVec Ideal S512x256 .f32) (co si : Vec Ideal S512x128 .f32) (i : Fin 512) (j : Fin 128) :
    k0_pay31 y co si (ix2 i j) = y (ix2 i ⟨j, by omega⟩) * co (ix2 i j) + y (ix2 i ⟨128 + j, by omega⟩) * si (ix2 i j) := by
  pointwise [k0_pay31]

end Cert.Kernel3Ideal.Proj

end
-- ==== Proof.Proj.QueryOut.lean ====
/-
# What the body leaves of the queries and keys

The eight heads' pieces cover their arrays, and each is that of one function of the block.
-/
module

public import proofs.«01_k».proof.Proof.Proj.QueryBody

@[expose] public section

set_option maxRecDepth 16384

noncomputable section

namespace Cert.Kernel3Ideal.Proj

open Cert.Kernel3Ideal Cert.Kernel3Ideal.Gen Idealize.ShloMosaic Idealize.ShloMosaic.TcCoe
open Cert.Proj (query queryInv latent value)

variable (x0 : Vec Ideal S1x512x1024 .f32) (x1 x2 x3 : Vec Ideal S1x1x1024 .f32) (x4 : Vec Ideal S1x1024x4480 .bf16)
  (x5 : Vec Ideal S1x1536x1024 .bf16) (x6 : Vec Ideal S1x1x384 .f32) (x7 : Vec Ideal S1x1x256 .f32)
  (x8 : Vec Ideal S1x384x2048 .bf16) (x9 : Vec Ideal S1x256x1024 .bf16) (x10 : Vec Ideal S1x640x256 .bf16)
  (x11 : Vec Ideal S1x640x1 .f32) (x12 x13 x14 x15 : Vec Ideal S512x128 .f32)

theorem hz2 : (![0, 0] : Fin 2 → Nat) = fun _ => 0 := by funext a; fin_cases a <;> rfl

theorem load_4 (l : Fin 1024) (j : Fin 384) : View.ld x4 r0_4 (ix3 0 l j) = x4 (ix3 0 l ⟨512 + j, by omega⟩) := by
  rw [View.ld_unit]
  pointwise

theorem load_6 (l : Fin 1024) (j : Fin 256) : View.ld x4 r0_6 (ix3 0 l j) = x4 (ix3 0 l ⟨1152 + j, by omega⟩) := by
  rw [View.ld_unit]
  pointwise

/-- The queries' latents over the root of their mean square. -/
theorem queryLatents_apply (i : Fin 512) (j : Fin 384) :
    k0_pay44 x0 x1 x2 x3 x4 x5 x6 x7 x8 x9 x10 x11 x12 x13 x14 x15 (ix2 i j)
      = rowColumn x0 x1 x2 x3 (fun l => x4 (ix3 0 l ⟨512 + j, by omega⟩)) i
        * queryInv fun j => rowColumn x0 x1 x2 x3 (fun l => x4 (ix3 0 l ⟨512 + j, by omega⟩)) i := by
  have e : ∀ j : Fin 384, k0_pay5 (k0_pay41 x0 x1 x2 x3 x4 x5 x6 x7 x8 x9 x10 x11 x12 x13 x14 x15) (View.ld x4 r0_4) (ix2 i j)
      = rowColumn x0 x1 x2 x3 (fun l => x4 (ix3 0 l ⟨512 + j, by omega⟩)) i := fun j =>
    (pay5_apply ..).trans (Finset.sum_congr rfl fun l _ => congrArg₂ (· * ·) (rows_apply ..) (load_4 x4 l j))
  unfold k0_pay44
  rw [pay15_apply]
  simp only [e]

/-- The products of the queries. -/
theorem queryProducts_apply (i : Fin 512) (n : Fin 2048) :
    k0_pay45 x0 x1 x2 x3 x4 x5 x6 x7 x8 x9 x10 x11 x12 x13 x14 x15 (ix2 i n)
      = query (fun j => rowColumn x0 x1 x2 x3 (fun l => x4 (ix3 0 l ⟨512 + j, by omega⟩)) i) (fun a => x6 (ix3 0 0 a))
          fun a => x8 (ix3 0 a n) := by
  unfold k0_pay45
  rw [View.ld_unit_zero (S := S1x1x384) hz3, View.ld_unit_zero (S := S1x384x2048) hz3, pay16_apply]
  simp only [queryLatents_apply]
  rfl

/-- The products of the keys. -/
theorem keyProducts_apply (i : Fin 512) (n : Fin 1024) :
    k0_pay48 x0 x1 x2 x3 x4 x5 x6 x7 x8 x9 x10 x11 x12 x13 x14 x15 (ix2 i n)
      = value (fun j => rowColumn x0 x1 x2 x3 (fun l => x4 (ix3 0 l ⟨896 + j, by omega⟩)) i) (fun a => x7 (ix3 0 0 a))
          fun a => x9 (ix3 0 a n) := by
  unfold k0_pay48
  rw [View.ld_unit_zero (S := S1x1x256) hz3, View.ld_unit_zero (S := S1x256x1024) hz3, pay30_apply]
  simp only [pay29_apply, latents_apply]
  rfl

/-- The keys' rotated lanes, the same for all heads. -/
theorem turned_lanes (i : Fin 512) (d : Fin 128) :
    k0_pay49 x0 x1 x2 x3 x4 x5 x6 x7 x8 x9 x10 x11 x12 x13 x14 x15 (ix2 i d)
      = rowColumn x0 x1 x2 x3 (fun l => x4 (ix3 0 l ⟨1152 + d, by omega⟩)) i * x14 (ix2 i d)
        + rowColumn x0 x1 x2 x3 (fun l => x4 (ix3 0 l ⟨1280 + d, by omega⟩)) i * x15 (ix2 i d) := by
  have e : ∀ j : Fin 256, k0_pay43 x0 x1 x2 x3 x4 x5 x6 x7 x8 x9 x10 x11 x12 x13 x14 x15 (ix2 i j)
      = rowColumn x0 x1 x2 x3 (fun l => x4 (ix3 0 l ⟨1152 + j, by omega⟩)) i := fun j => by
    unfold k0_pay43
    exact (pay7_apply ..).trans (Finset.sum_congr rfl fun l _ => congrArg₂ (· * ·) (rows_apply ..) (load_6 x4 l j))
  unfold k0_pay49
  rw [View.ld_unit_zero (S := S512x128) hz2, View.ld_unit_zero (S := S512x128) hz2, pay31_apply, e, e]
  refine congrArg (_ + rowColumn x0 x1 x2 x3 · i * _) (funext fun l => congrArg (fun q => x4 (ix3 0 l q)) (Fin.ext ?_))
  simp only
  omega

theorem table_12 : k0_pay46 x0 x1 x2 x3 x4 x5 x6 x7 x8 x9 x10 x11 x12 x13 x14 x15 = x12 := by
  unfold k0_pay46
  rw [View.ld_unit_zero (S := S512x128) hz2]
  funext y
  obtain ⟨i, j, rfl⟩ : ∃ (i : Fin 512) (j : Fin 128), y = ix2 i j := ⟨y 0, y 1, eq_ix2 y⟩
  pointwise [k0_pay17]

theorem table_13 : k0_pay47 x0 x1 x2 x3 x4 x5 x6 x7 x8 x9 x10 x11 x12 x13 x14 x15 = x13 := by
  unfold k0_pay47
  rw [View.ld_unit_zero (S := S512x128) hz2]
  funext y
  obtain ⟨i, j, rfl⟩ : ∃ (i : Fin 512) (j : Fin 128), y = ix2 i j := ⟨y 0, y 1, eq_ix2 y⟩
  pointwise [k0_pay18]

/-- The lanes of the queries. -/
theorem out_queries (y : S1x512x1024.Idx) :
    out0_19 x0 x1 x2 x3 x4 x5 x6 x7 x8 x9 x10 x11 x12 x13 x14 x15 y
      = mix (k0_pay45 x0 x1 x2 x3 x4 x5 x6 x7 x8 x9 x10 x11 x12 x13 x14 x15) x12 x13 y := by
  unfold out0_19
  rw [table_12, table_13, View.ld_unit_zero (S := S512x128) hz2, View.ld_unit_zero (S := S512x128) hz2]
  refine View.canon_apply_of_pieces (mix (k0_pay45 x0 x1 x2 x3 x4 x5 x6 x7 x8 x9 x10 x11 x12 x13 x14 x15) x12 x13) _ ?_ y
    (cover0_19 _ _ _ _ _ _ _ _ _)
  intro pc hpc
  rcases List.mem_cons.mp hpc with rfl | hpc
  · exact fun x => query_7 _ _ _ x
  rcases List.mem_cons.mp hpc with rfl | hpc
  · exact fun x => query_6 _ _ _ x
  rcases List.mem_cons.mp hpc with rfl | hpc
  · exact fun x => query_5 _ _ _ x
  rcases List.mem_cons.mp hpc with rfl | hpc
  · exact fun x => query_4 _ _ _ x
  rcases List.mem_cons.mp hpc with rfl | hpc
  · exact fun x => query_3 _ _ _ x
  rcases List.mem_cons.mp hpc with rfl | hpc
  · exact fun x => query_2 _ _ _ _ _ x
  rcases List.mem_cons.mp hpc with rfl | hpc
  · exact fun x => query_1 _ _ _ _ _ x
  rcases List.mem_cons.mp hpc with rfl | hpc
  · exact fun x => query_0 _ _ _ _ _ x
  nomatch hpc

/-- The lanes of the keys. -/
theorem out_keys (y : S1x512x1024.Idx) :
    out0_20 x0 x1 x2 x3 x4 x5 x6 x7 x8 x9 x10 x11 x12 x13 x14 x15 y
      = join (k0_pay48 x0 x1 x2 x3 x4 x5 x6 x7 x8 x9 x10 x11 x12 x13 x14 x15)
          (k0_pay49 x0 x1 x2 x3 x4 x5 x6 x7 x8 x9 x10 x11 x12 x13 x14 x15) y := by
  unfold out0_20
  refine View.canon_apply_of_pieces (join (k0_pay48 x0 x1 x2 x3 x4 x5 x6 x7 x8 x9 x10 x11 x12 x13 x14 x15)
    (k0_pay49 x0 x1 x2 x3 x4 x5 x6 x7 x8 x9 x10 x11 x12 x13 x14 x15)) _ ?_ y (cover0_20 _ _ _ _ _ _ _ _ _)
  intro pc hpc
  rcases List.mem_cons.mp hpc with rfl | hpc
  · exact fun x => key_7 _ _ x
  rcases List.mem_cons.mp hpc with rfl | hpc
  · exact fun x => key_6 _ _ x
  rcases List.mem_cons.mp hpc with rfl | hpc
  · exact fun x => key_5 _ _ x
  rcases List.mem_cons.mp hpc with rfl | hpc
  · exact fun x => key_4 _ _ x
  rcases List.mem_cons.mp hpc with rfl | hpc
  · exact fun x => key_3 _ _ x
  rcases List.mem_cons.mp hpc with rfl | hpc
  · exact fun x => key_2 _ _ x
  rcases List.mem_cons.mp hpc with rfl | hpc
  · exact fun x => key_1 _ _ _ _ _ _ x
  rcases List.mem_cons.mp hpc with rfl | hpc
  · exact fun x => key_0 _ _ _ _ _ _ x
  nomatch hpc

/-- Lane `q` of the queries at row `i` of the block. -/
theorem queryLane_apply (i : Fin 512) (q : Fin 1024) :
    out0_19 x0 x1 x2 x3 x4 x5 x6 x7 x8 x9 x10 x11 x12 x13 x14 x15 (ix3 0 i q)
      = query (fun j => rowColumn x0 x1 x2 x3 (fun l => x4 (ix3 0 l ⟨512 + j, by omega⟩)) i) (fun a => x6 (ix3 0 0 a))
          (fun a => x8 (ix3 0 a ⟨q, by omega⟩)) * x12 (ix2 i ⟨q.val % 128, by omega⟩)
        + query (fun j => rowColumn x0 x1 x2 x3 (fun l => x4 (ix3 0 l ⟨512 + j, by omega⟩)) i) (fun a => x6 (ix3 0 0 a))
          (fun a => x8 (ix3 0 a ⟨1024 + q, by omega⟩)) * x13 (ix2 i ⟨q.val % 128, by omega⟩) := by
  rw [out_queries, mix_apply, queryProducts_apply, queryProducts_apply]

/-- Lane `q` of the keys at row `i` of the block. -/
theorem keyLane_apply (i : Fin 512) (q : Fin 1024) :
    out0_20 x0 x1 x2 x3 x4 x5 x6 x7 x8 x9 x10 x11 x12 x13 x14 x15 (ix3 0 i q)
      = value (fun j => rowColumn x0 x1 x2 x3 (fun l => x4 (ix3 0 l ⟨896 + j, by omega⟩)) i) (fun a => x7 (ix3 0 0 a))
          (fun a => x9 (ix3 0 a q))
        + (rowColumn x0 x1 x2 x3 (fun l => x4 (ix3 0 l ⟨1152 + q.val % 128, by omega⟩)) i * x14 (ix2 i ⟨q.val % 128, by omega⟩)
          + rowColumn x0 x1 x2 x3 (fun l => x4 (ix3 0 l ⟨1280 + q.val % 128, by omega⟩)) i * x15 (ix2 i ⟨q.val % 128, by omega⟩)) := by
  rw [out_keys, join_apply, keyProducts_apply, turned_lanes]

end Cert.Kernel3Ideal.Proj

end
-- ==== Proof.Proj.Host.lean ====
/-
# What the call is handed

The host adds axes of length one to the gains and the modulation, and lays the projection's columns out anew: the
pooling's columns come first, the gates' come from 1408 on, and the Hyena branch's are rows of an array of their own.
-/
module

public import proofs.«01_k».proof.Proof.Proj.Blocks

@[expose] public section

set_option maxRecDepth 16384

noncomputable section

namespace Cert.Kernel3Ideal.Proj

open Cert.Kernel3Ideal Cert.Kernel3Ideal.Gen Idealize.ShloMosaic Idealize.ShloMosaic.TcCoe

variable (m : (ℓ : Loc nD τ sig) → Buf (Elt Ideal) ℓ) (c : Dev nD)

/-- The arguments that count. -/
abbrev argH : FVec Ideal S2x8192x1024 .f32 := m ((c : Thread nD τ).loc main_arg0)
abbrev argM : FVec Ideal S2x6144 .f32 := m ((c : Thread nD τ).loc main_arg1)
abbrev argN : FVec Ideal S4x1024 .f32 := m ((c : Thread nD τ).loc main_arg2)
abbrev argW : FVec Ideal S4x1024x5792 .f32 := m ((c : Thread nD τ).loc main_arg3)

/-- The gains of the four layers, with an axis added. -/
def gains (x : FVec Ideal S4x1024 .f32) : FVec Ideal S4x1x1024 .f32 :=
  broadcastInDim S4x1x1024 ![0, 2] bcast_S4x1024_S4x1x1024_0_2 x

theorem gains_apply (x : FVec Ideal S4x1024 .f32) (l : Fin 4) (k : Fin 1024) : gains x (ix3 l 0 k) = x (ix2 l k) := by
  pointwise [gains]

/-- The modulation, with an axis added. -/
def modulation (x : FVec Ideal S2x6144 .f32) : FVec Ideal S2x1x6144 .f32 :=
  broadcastInDim S2x1x6144 ![0, 2] bcast_S2x6144_S2x1x6144_0_2 x

theorem modulation_apply (x : FVec Ideal S2x6144 .f32) (b : Fin 2) (k : Fin 6144) : modulation x (ix3 b 0 k) = x (ix2 b k) := by
  pointwise [modulation]

/-- The columns in their new order, those of the latents and of the rotated keys in between. -/
def laid (w : FVec Ideal S4x1024x5792 .f32) (q : FVec Ideal S4x1024x384 .f32) (kv : FVec Ideal S4x1024x256 .f32)
    (z : FVec Ideal S4x1024x64 .f32) (k : FVec Ideal S4x1024x32 .f32) (z' : FVec Ideal S4x1024x32 .f32)
    (z'' : FVec Ideal S4x1024x64 .f32) (r : FVec Ideal S4x1024x32 .f32) (z''' : FVec Ideal S4x1024x32 .f32) :
    FVec Ideal S4x1024x4480 .bf16 :=
  truncf .bf16 (concatenate S4x1024x4480 2
    [⟨S4x1024x512, extractStridedSlice S4x1024x512 ![0, 0, 0] w slices_S4x1024x5792_S4x1024x512_0_0_0⟩, ⟨S4x1024x384, q⟩,
      ⟨S4x1024x256, kv⟩, ⟨S4x1024x64, z⟩, ⟨S4x1024x32, k⟩, ⟨S4x1024x32, z'⟩, ⟨S4x1024x64, z''⟩, ⟨S4x1024x32, r⟩,
      ⟨S4x1024x32, z'''⟩,
      ⟨S4x1024x3072, extractStridedSlice S4x1024x3072 ![0, 0, 2720] w slices_S4x1024x5792_S4x1024x3072_0_0_2720⟩]
    concatenates_S4x1024x512_S4x1024x384_S4x1024x256_S4x1024x64_S4x1024x32_S4x1024x32_S4x1024x64_S4x1024x32_S4x1024x32_S4x1024x3072_S4x1024x4480_d2)
    bitsLt_bf16_f32

section
variable (w : FVec Ideal S4x1024x5792 .f32) (q : FVec Ideal S4x1024x384 .f32) (kv : FVec Ideal S4x1024x256 .f32)
  (z z'' : FVec Ideal S4x1024x64 .f32) (k z' r z''' : FVec Ideal S4x1024x32 .f32)

theorem laid_pooling (a : Fin 4) (l : Fin 1024) (j : Fin 512) :
    laid w q kv z k z' z'' r z''' (ix3 a l ⟨j, by omega⟩) = w (ix3 a l ⟨j, by omega⟩) := by
  pointwise [laid]

theorem laid_gates (a : Fin 4) (l : Fin 1024) (j : Fin 3072) :
    laid w q kv z k z' z'' r z''' (ix3 a l ⟨1408 + j, by omega⟩) = w (ix3 a l ⟨2720 + j, by omega⟩) := by
  pointwise [laid]
  rw [dif_neg (by omega), dif_neg (by omega), dif_neg (by omega), dif_neg (by omega), dif_neg (by omega), dif_neg (by omega),
    dif_neg (by omega), dif_neg (by omega), dif_neg (by omega)]
  exact congrArg (fun j => w (ix3 a l j)) (Fin.ext (by simp only; omega))

end

/-- The Hyena branch's columns, as rows. -/
def turned (w : FVec Ideal S4x1024x5792 .f32) : FVec Ideal S4x1536x1024 .bf16 :=
  truncf .bf16 (transpose S4x1536x1024 [0, 2, 1]
    (extractStridedSlice S4x1024x1536 ![0, 0, 512] w slices_S4x1024x5792_S4x1024x1536_0_0_512) transposes_S4x1024x1536_S4x1536x1024_0_2_1)
    bitsLt_bf16_f32

theorem turned_apply (w : FVec Ideal S4x1024x5792 .f32) (a : Fin 4) (r : Fin 1536) (l : Fin 1024) :
    turned w (ix3 a r l) = w (ix3 a l ⟨512 + r, by omega⟩) := by
  pointwise [turned]

/-- What the call finds in a buffer is what the operations before it left there. -/
theorem left_by (b : Ref sig .tc) : V m c b = StableHlo.after hostOps0 (fun b => m (c, b)) (Proc.devRef .tc b) := by
  show StableHlo.after (List.flatten [hostOps0]) _ _ = _
  rw [List.flatten_cons, List.flatten_nil, List.append_nil]

theorem entry_h : V m c main_arg0 = argH m c := V_main_arg0 m c

theorem entry_n : V m c main_v53 = gains (argN m c) := by
  unfold gains
  refine (left_by m c _).trans ?_
  unfold_abbrev_sides
  after_results_simp

theorem entry_m : V m c main_v110 = modulation (argM m c) := by
  unfold modulation
  refine (left_by m c _).trans ?_
  unfold_abbrev_sides
  after_results_simp

theorem entry_t : V m c main_v56 = turned (argW m c) := by
  unfold turned
  refine (left_by m c _).trans ?_
  unfold_abbrev_sides
  after_results_simp

/-- The keys' columns that are rotated. -/
def turning (w : FVec Ideal S4x1024x5792 .f32) : FVec Ideal S4x1024x32 .f32 :=
  extractStridedSlice S4x1024x32 ![0, 0, 2688] w slices_S4x1024x5792_S4x1024x32_0_0_2688

/-- Those columns with the halves of each axis swapped and the first one negated. -/
def swapped (k : FVec Ideal S4x1024x32 .f32) : FVec Ideal S4x1024x32 .f32 :=
  concatenate S4x1024x32 2 [⟨S4x1024x8, Host.negf (extractStridedSlice S4x1024x8 ![0, 0, 8] k slices_S4x1024x32_S4x1024x8_0_0_8)⟩,
    ⟨S4x1024x8, extractStridedSlice S4x1024x8 ![0, 0, 0] k slices_S4x1024x32_S4x1024x8_0_0_0⟩,
    ⟨S4x1024x8, Host.negf (extractStridedSlice S4x1024x8 ![0, 0, 24] k slices_S4x1024x32_S4x1024x8_0_0_24)⟩,
    ⟨S4x1024x8, extractStridedSlice S4x1024x8 ![0, 0, 16] k slices_S4x1024x32_S4x1024x8_0_0_16⟩]
    concatenates_S4x1024x8_S4x1024x8_S4x1024x8_S4x1024x8_S4x1024x32_d2

theorem entry_w : V m c main_v17 = laid (argW m c)
    (extractStridedSlice S4x1024x384 ![0, 0, 2048] (argW m c) slices_S4x1024x5792_S4x1024x384_0_0_2048)
    (extractStridedSlice S4x1024x256 ![0, 0, 2432] (argW m c) slices_S4x1024x5792_S4x1024x256_0_0_2432)
    (broadcastInDim S4x1024x64 ![] bcast_S_S4x1024x64 (constant S_ .f32 0x00000000#32)) (turning (argW m c))
    (broadcastInDim S4x1024x32 ![] bcast_S_S4x1024x32 (constant S_ .f32 0x00000000#32))
    (broadcastInDim S4x1024x64 ![] bcast_S_S4x1024x64 (constant S_ .f32 0x00000000#32)) (swapped (turning (argW m c)))
    (broadcastInDim S4x1024x32 ![] bcast_S_S4x1024x32 (constant S_ .f32 0x00000000#32)) := by
  unfold laid swapped turning
  refine (left_by m c _).trans ?_
  unfold_abbrev_sides
  after_results_simp
  rfl

end Cert.Kernel3Ideal.Proj

end
-- ==== Proof.Proj.LatentHost.lean ====
/-
# What the call is handed for the values

The values' weights come as rows, eighty a head: sixty-four of the values, then sixteen of zeros. A column added to
them is zero on the first sixty-four of each head.
-/
module

public import proofs.«01_k».proof.Proof.Proj.Host

@[expose] public section

set_option maxRecDepth 16384

noncomputable section

namespace Cert.Kernel3Ideal.Proj

open Cert.Kernel3Ideal Cert.Kernel3Ideal.Gen Idealize.ShloMosaic Idealize.ShloMosaic.TcCoe

theorem at_7 : ∀ t : Fin grid0.N, win0_7.index t = ![3, 0, 0] := by decide +kernel
theorem at_10 : ∀ t : Fin grid0.N, win0_10.index t = ![3, 0, 0] := by decide +kernel
theorem at_11 : ∀ t : Fin grid0.N, win0_11.index t = ![0, 0, 0] := by decide +kernel
theorem at_21 : ∀ t : Fin grid0.N, win0_21.index t = ![t.val / 16, 0, t.val % 16] := by decide +kernel

variable (m : (ℓ : Loc nD τ sig) → Buf (Elt Ideal) ℓ) (c : Dev nD) (t : Fin cfg0.N)

theorem place_7 (j : Fin 256) : ((cfg0.win 7).blk t).view.emb (ix3 0 0 j) = (ix3 3 0 j : S4x1x256.Idx) := by
  blk_ext [at_7 t]

theorem place_10 (r : Fin 640) (a : Fin 256) : ((cfg0.win 10).blk t).view.emb (ix3 0 r a) = (ix3 3 r a : S4x640x256.Idx) := by
  blk_ext [at_10 t]

theorem place_11 (r : Fin 640) : ((cfg0.win 11).blk t).view.emb (ix3 0 r 0) = (ix3 0 r 0 : S1x640x1.Idx) := by
  blk_ext [at_11 t]

theorem place_21 (r : Fin 640) (i : Fin 512) :
    ((cfg0.win 21).blk t).view.emb (ix3 0 r i) = (ix3 (entryOf t) r (rowOf t i) : S2x640x8192.Idx) := by
  blk_ext [at_21 t, entryOf, rowOf]

theorem read_7 (X : Vec Ideal S4x1x256 .f32) (j : Fin 256) :
    (((cfg0.win 7).blk t).view.read (Elt Ideal) X : Vec Ideal S1x1x256 .f32) (ix3 0 0 j) = X (ix3 3 0 j) :=
  congrArg X (place_7 t j)

theorem block_7 (j : Fin 256) :
    (iblk m c 7 t : Vec Ideal S1x1x256 .f32) (ix3 0 0 j) = (V m c main_v58 : Vec Ideal S4x1x256 .f32) (ix3 3 0 j) :=
  read_7 t (V m c main_v58) j

theorem read_10 (X : Vec Ideal S4x640x256 .bf16) (r : Fin 640) (a : Fin 256) :
    (((cfg0.win 10).blk t).view.read (Elt Ideal) X : Vec Ideal S1x640x256 .bf16) (ix3 0 r a) = X (ix3 3 r a) :=
  congrArg X (place_10 t r a)

theorem block_10 (r : Fin 640) (a : Fin 256) :
    (iblk m c 10 t : Vec Ideal S1x640x256 .bf16) (ix3 0 r a) = (V m c main_v61 : Vec Ideal S4x640x256 .bf16) (ix3 3 r a) :=
  read_10 t (V m c main_v61) r a

theorem read_11 (X : Vec Ideal S1x640x1 .f32) (r : Fin 640) :
    (((cfg0.win 11).blk t).view.read (Elt Ideal) X : Vec Ideal S1x640x1 .f32) (ix3 0 r 0) = X (ix3 0 r 0) :=
  congrArg X (place_11 t r)

theorem block_11 (r : Fin 640) :
    (iblk m c 11 t : Vec Ideal S1x640x1 .f32) (ix3 0 r 0) = (V m c main_v52 : Vec Ideal S1x640x1 .f32) (ix3 0 r 0) :=
  read_11 t (V m c main_v52) r

/-- The arguments that count for the values alone. -/
abbrev argG : FVec Ideal S4x256 .f32 := m ((c : Thread nD τ).loc main_arg6)
abbrev argU : FVec Ideal S4x256x1024 .f32 := m ((c : Thread nD τ).loc main_arg7)

/-- The latents' gains of the four layers, with an axis added. -/
def latentGains (x : FVec Ideal S4x256 .f32) : FVec Ideal S4x1x256 .f32 :=
  broadcastInDim S4x1x256 ![0, 2] bcast_S4x256_S4x1x256_0_2 x

theorem latentGains_apply (x : FVec Ideal S4x256 .f32) (l : Fin 4) (k : Fin 256) : latentGains x (ix3 l 0 k) = x (ix2 l k) := by
  pointwise [latentGains]

/-- Each head's columns of the values, and sixteen zeros after them. -/
def padded (u : FVec Ideal S4x256x1024 .f32) : FVec Ideal S4x256x8x80 .f32 :=
  concatenate S4x256x8x80 3
    [⟨S4x256x8x64, extractStridedSlice S4x256x8x64 ![0, 0, 0, 64] (shapeCast S4x256x8x128 u shapeCasts_S4x256x1024_S4x256x8x128)
        slices_S4x256x8x128_S4x256x8x64_0_0_0_64⟩,
      ⟨S4x256x8x16, broadcastInDim S4x256x8x16 ![] bcast_S_S4x256x8x16 (constant S_ .f32 0x00000000#32)⟩]
    concatenates_S4x256x8x64_S4x256x8x16_S4x256x8x80_d3

/-- Those columns as rows. -/
def flat (u : FVec Ideal S4x256x8x80 .f32) : FVec Ideal S4x640x256 .bf16 :=
  truncf .bf16 (transpose S4x640x256 [0, 2, 1] (shapeCast S4x256x640 u shapeCasts_S4x256x8x80_S4x256x640)
    transposes_S4x256x640_S4x640x256_0_2_1) bitsLt_bf16_f32

theorem padded_apply (u : FVec Ideal S4x256x1024 .f32) (l : Fin 4) (a : Fin 256) (h : Fin 8) (d : Fin 64) :
    padded u (ix4 l a h ⟨d, by omega⟩) = u (ix3 l a ⟨128 * h + 64 + d, by omega⟩) := by
  pointwise [padded]
  exact congrArg (fun q => u (ix3 l a q)) (Fin.ext (by simp only; omega))

theorem flat_apply (u : FVec Ideal S4x256x8x80 .f32) (l : Fin 4) (a : Fin 256) (h : Fin 8) (d : Fin 80) :
    flat u (ix3 l ⟨80 * h + d, by omega⟩ a) = u (ix4 l a h d) := by
  pointwise [flat]

/-- The column that is one at the first row after the values of each head. -/
def marks : FVec Ideal S1x640x1 .f32 :=
  broadcastInDim S1x640x1 ![1] bcast_S640_S1x640x1_1 (shapeCast S640 (broadcastInDim S8x80 ![0, 1] bcast_S1x80_S8x80_0_1
    (shapeCast S1x80 (uitofp (F := Ideal) .f32 (cmpi .eq (iotaInDim S80 32 0) (broadcastInDim S80 ![] bcast_S_S80
      (constantI S_ 32 64#32)))) shapeCasts_S80_S1x80)) shapeCasts_S8x80_S640)

theorem marks_apply (h : Fin 8) (d : Fin 64) : marks (ix3 0 ⟨80 * h + d, by omega⟩ 0) = 0 := by
  pointwise [marks]
  have e : (80 * h.val + d.val) % 80 = d.val := by omega
  rw [e, (by decide : ∀ d : Fin 64, IntOp.cmpi .eq (BitVec.ofNat 32 d.val) 64#32 = 0#1) d]
  simp [FloatOps.uitofp]

theorem entry_g : V m c main_v58 = latentGains (argG m c) := by
  unfold latentGains
  refine (left_by m c _).trans ?_
  unfold_abbrev_sides
  after_results_simp

theorem entry_u : V m c main_v61 = flat (padded (argU m c)) := by
  unfold flat padded
  refine (left_by m c _).trans ?_
  unfold_abbrev_sides
  after_results_simp
  rfl

theorem entry_o : V m c main_v52 = marks := by
  unfold marks
  refine (left_by m c _).trans ?_
  unfold_abbrev_sides
  after_results_simp
  rfl

section
variable (w : FVec Ideal S4x1024x5792 .f32) (q : FVec Ideal S4x1024x384 .f32) (kv : FVec Ideal S4x1024x256 .f32)
  (z z'' : FVec Ideal S4x1024x64 .f32) (k z' r z''' : FVec Ideal S4x1024x32 .f32)

theorem laid_latents (a : Fin 4) (l : Fin 1024) (j : Fin 256) :
    laid w q kv z k z' z'' r z''' (ix3 a l ⟨896 + j, by omega⟩) = kv (ix3 a l j) := by
  pointwise [laid]
  rw [dif_neg (by omega), dif_neg (by omega), dif_pos (by omega)]
  exact congrArg (fun j => kv (ix3 a l j)) (Fin.ext (by simp only; omega))

end

theorem latent_slice (w : FVec Ideal S4x1024x5792 .f32) (a : Fin 4) (l : Fin 1024) (j : Fin 256) :
    extractStridedSlice S4x1024x256 ![0, 0, 2432] w slices_S4x1024x5792_S4x1024x256_0_0_2432 (ix3 a l j)
      = w (ix3 a l ⟨2432 + j, by omega⟩) := by
  pointwise

end Cert.Kernel3Ideal.Proj

end
-- ==== Proof.Proj.QueryHost.lean ====
/-
# What the host prepares of the queries and keys

The weights are padded to 128 lanes a head, and the tables begin each head with 64 lanes that only scale. The rotated
lanes' weights and tables are left as they are.
-/
module

public import proofs.«01_k».proof.Proof.Proj.LatentHost

@[expose] public section

set_option maxRecDepth 16384

noncomputable section

namespace Cert.Kernel3Ideal.Proj

open Cert.Kernel3Ideal Cert.Kernel3Ideal.Gen Idealize.ShloMosaic Idealize.ShloMosaic.TcCoe

theorem at_6 : ∀ t : Fin grid0.N, win0_6.index t = ![3, 0, 0] := by decide +kernel
theorem at_8 : ∀ t : Fin grid0.N, win0_8.index t = ![3, 0, 0] := by decide +kernel
theorem at_9 : ∀ t : Fin grid0.N, win0_9.index t = ![3, 0, 0] := by decide +kernel
theorem at_12 : ∀ t : Fin grid0.N, win0_12.index t = ![t.val % 16, 0] := by decide +kernel
theorem at_13 : ∀ t : Fin grid0.N, win0_13.index t = ![t.val % 16, 0] := by decide +kernel
theorem at_14 : ∀ t : Fin grid0.N, win0_14.index t = ![t.val % 16, 0] := by decide +kernel
theorem at_15 : ∀ t : Fin grid0.N, win0_15.index t = ![t.val % 16, 0] := by decide +kernel
theorem at_19 : ∀ t : Fin grid0.N, win0_19.index t = ![t.val / 16, t.val % 16, 0] := by decide +kernel
theorem at_20 : ∀ t : Fin grid0.N, win0_20.index t = ![t.val / 16, t.val % 16, 0] := by decide +kernel

variable (m : (ℓ : Loc nD τ sig) → Buf (Elt Ideal) ℓ) (c : Dev nD) (t : Fin cfg0.N)

theorem place_6 (j : Fin 384) : ((cfg0.win 6).blk t).view.emb (ix3 0 0 j) = (ix3 3 0 j : S4x1x384.Idx) := by
  blk_ext [at_6 t]

theorem place_8 (a : Fin 384) (n : Fin 2048) : ((cfg0.win 8).blk t).view.emb (ix3 0 a n) = (ix3 3 a n : S4x384x2048.Idx) := by
  blk_ext [at_8 t]

theorem place_9 (a : Fin 256) (n : Fin 1024) : ((cfg0.win 9).blk t).view.emb (ix3 0 a n) = (ix3 3 a n : S4x256x1024.Idx) := by
  blk_ext [at_9 t]

theorem place_12 (i : Fin 512) (d : Fin 128) : ((cfg0.win 12).blk t).view.emb (ix2 i d) = (ix2 (rowOf t i) d : S8192x128.Idx) := by
  blk_ext [at_12 t, rowOf]

theorem place_13 (i : Fin 512) (d : Fin 128) : ((cfg0.win 13).blk t).view.emb (ix2 i d) = (ix2 (rowOf t i) d : S8192x128.Idx) := by
  blk_ext [at_13 t, rowOf]

theorem place_14 (i : Fin 512) (d : Fin 128) : ((cfg0.win 14).blk t).view.emb (ix2 i d) = (ix2 (rowOf t i) d : S8192x128.Idx) := by
  blk_ext [at_14 t, rowOf]

theorem place_15 (i : Fin 512) (d : Fin 128) : ((cfg0.win 15).blk t).view.emb (ix2 i d) = (ix2 (rowOf t i) d : S8192x128.Idx) := by
  blk_ext [at_15 t, rowOf]

theorem place_19 (i : Fin 512) (j : Fin 1024) :
    ((cfg0.win 19).blk t).view.emb (ix3 0 i j) = (ix3 (entryOf t) (rowOf t i) j : S2x8192x1024.Idx) := by
  blk_ext [at_19 t, entryOf, rowOf]

theorem place_20 (i : Fin 512) (j : Fin 1024) :
    ((cfg0.win 20).blk t).view.emb (ix3 0 i j) = (ix3 (entryOf t) (rowOf t i) j : S2x8192x1024.Idx) := by
  blk_ext [at_20 t, entryOf, rowOf]

theorem read_6 (X : Vec Ideal S4x1x384 .f32) (j : Fin 384) :
    (((cfg0.win 6).blk t).view.read (Elt Ideal) X : Vec Ideal S1x1x384 .f32) (ix3 0 0 j) = X (ix3 3 0 j) :=
  congrArg X (place_6 t j)

theorem block_6 (j : Fin 384) :
    (iblk m c 6 t : Vec Ideal S1x1x384 .f32) (ix3 0 0 j) = (V m c main_v57 : Vec Ideal S4x1x384 .f32) (ix3 3 0 j) :=
  read_6 t (V m c main_v57) j

theorem read_8 (X : Vec Ideal S4x384x2048 .bf16) (a : Fin 384) (n : Fin 2048) :
    (((cfg0.win 8).blk t).view.read (Elt Ideal) X : Vec Ideal S1x384x2048 .bf16) (ix3 0 a n) = X (ix3 3 a n) :=
  congrArg X (place_8 t a n)

theorem block_8 (a : Fin 384) (n : Fin 2048) :
    (iblk m c 8 t : Vec Ideal S1x384x2048 .bf16) (ix3 0 a n) = (V m c main_v35 : Vec Ideal S4x384x2048 .bf16) (ix3 3 a n) :=
  read_8 t (V m c main_v35) a n

theorem read_9 (X : Vec Ideal S4x256x1024 .bf16) (a : Fin 256) (n : Fin 1024) :
    (((cfg0.win 9).blk t).view.read (Elt Ideal) X : Vec Ideal S1x256x1024 .bf16) (ix3 0 a n) = X (ix3 3 a n) :=
  congrArg X (place_9 t a n)

theorem block_9 (a : Fin 256) (n : Fin 1024) :
    (iblk m c 9 t : Vec Ideal S1x256x1024 .bf16) (ix3 0 a n) = (V m c main_v59 : Vec Ideal S4x256x1024 .bf16) (ix3 3 a n) :=
  read_9 t (V m c main_v59) a n

theorem read_12 (X : Vec Ideal S8192x128 .f32) (i : Fin 512) (d : Fin 128) :
    (((cfg0.win 12).blk t).view.read (Elt Ideal) X : Vec Ideal S512x128 .f32) (ix2 i d) = X (ix2 (rowOf t i) d) :=
  congrArg X (place_12 t i d)

theorem block_12 (i : Fin 512) (d : Fin 128) :
    (iblk m c 12 t : Vec Ideal S512x128 .f32) (ix2 i d) = (V m c main_v97 : Vec Ideal S8192x128 .f32) (ix2 (rowOf t i) d) :=
  read_12 t (V m c main_v97) i d

theorem read_13 (X : Vec Ideal S8192x128 .f32) (i : Fin 512) (d : Fin 128) :
    (((cfg0.win 13).blk t).view.read (Elt Ideal) X : Vec Ideal S512x128 .f32) (ix2 i d) = X (ix2 (rowOf t i) d) :=
  congrArg X (place_13 t i d)

theorem block_13 (i : Fin 512) (d : Fin 128) :
    (iblk m c 13 t : Vec Ideal S512x128 .f32) (ix2 i d) = (V m c main_v100 : Vec Ideal S8192x128 .f32) (ix2 (rowOf t i) d) :=
  read_13 t (V m c main_v100) i d

theorem read_14 (X : Vec Ideal S8192x128 .f32) (i : Fin 512) (d : Fin 128) :
    (((cfg0.win 14).blk t).view.read (Elt Ideal) X : Vec Ideal S512x128 .f32) (ix2 i d) = X (ix2 (rowOf t i) d) :=
  congrArg X (place_14 t i d)

theorem block_14 (i : Fin 512) (d : Fin 128) :
    (iblk m c 14 t : Vec Ideal S512x128 .f32) (ix2 i d) = (V m c main_v106 : Vec Ideal S8192x128 .f32) (ix2 (rowOf t i) d) :=
  read_14 t (V m c main_v106) i d

theorem read_15 (X : Vec Ideal S8192x128 .f32) (i : Fin 512) (d : Fin 128) :
    (((cfg0.win 15).blk t).view.read (Elt Ideal) X : Vec Ideal S512x128 .f32) (ix2 i d) = X (ix2 (rowOf t i) d) :=
  congrArg X (place_15 t i d)

theorem block_15 (i : Fin 512) (d : Fin 128) :
    (iblk m c 15 t : Vec Ideal S512x128 .f32) (ix2 i d) = (V m c main_v109 : Vec Ideal S8192x128 .f32) (ix2 (rowOf t i) d) :=
  read_15 t (V m c main_v109) i d

/-- The arguments that count for the queries alone. -/
abbrev argE : FVec Ideal S4x384 .f32 := m ((c : Thread nD τ).loc main_arg4)
abbrev argQ : FVec Ideal S4x384x768 .f32 := m ((c : Thread nD τ).loc main_arg5)

/-- The queries' gains of the four layers, with an axis added. -/
def queryGains (x : FVec Ideal S4x384 .f32) : FVec Ideal S4x1x384 .f32 :=
  broadcastInDim S4x1x384 ![0, 2] bcast_S4x384_S4x1x384_0_2 x

theorem queryGains_apply (x : FVec Ideal S4x384 .f32) (l : Fin 4) (k : Fin 384) : queryGains x (ix3 l 0 k) = x (ix2 l k) := by
  pointwise [queryGains]

theorem entry_e : V m c main_v57 = queryGains (argE m c) := by
  unfold queryGains
  refine (left_by m c _).trans ?_
  unfold_abbrev_sides
  after_results_simp

/-- Each head's columns of the queries, and thirty-two zeros after them. -/
def paddedQueries (u : FVec Ideal S4x384x768 .f32) : FVec Ideal S4x384x8x128 .f32 :=
  concatenate S4x384x8x128 3
    [⟨S4x384x8x96, shapeCast S4x384x8x96 u shapeCasts_S4x384x768_S4x384x8x96⟩,
      ⟨S4x384x8x32, broadcastInDim S4x384x8x32 ![] bcast_S_S4x384x8x32 (constant S_ .f32 0x00000000#32)⟩]
    concatenates_S4x384x8x96_S4x384x8x32_S4x384x8x128_d3

/-- Those columns side by side, and the columns of the rotated lanes after them. -/
def sideBySide (u : FVec Ideal S4x384x8x128 .f32) (r : FVec Ideal S4x384x1024 .f32) : FVec Ideal S4x384x2048 .bf16 :=
  truncf .bf16 (concatenate S4x384x2048 2
    [⟨S4x384x1024, shapeCast S4x384x1024 u shapeCasts_S4x384x8x128_S4x384x1024⟩, ⟨S4x384x1024, r⟩]
    concatenates_S4x384x1024_S4x384x1024_S4x384x2048_d2) bitsLt_bf16_f32

theorem paddedQueries_apply (u : FVec Ideal S4x384x768 .f32) (l : Fin 4) (a : Fin 384) (h : Fin 8) (d : Fin 64) :
    paddedQueries u (ix4 l a h ⟨d, by omega⟩) = u (ix3 l a ⟨96 * h + d, by omega⟩) := by
  pointwise [paddedQueries]
  rw [dif_pos (by omega)]
  exact congrArg (fun q => u (ix3 l a q)) (Fin.ext (by simp only; omega))

theorem sideBySide_apply (u : FVec Ideal S4x384x8x128 .f32) (r : FVec Ideal S4x384x1024 .f32) (l : Fin 4) (a : Fin 384) (h : Fin 8)
    (d : Fin 128) : sideBySide u r (ix3 l a ⟨128 * h + d, by omega⟩) = u (ix4 l a h d) := by
  pointwise [sideBySide]
  rw [dif_pos (by omega)]

theorem entry_q : V m c main_v35 = sideBySide (paddedQueries (argQ m c)) (V m c main_v33) := by
  unfold sideBySide paddedQueries
  rw [left_by m c main_v35, left_by m c main_v33]
  after_results_simp
  rfl

/-- Each head's columns of the keys, and sixty-four zeros after them. -/
def paddedKeys (u : FVec Ideal S4x256x1024 .f32) : FVec Ideal S4x256x1024 .bf16 :=
  truncf .bf16 (shapeCast S4x256x1024 (concatenate S4x256x8x128 3
    [⟨S4x256x8x64, extractStridedSlice S4x256x8x64 ![0, 0, 0, 0] (shapeCast S4x256x8x128 u shapeCasts_S4x256x1024_S4x256x8x128)
        slices_S4x256x8x128_S4x256x8x64_0_0_0_0⟩,
      ⟨S4x256x8x64, broadcastInDim S4x256x8x64 ![] bcast_S_S4x256x8x64 (constant S_ .f32 0x00000000#32)⟩]
    concatenates_S4x256x8x64_S4x256x8x64_S4x256x8x128_d3) shapeCasts_S4x256x8x128_S4x256x1024) bitsLt_bf16_f32

theorem paddedKeys_apply (u : FVec Ideal S4x256x1024 .f32) (l : Fin 4) (a : Fin 256) (h : Fin 8) (d : Fin 64) :
    paddedKeys u (ix3 l a ⟨128 * h + d, by omega⟩) = u (ix3 l a ⟨128 * h + d, by omega⟩) := by
  pointwise [paddedKeys]
  rw [dif_pos (by omega)]
  exact congrArg (fun q => u (ix3 l a q)) (Fin.ext (by simp only; omega))

theorem entry_k : V m c main_v59 = paddedKeys (argU m c) := by
  unfold paddedKeys
  refine (left_by m c _).trans ?_
  unfold_abbrev_sides
  after_results_simp
  rfl

/-- A table: sixty-four lanes of one number, thirty-two of the rotation, thirty-two zeros. -/
def table (n : FVec Ideal S_ .f32) (r : FVec Ideal S8192x32 .f32) : FVec Ideal S8192x128 .f32 :=
  concatenate S8192x128 1 [⟨S8192x64, broadcastInDim S8192x64 ![] bcast_S_S8192x64 n⟩, ⟨S8192x32, r⟩,
    ⟨S8192x32, broadcastInDim S8192x32 ![] bcast_S_S8192x32 (constant S_ .f32 0x00000000#32)⟩]
    concatenates_S8192x64_S8192x32_S8192x32_S8192x128_d1

theorem table_apply (bits : BitVec 32) (r : FVec Ideal S8192x32 .f32) (i : Fin 8192) (d : Fin 64) :
    table (constant S_ .f32 bits) r (ix2 i ⟨d, by omega⟩) = Ideal.ofBits .f32 bits := by
  pointwise [table]

theorem entry_c : V m c main_v97 = table (constant S_ .f32 0x3E16C740#32) (V m c main_v96) := by
  unfold table
  rw [left_by m c main_v97, left_by m c main_v96]
  after_results_simp
  rfl

theorem entry_s : V m c main_v100 = table (constant S_ .f32 0x00000000#32) (V m c main_v99) := by
  unfold table
  rw [left_by m c main_v100, left_by m c main_v99]
  after_results_simp
  rfl

section
variable (w : FVec Ideal S4x1024x5792 .f32) (q : FVec Ideal S4x1024x384 .f32) (kv : FVec Ideal S4x1024x256 .f32)
  (z z'' : FVec Ideal S4x1024x64 .f32) (k z' r z''' : FVec Ideal S4x1024x32 .f32)

theorem laid_queries (a : Fin 4) (l : Fin 1024) (j : Fin 384) :
    laid w q kv z k z' z'' r z''' (ix3 a l ⟨512 + j, by omega⟩) = q (ix3 a l j) := by
  pointwise [laid]

theorem laid_first (a : Fin 4) (l : Fin 1024) (d : Fin 64) :
    laid w q kv z k z' z'' r z''' (ix3 a l ⟨1152 + d, by omega⟩) = z (ix3 a l d) := by
  pointwise [laid]
  rw [dif_neg (by omega), dif_neg (by omega), dif_neg (by omega), dif_pos (by omega)]
  exact congrArg (fun j => z (ix3 a l j)) (Fin.ext (by simp only; omega))

theorem laid_second (a : Fin 4) (l : Fin 1024) (d : Fin 64) :
    laid w q kv z k z' z'' r z''' (ix3 a l ⟨1280 + d, by omega⟩) = z'' (ix3 a l d) := by
  pointwise [laid]
  rw [dif_neg (by omega), dif_neg (by omega), dif_neg (by omega), dif_neg (by omega), dif_neg (by omega), dif_neg (by omega),
    dif_pos (by omega)]
  exact congrArg (fun j => z'' (ix3 a l j)) (Fin.ext (by simp only; omega))

end

theorem query_slice (w : FVec Ideal S4x1024x5792 .f32) (a : Fin 4) (l : Fin 1024) (j : Fin 384) :
    extractStridedSlice S4x1024x384 ![0, 0, 2048] w slices_S4x1024x5792_S4x1024x384_0_0_2048 (ix3 a l j)
      = w (ix3 a l ⟨2048 + j, by omega⟩) := by
  pointwise

theorem none_apply (a : Fin 4) (l : Fin 1024) (j : Fin 64) :
    broadcastInDim S4x1024x64 ![] bcast_S_S4x1024x64 (constant (F := Ideal) S_ .f32 0x00000000#32) (ix3 a l j) = 0 := by
  pointwise

/-- What the call finds of the projection's weights. -/
theorem weights_queries (l : Fin 1024) (j : Fin 384) :
    (V m c main_v17 : Vec Ideal S4x1024x4480 .bf16) (ix3 3 l ⟨512 + j, by omega⟩) = argW m c (ix3 3 l ⟨2048 + j, by omega⟩) :=
  (congrFun (entry_w m c) _).trans ((laid_queries _ _ _ _ _ _ _ _ _ 3 l j).trans (query_slice _ 3 l j))

theorem weights_first (l : Fin 1024) (d : Fin 64) :
    (V m c main_v17 : Vec Ideal S4x1024x4480 .bf16) (ix3 3 l ⟨1152 + d, by omega⟩) = (0 : EReal) :=
  (congrFun (entry_w m c) _).trans ((laid_first _ _ _ _ _ _ _ _ _ 3 l d).trans (none_apply 3 l d))

theorem weights_second (l : Fin 1024) (d : Fin 64) :
    (V m c main_v17 : Vec Ideal S4x1024x4480 .bf16) (ix3 3 l ⟨1280 + d, by omega⟩) = (0 : EReal) :=
  (congrFun (entry_w m c) _).trans ((laid_second _ _ _ _ _ _ _ _ _ 3 l d).trans (none_apply 3 l d))

end Cert.Kernel3Ideal.Proj

end
-- ==== Proof.Proj.Result.lean ====
/-
# What the kernel computes

At every row of the batch, the three results are columns of the projection of Spec.
-/
module

public import proofs.«01_k».proof.Proof.Proj.Out
public import proofs.«01_k».proof.Proof.Proj.Host
public import proofs.«01_k».proof.Proof.Gen.Kernel3Ideal.Frame

@[expose] public section

set_option maxRecDepth 16384

noncomputable section

namespace Cert.Kernel3Ideal.Proj

open Cert.Kernel3Ideal Cert.Kernel3Ideal.Gen Idealize.ShloMosaic Idealize.ShloMosaic.TcCoe
open Cert.Proj (column)

variable (m : (ℓ : Loc nD τ sig) → Buf (Elt Ideal) ℓ) (c : Dev nD) (t : Fin cfg0.N)

/-! The blocks, by the arguments. -/

theorem h_at (i : Fin 512) (k : Fin 1024) :
    (iblk m c 0 t : Vec Ideal S1x512x1024 .f32) (ix3 0 i k) = argH m c (ix3 (entryOf t) (rowOf t i) k) :=
  (block_0 m c t i k).trans (congrFun (entry_h m c) _)

theorem shift_at (k : Fin 1024) :
    (iblk m c 1 t : Vec Ideal S1x1x1024 .f32) (ix3 0 0 k) = argM m c (ix2 (entryOf t) ⟨k, by omega⟩) :=
  (block_1 m c t k).trans ((congrFun (entry_m m c) _).trans (modulation_apply _ _ _))

theorem scale_at (k : Fin 1024) :
    (iblk m c 2 t : Vec Ideal S1x1x1024 .f32) (ix3 0 0 k) = argM m c (ix2 (entryOf t) ⟨1024 + k, by omega⟩) :=
  (block_2 m c t k).trans ((congrFun (entry_m m c) _).trans (modulation_apply _ _ _))

theorem gain_at (k : Fin 1024) : (iblk m c 3 t : Vec Ideal S1x1x1024 .f32) (ix3 0 0 k) = argN m c (ix2 3 k) :=
  (block_3 m c t k).trans ((congrFun (entry_n m c) _).trans (gains_apply _ _ _))

theorem pooling_at (l : Fin 1024) (j : Fin 512) :
    (iblk m c 4 t : Vec Ideal S1x1024x4480 .bf16) (ix3 0 l ⟨j, by omega⟩) = argW m c (ix3 3 l ⟨j, by omega⟩) :=
  (block_4 m c t l _).trans ((congrFun (entry_w m c) _).trans (laid_pooling _ _ _ _ _ _ _ _ _ 3 l j))

theorem gates_at (l : Fin 1024) (j : Fin 3072) :
    (iblk m c 4 t : Vec Ideal S1x1024x4480 .bf16) (ix3 0 l ⟨1408 + j, by omega⟩) = argW m c (ix3 3 l ⟨2720 + j, by omega⟩) :=
  (block_4 m c t l _).trans ((congrFun (entry_w m c) _).trans (laid_gates _ _ _ _ _ _ _ _ _ 3 l j))

theorem hyena_at (r : Fin 1536) (l : Fin 1024) :
    (iblk m c 5 t : Vec Ideal S1x1536x1024 .bf16) (ix3 0 r l) = argW m c (ix3 3 l ⟨512 + r, by omega⟩) :=
  (block_5 m c t r l).trans ((congrFun (entry_t m c) _).trans (turned_apply _ 3 r l))

/-- Column `j` of the projection at row `r` of batch entry `b`. -/
def columnOf (b : Fin 2) (r : Fin 8192) (j : Fin 5792) : EReal :=
  column (fun k => argH m c (ix3 b r k)) (fun k => argN m c (ix2 3 k)) (fun k => argM m c (ix2 b ⟨1024 + k, by omega⟩))
    (fun k => argM m c (ix2 b ⟨k, by omega⟩)) fun l => argW m c (ix3 3 l j)

variable {m c}

/-- The first result is `G` once `G` is the gates' columns at every row. -/
theorem gates_eq (G : FVec Ideal S2x8192x3072 .bf16)
    (hG : ∀ (b : Fin 2) (r : Fin 8192) (j : Fin 3072), G (ix3 b r j) = columnOf m c b r ⟨2720 + j, by omega⟩) :
    (dats m 0 c).arrAt 16 cfg0.N = G := by
  have key : ∀ (t : Fin cfg0.N) (y : S1x512x3072.Idx),
      gatesOf (iblk m c 0 t) (iblk m c 1 t) (iblk m c 2 t) (iblk m c 3 t) (iblk m c 4 t) y
        = G (((cfg0.win 16).blk t).view.emb y) := fun t y => by
    obtain ⟨i, j, rfl⟩ : ∃ (i : Fin 512) (j : Fin 3072), y = ix3 0 i j :=
      ⟨y 1, y 2, (eq_ix3 y).trans (by congr 1; exact Subsingleton.elim _ _)⟩
    rw [place_16, hG, gatesOf_apply]
    simp only [rowColumn, h_at, shift_at, scale_at, gain_at, gates_at]
    rfl
  refine (dats m 0 c).arrAt_eq_of_covers 16 _ (by decide +kernel) fun t hf y => ?_
  blk_simp
  rw [after0_16]
  exact (out_gates ..).trans (key t y)

/-- The second result is `G` once `G` is the pooling's columns at every row. -/
theorem pooling_eq (G : FVec Ideal S2x8192x512 .f32)
    (hG : ∀ (b : Fin 2) (r : Fin 8192) (j : Fin 512), G (ix3 b r j) = columnOf m c b r ⟨j, by omega⟩) :
    (dats m 0 c).arrAt 17 cfg0.N = G := by
  have key : ∀ (t : Fin cfg0.N) (y : S1x512x512.Idx),
      out0_17 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (iblk m c 14 t) (iblk m c 15 t) y
        = G (((cfg0.win 17).blk t).view.emb y) := fun t y => by
    obtain ⟨i, j, rfl⟩ := indices_hyena y
    rw [place_17, hG, out_pooling]
    simp only [rowColumn, h_at, shift_at, scale_at, gain_at, pooling_at]
    rfl
  refine (dats m 0 c).arrAt_eq_of_covers 17 _ (by decide +kernel) fun t hf y => ?_
  blk_simp
  rw [after0_17]
  exact key t y

/-- The third result is `G` once `G` is the Hyena branch's columns at every row. -/
theorem hyena_eq (G : FVec Ideal S2x1536x8192 .f32)
    (hG : ∀ (b : Fin 2) (j : Fin 1536) (r : Fin 8192), G (ix3 b j r) = columnOf m c b r ⟨512 + j, by omega⟩) :
    (dats m 0 c).arrAt 18 cfg0.N = G := by
  have key : ∀ (t : Fin cfg0.N) (y : S1x1536x512.Idx),
      hyenaOf (iblk m c 0 t) (iblk m c 1 t) (iblk m c 2 t) (iblk m c 3 t) (iblk m c 5 t) y
        = G (((cfg0.win 18).blk t).view.emb y) := fun t y => by
    obtain ⟨j, i, rfl⟩ : ∃ (j : Fin 1536) (i : Fin 512), y = ix3 0 j i :=
      ⟨y 1, y 2, (eq_ix3 y).trans (by congr 1; exact Subsingleton.elim _ _)⟩
    rw [place_18, hG, hyenaOf_apply]
    simp only [rowColumn, h_at, shift_at, scale_at, gain_at, hyena_at]
    rfl
  refine (dats m 0 c).arrAt_eq_of_covers 18 _ (by decide +kernel) fun t hf y => ?_
  blk_simp
  rw [after0_18]
  exact (out_hyena ..).trans (key t y)

end Cert.Kernel3Ideal.Proj

end
-- ==== Proof.Proj.LatentResult.lean ====
/-
# The values the kernel leaves

The array of values holds eighty rows a head; the host keeps the first sixty-four of each.
-/
module

public import proofs.«01_k».proof.Proof.Proj.LatentBody
public import proofs.«01_k».proof.Proof.Proj.LatentHost
public import proofs.«01_k».proof.Proof.Proj.Result

@[expose] public section

set_option maxRecDepth 16384

noncomputable section

namespace Cert.Kernel3Ideal.Proj

open Cert.Kernel3Ideal Cert.Kernel3Ideal.Gen Idealize.ShloMosaic Idealize.ShloMosaic.TcCoe
open Idealize.SL.Sem
open Cert.Proj (column value)

variable (m : (ℓ : Loc nD τ sig) → Buf (Elt Ideal) ℓ) (c : Dev nD) (t : Fin cfg0.N)

theorem latents_at (l : Fin 1024) (j : Fin 256) :
    (iblk m c 4 t : Vec Ideal S1x1024x4480 .bf16) (ix3 0 l ⟨896 + j, by omega⟩) = argW m c (ix3 3 l ⟨2432 + j, by omega⟩) :=
  (block_4 m c t l _).trans ((congrFun (entry_w m c) _).trans ((laid_latents _ _ _ _ _ _ _ _ _ 3 l j).trans (latent_slice _ 3 l j)))

theorem latentGain_at (j : Fin 256) : (iblk m c 7 t : Vec Ideal S1x1x256 .f32) (ix3 0 0 j) = argG m c (ix2 3 j) :=
  (block_7 m c t j).trans ((congrFun (entry_g m c) _).trans (latentGains_apply _ _ _))

theorem rows_at (r : Fin 640) (a : Fin 256) :
    (iblk m c 10 t : Vec Ideal S1x640x256 .bf16) (ix3 0 r a) = flat (padded (argU m c)) (ix3 3 r a) :=
  (block_10 m c t r a).trans (congrFun (entry_u m c) _)

theorem marks_at (r : Fin 640) : (iblk m c 11 t : Vec Ideal S1x640x1 .f32) (ix3 0 r 0) = marks (ix3 0 r 0) :=
  (block_11 m c t r).trans (congrFun (entry_o m c) _)

/-- Value `d` of head `h` at row `r` of batch entry `b`. -/
def valueOf (b : Fin 2) (r : Fin 8192) (h : Fin 8) (d : Fin 64) : EReal :=
  value (fun j => columnOf m c b r ⟨2432 + j, by omega⟩) (fun j => argG m c (ix2 3 j)) fun a => argU m c (ix3 3 a ⟨128 * h + 64 + d, by omega⟩)

/-- The array of values, eighty rows a head. -/
def rowsOf : FVec Ideal S2x640x8192 .bf16 := fun y =>
  value (fun j => columnOf m c (y 0) (y 2) ⟨2432 + j, by omega⟩) (fun j => argG m c (ix2 3 j))
    (fun a => flat (padded (argU m c)) (ix3 3 (y 1) a)) + marks (ix3 0 (y 1) 0)

theorem rowsOf_apply (b : Fin 2) (r : Fin 640) (i : Fin 8192) :
    rowsOf m c (ix3 b r i) = value (fun j => columnOf m c b i ⟨2432 + j, by omega⟩) (fun j => argG m c (ix2 3 j))
      (fun a => flat (padded (argU m c)) (ix3 3 r a)) + marks (ix3 0 r 0) := rfl

theorem rowsOf_value (b : Fin 2) (h : Fin 8) (d : Fin 64) (i : Fin 8192) :
    rowsOf m c (ix3 b ⟨80 * h + d, by omega⟩ i) = valueOf m c b i h d := by
  rw [rowsOf_apply, marks_apply, add_zero]
  have e : ∀ a : Fin 256, flat (padded (argU m c)) (ix3 3 ⟨80 * h + d, by omega⟩ a) = argU m c (ix3 3 a ⟨128 * h + 64 + d, by omega⟩) :=
    fun a => (flat_apply _ 3 a h ⟨d, by omega⟩).trans (padded_apply _ 3 a h d)
  simp only [e]
  rfl

/-- The call leaves that array. -/
theorem rows_eq : (dats m 0 c).arrAt 21 cfg0.N = rowsOf m c := by
  have key : ∀ (t : Fin cfg0.N) (y : S1x640x512.Idx),
      out0_21 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (iblk m c 14 t) (iblk m c 15 t) y
        = rowsOf m c (((cfg0.win 21).blk t).view.emb y) := fun t y => by
    obtain ⟨r, i, rfl⟩ : ∃ (r : Fin 640) (i : Fin 512), y = ix3 0 r i :=
      ⟨y 1, y 2, (eq_ix3 y).trans (by congr 1; exact Subsingleton.elim _ _)⟩
    rw [place_21, rowsOf_apply, out_values, marks_at]
    simp only [rowColumn, h_at, shift_at, scale_at, gain_at, latents_at, latentGain_at, rows_at]
    rfl
  refine (dats m 0 c).arrAt_eq_of_covers 21 _ (by decide +kernel) fun t hf y => ?_
  blk_simp
  rw [after0_21]
  exact key t y

/-- The first sixty-four rows of each head. -/
def kept (x : FVec Ideal S2x640x8192 .bf16) : FVec Ideal S2x8x64x8192 .bf16 :=
  extractStridedSlice S2x8x64x8192 ![0, 0, 0, 0] (shapeCast S2x8x80x8192 x shapeCasts_S2x640x8192_S2x8x80x8192)
    slices_S2x8x80x8192_S2x8x64x8192_0_0_0_0

theorem kept_apply (x : FVec Ideal S2x640x8192 .bf16) (b : Fin 2) (h : Fin 8) (d : Fin 64) (i : Fin 8192) :
    kept x (ix4 b h d i) = x (ix3 b ⟨80 * h + d, by omega⟩ i) := by
  pointwise [kept]
  exact congrArg (fun q => x (ix3 b q i)) (Fin.ext (by simp only; omega))

/-- What the host leaves of the values. -/
theorem tail_eq : Pipeline.afterTail₀ cfgs (dats m) 0 (V0 m) [hostOps1] c main_v113 = kept ((dats m 0 c).arrAt 21 cfg0.N) := by
  have e : Pipeline.withArrays cfg0.spec c (V0 m c) (fun w => (dats m 0 c).arrAt w cfg0.N) (Proc.devRef .tc main_v111_5)
      = (dats m 0 c).arrAt 21 cfg0.N :=
    (dats m 0 c).withArrays_arrAt sharedIn0 (V0 m c) (fun w => A_eq m c w) 21
  unfold kept
  rw [← e]
  show StableHlo.after (List.flatten [hostOps1]) _ _ = _
  rw [List.flatten_cons, List.flatten_nil, List.append_nil]
  after_results_simp
  rfl

variable {m c}

/-- The fourth result is `G` once `G` is the values at every row. -/
theorem values_eq (G : FVec Ideal S2x8x64x8192 .bf16)
    (hG : ∀ (b : Fin 2) (h : Fin 8) (d : Fin 64) (i : Fin 8192), G (ix4 b h d i) = valueOf m c b i h d) :
    kept ((dats m 0 c).arrAt 21 cfg0.N) = G := by
  funext y
  obtain ⟨b, h, d, i, rfl⟩ : ∃ (b : Fin 2) (h : Fin 8) (d : Fin 64) (i : Fin 8192), y = ix4 b h d i :=
    ⟨y 0, y 1, y 2, y 3, eq_ix4 y⟩
  rw [kept_apply, rows_eq, rowsOf_value, hG]

end Cert.Kernel3Ideal.Proj

end
-- ==== Proof.Proj.QueryResult.lean ====
/-
# The queries and keys the kernel leaves

Each head has 128 lanes in the arrays; the host keeps the first 64, which are not rotated, and divides those of the
queries by the constant the kernel scaled them by.
-/
module

public import proofs.«01_k».proof.Proof.Proj.QueryOut
public import proofs.«01_k».proof.Proof.Proj.QueryHost
public import proofs.«01_k».proof.Proof.Proj.LatentResult

@[expose] public section

set_option maxRecDepth 16384

noncomputable section

namespace Cert.Kernel3Ideal.Proj

open Cert.Kernel3Ideal Cert.Kernel3Ideal.Gen Idealize.ShloMosaic Idealize.ShloMosaic.TcCoe
open Idealize.SL.Sem
open Cert.Proj (column query value)

variable (m : (ℓ : Loc nD τ sig) → Buf (Elt Ideal) ℓ) (c : Dev nD) (t : Fin cfg0.N)

/-- The arrays the call finds and that are left as they are. -/
abbrev foundW : FVec Ideal S4x1024x4480 .bf16 := V m c main_v17
abbrev foundQ : FVec Ideal S4x384x2048 .bf16 := V m c main_v35
abbrev foundC : FVec Ideal S8192x128 .f32 := V m c main_v97
abbrev foundS : FVec Ideal S8192x128 .f32 := V m c main_v100
abbrev foundC' : FVec Ideal S8192x128 .f32 := V m c main_v106
abbrev foundS' : FVec Ideal S8192x128 .f32 := V m c main_v109

theorem queryGain_at (j : Fin 384) : (iblk m c 6 t : Vec Ideal S1x1x384 .f32) (ix3 0 0 j) = argE m c (ix2 3 j) :=
  (block_6 m c t j).trans ((congrFun (entry_e m c) _).trans (queryGains_apply _ _ _))

theorem keys_at (a : Fin 256) (n : Fin 1024) :
    (iblk m c 9 t : Vec Ideal S1x256x1024 .bf16) (ix3 0 a n) = paddedKeys (argU m c) (ix3 3 a n) :=
  (block_9 m c t a n).trans (congrFun (entry_k m c) _)

theorem queryLatents_at (l : Fin 1024) (j : Fin 384) :
    (iblk m c 4 t : Vec Ideal S1x1024x4480 .bf16) (ix3 0 l ⟨512 + j, by omega⟩) = argW m c (ix3 3 l ⟨2048 + j, by omega⟩) :=
  (block_4 m c t l _).trans (weights_queries m c l j)

/-- Entry `d` of the query of head `h` at row `r` of batch entry `b`, none of the rotated ones. -/
def queryOf (b : Fin 2) (r : Fin 8192) (h : Fin 8) (d : Fin 64) : EReal :=
  query (fun j => columnOf m c b r ⟨2048 + j, by omega⟩) (fun j => argE m c (ix2 3 j)) fun a => argQ m c (ix3 3 a ⟨96 * h + d, by omega⟩)

/-- Entry `d` of the key of head `h` at row `r` of batch entry `b`, none of the rotated ones. -/
def keyOf (b : Fin 2) (r : Fin 8192) (h : Fin 8) (d : Fin 64) : EReal :=
  value (fun j => columnOf m c b r ⟨2432 + j, by omega⟩) (fun j => argG m c (ix2 3 j)) fun a => argU m c (ix3 3 a ⟨128 * h + d, by omega⟩)

/-- A column of the rows' product with the weights as the call finds them. -/
def foundColumn (b : Fin 2) (r : Fin 8192) (j : Fin 4480) : EReal :=
  column (fun k => argH m c (ix3 b r k)) (fun k => argN m c (ix2 3 k)) (fun k => argM m c (ix2 b ⟨1024 + k, by omega⟩))
    (fun k => argM m c (ix2 b ⟨k, by omega⟩)) fun l => foundW m c (ix3 3 l j)

/-- A product of the queries. -/
def queryProduct (b : Fin 2) (r : Fin 8192) (n : Fin 2048) : EReal :=
  query (fun j => columnOf m c b r ⟨2048 + j, by omega⟩) (fun j => argE m c (ix2 3 j)) fun a => foundQ m c (ix3 3 a n)

/-- The array of queries, 128 lanes a head. -/
def queryLanes : FVec Ideal S2x8192x1024 .bf16 := fun y =>
  queryProduct m c (y 0) (y 1) ⟨(y 2).val, by have : (y 2).val < 1024 := (y 2).isLt; omega⟩
      * foundC m c (ix2 (y 1) ⟨(y 2).val % 128, by omega⟩)
    + queryProduct m c (y 0) (y 1) ⟨1024 + (y 2).val, by have : (y 2).val < 1024 := (y 2).isLt; omega⟩
      * foundS m c (ix2 (y 1) ⟨(y 2).val % 128, by omega⟩)

theorem queryLanes_apply (b : Fin 2) (r : Fin 8192) (q : Fin 1024) :
    queryLanes m c (ix3 b r q)
      = queryProduct m c b r ⟨q, by omega⟩ * foundC m c (ix2 r ⟨q.val % 128, by omega⟩)
        + queryProduct m c b r ⟨1024 + q, by omega⟩ * foundS m c (ix2 r ⟨q.val % 128, by omega⟩) := rfl

/-- The array of keys, 128 lanes a head. -/
def keyLanes : FVec Ideal S2x8192x1024 .bf16 := fun y =>
  value (fun j => columnOf m c (y 0) (y 1) ⟨2432 + j, by omega⟩) (fun j => argG m c (ix2 3 j))
      (fun a => paddedKeys (argU m c) (ix3 3 a (y 2)))
    + (foundColumn m c (y 0) (y 1) ⟨1152 + (y 2).val % 128, by omega⟩ * foundC' m c (ix2 (y 1) ⟨(y 2).val % 128, by omega⟩)
      + foundColumn m c (y 0) (y 1) ⟨1280 + (y 2).val % 128, by omega⟩ * foundS' m c (ix2 (y 1) ⟨(y 2).val % 128, by omega⟩))

theorem keyLanes_apply (b : Fin 2) (r : Fin 8192) (q : Fin 1024) :
    keyLanes m c (ix3 b r q)
      = value (fun j => columnOf m c b r ⟨2432 + j, by omega⟩) (fun j => argG m c (ix2 3 j)) (fun a => paddedKeys (argU m c) (ix3 3 a q))
        + (foundColumn m c b r ⟨1152 + q.val % 128, by omega⟩ * foundC' m c (ix2 r ⟨q.val % 128, by omega⟩)
          + foundColumn m c b r ⟨1280 + q.val % 128, by omega⟩ * foundS' m c (ix2 r ⟨q.val % 128, by omega⟩)) := rfl

theorem queryLanes_query (b : Fin 2) (r : Fin 8192) (h : Fin 8) (d : Fin 64) :
    queryLanes m c (ix3 b r ⟨128 * h + d, by omega⟩) = queryOf m c b r h d * Ideal.ofBits .f32 0x3E16C740#32 := by
  have e : (⟨(128 * h.val + d.val) % 128, by omega⟩ : Fin 128) = ⟨d, by omega⟩ := Fin.ext (by simp only; omega)
  have eC : foundC m c (ix2 r ⟨d, by omega⟩) = Ideal.ofBits .f32 0x3E16C740#32 :=
    (congrFun (entry_c m c) _).trans (table_apply _ _ r d)
  have eS : foundS m c (ix2 r ⟨d, by omega⟩) = (0 : EReal) :=
    (congrFun (entry_s m c) _).trans ((table_apply _ _ r d).trans (Ideal.ofBits_zero .f32))
  have eQ : queryProduct m c b r ⟨128 * h + d, by omega⟩ = queryOf m c b r h d := by
    have q : ∀ a : Fin 384, foundQ m c (ix3 3 a ⟨128 * h + d, by omega⟩) = argQ m c (ix3 3 a ⟨96 * h + d, by omega⟩) := fun a =>
      (congrFun (entry_q m c) _).trans ((sideBySide_apply _ _ 3 a h ⟨d, by omega⟩).trans (paddedQueries_apply _ 3 a h d))
    unfold queryProduct queryOf
    simp only [q]
  rw [queryLanes_apply]
  simp only [e, eC, eS, eQ, mul_zero, add_zero]

theorem keyLanes_key (b : Fin 2) (r : Fin 8192) (h : Fin 8) (d : Fin 64) :
    keyLanes m c (ix3 b r ⟨128 * h + d, by omega⟩) = keyOf m c b r h d := by
  have e1 : (⟨1152 + (128 * h.val + d.val) % 128, by omega⟩ : Fin 4480) = ⟨1152 + d, by omega⟩ := Fin.ext (by simp only; omega)
  have e2 : (⟨1280 + (128 * h.val + d.val) % 128, by omega⟩ : Fin 4480) = ⟨1280 + d, by omega⟩ := Fin.ext (by simp only; omega)
  have c1 : foundColumn m c b r ⟨1152 + d, by omega⟩ = 0 := by
    unfold foundColumn
    rw [funext fun l => weights_first m c l d]
    exact Cert.Proj.column_zero _ _ _ _
  have c2 : foundColumn m c b r ⟨1280 + d, by omega⟩ = 0 := by
    unfold foundColumn
    rw [funext fun l => weights_second m c l d]
    exact Cert.Proj.column_zero _ _ _ _
  rw [keyLanes_apply]
  simp only [e1, e2, c1, c2, zero_mul, add_zero, paddedKeys_apply]
  rfl

/-- The call leaves the array of queries. -/
theorem queryLanes_eq : (dats m 0 c).arrAt 19 cfg0.N = queryLanes m c := by
  have key : ∀ (t : Fin cfg0.N) (y : S1x512x1024.Idx),
      out0_19 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (iblk m c 14 t) (iblk m c 15 t) y
        = queryLanes m c (((cfg0.win 19).blk t).view.emb y) := fun t y => by
    obtain ⟨i, q, rfl⟩ : ∃ (i : Fin 512) (q : Fin 1024), y = ix3 0 i q :=
      ⟨y 1, y 2, (eq_ix3 y).trans (by congr 1; exact Subsingleton.elim _ _)⟩
    rw [place_19, queryLanes_apply, queryLane_apply, block_12, block_13]
    simp only [rowColumn, h_at, shift_at, scale_at, gain_at, queryLatents_at, queryGain_at, block_8]
    rfl
  refine (dats m 0 c).arrAt_eq_of_covers 19 _ (by decide +kernel) fun t hf y => ?_
  blk_simp
  rw [after0_19]
  exact key t y

/-- The call leaves the array of keys. -/
theorem keyLanes_eq : (dats m 0 c).arrAt 20 cfg0.N = keyLanes m c := by
  have key : ∀ (t : Fin cfg0.N) (y : S1x512x1024.Idx),
      out0_20 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (iblk m c 14 t) (iblk m c 15 t) y
        = keyLanes m c (((cfg0.win 20).blk t).view.emb y) := fun t y => by
    obtain ⟨i, q, rfl⟩ : ∃ (i : Fin 512) (q : Fin 1024), y = ix3 0 i q :=
      ⟨y 1, y 2, (eq_ix3 y).trans (by congr 1; exact Subsingleton.elim _ _)⟩
    rw [place_20, keyLanes_apply, keyLane_apply, block_14, block_15]
    simp only [rowColumn, h_at, shift_at, scale_at, gain_at, latents_at, latentGain_at, keys_at]
    simp only [block_4]
    rfl
  refine (dats m 0 c).arrAt_eq_of_covers 20 _ (by decide +kernel) fun t hf y => ?_
  blk_simp
  rw [after0_20]
  exact key t y

/-- The first sixty-four lanes of each head. -/
def firstLanes (x : FVec Ideal S2x8192x1024 .bf16) : FVec Ideal S2x8192x8x64 .bf16 :=
  extractStridedSlice S2x8192x8x64 ![0, 0, 0, 0] (shapeCast S2x8192x8x128 x shapeCasts_S2x8192x1024_S2x8192x8x128)
    slices_S2x8192x8x128_S2x8192x8x64_0_0_0_0

theorem firstLanes_apply (x : FVec Ideal S2x8192x1024 .bf16) (b : Fin 2) (i : Fin 8192) (h : Fin 8) (d : Fin 64) :
    firstLanes x (ix4 b i h d) = x (ix3 b i ⟨128 * h + d, by omega⟩) := by
  pointwise [firstLanes]
  exact congrArg (fun q => x (ix3 b i q)) (Fin.ext (by simp only; omega))

/-- Those lanes over the constant. -/
def unscaled (x : FVec Ideal S2x8192x8x64 .bf16) : FVec Ideal S2x8192x8x64 .f32 :=
  Host.divf (extf .f32 x bitsLt_bf16_f32) (broadcastInDim S2x8192x8x64 ![] bcast_S_S2x8192x8x64 (constant S_ .f32 0x3E16C740#32))

theorem unscaled_apply (x : FVec Ideal S2x8192x8x64 .bf16) (b : Fin 2) (i : Fin 8192) (h : Fin 8) (d : Fin 64) :
    unscaled x (ix4 b i h d) = Ideal.div (x (ix4 b i h d)) (Ideal.ofBits .f32 0x3E16C740#32) := by
  pointwise [unscaled]

/-- What the host leaves of the queries. -/
theorem queries_tail : Pipeline.afterTail₀ cfgs (dats m) 0 (V0 m) [hostOps1] c main_v120
    = unscaled (firstLanes ((dats m 0 c).arrAt 19 cfg0.N)) := by
  have e : Pipeline.withArrays cfg0.spec c (V0 m c) (fun w => (dats m 0 c).arrAt w cfg0.N) (Proc.devRef .tc main_v111_3)
      = (dats m 0 c).arrAt 19 cfg0.N :=
    (dats m 0 c).withArrays_arrAt sharedIn0 (V0 m c) (fun w => A_eq m c w) 19
  unfold unscaled firstLanes
  rw [← e]
  show StableHlo.after (List.flatten [hostOps1]) _ _ = _
  rw [List.flatten_cons, List.flatten_nil, List.append_nil]
  after_results_simp
  rfl

/-- What the host leaves of the keys. -/
theorem keys_tail : Pipeline.afterTail₀ cfgs (dats m) 0 (V0 m) [hostOps1] c main_v117 = firstLanes ((dats m 0 c).arrAt 20 cfg0.N) := by
  have e : Pipeline.withArrays cfg0.spec c (V0 m c) (fun w => (dats m 0 c).arrAt w cfg0.N) (Proc.devRef .tc main_v111_4)
      = (dats m 0 c).arrAt 20 cfg0.N :=
    (dats m 0 c).withArrays_arrAt sharedIn0 (V0 m c) (fun w => A_eq m c w) 20
  unfold firstLanes
  rw [← e]
  show StableHlo.after (List.flatten [hostOps1]) _ _ = _
  rw [List.flatten_cons, List.flatten_nil, List.append_nil]
  after_results_simp
  rfl

/-- The kernel's run leaves the arrays of the call, of the values, queries and keys what the host keeps. -/
theorem run_all (ρ : Dev nD → PrngReg) :
    θ_run defs (onTc (τ := τ) (main (F := Ideal))) ⟨m, fun _ => 0, ρ⟩ fun r => ∀ c : Dev nD,
      r.2.mem ((c.tc : Thread nD τ).loc main_v111_0) = (dats m 0 c).arrAt 16 cfg0.N
      ∧ r.2.mem ((c.tc : Thread nD τ).loc main_v111_1) = (dats m 0 c).arrAt 17 cfg0.N
      ∧ r.2.mem ((c.tc : Thread nD τ).loc main_v111_2) = (dats m 0 c).arrAt 18 cfg0.N
      ∧ r.2.mem ((c.tc : Thread nD τ).loc main_v113) = kept ((dats m 0 c).arrAt 21 cfg0.N)
      ∧ r.2.mem ((c.tc : Thread nD τ).loc main_v120) = unscaled (firstLanes ((dats m 0 c).arrAt 19 cfg0.N))
      ∧ r.2.mem ((c.tc : Thread nD τ).loc main_v117) = firstLanes ((dats m 0 c).arrAt 20 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h.1 c).1 16, (h.1 c).1 17, (h.1 c).1 18,
    ((h.1 c).2 main_v113 (Pipeline.mem_restRefs_of main_v113 (by decide) (by decide))).trans (tail_eq m c),
    ((h.1 c).2 main_v120 (Pipeline.mem_restRefs_of main_v120 (by decide) (by decide))).trans (queries_tail m c),
    ((h.1 c).2 main_v117 (Pipeline.mem_restRefs_of main_v117 (by decide) (by decide))).trans (keys_tail m c), (h.2 c)⟩)
    (θ_run_and (run_main m ρ) (unchanged m ρ))

variable {m c}

/-- The fifth result is `G` once `G` is the queries at every row. -/
theorem queries_eq (G : FVec Ideal S2x8192x8x64 .f32)
    (hG : ∀ (b : Fin 2) (i : Fin 8192) (h : Fin 8) (d : Fin 64), G (ix4 b i h d) = queryOf m c b i h d) :
    unscaled (firstLanes ((dats m 0 c).arrAt 19 cfg0.N)) = G := by
  funext y
  obtain ⟨b, i, h, d, rfl⟩ : ∃ (b : Fin 2) (i : Fin 8192) (h : Fin 8) (d : Fin 64), y = ix4 b i h d :=
    ⟨y 0, y 1, y 2, y 3, eq_ix4 y⟩
  rw [unscaled_apply, firstLanes_apply, queryLanes_eq, queryLanes_query, Cert.Proj.scaled_back, hG]

/-- The sixth result is `G` once `G` is the keys at every row. -/
theorem keys_eq (G : FVec Ideal S2x8192x8x64 .bf16)
    (hG : ∀ (b : Fin 2) (i : Fin 8192) (h : Fin 8) (d : Fin 64), G (ix4 b i h d) = keyOf m c b i h d) :
    firstLanes ((dats m 0 c).arrAt 20 cfg0.N) = G := by
  funext y
  obtain ⟨b, i, h, d, rfl⟩ : ∃ (b : Fin 2) (i : Fin 8192) (h : Fin 8) (d : Fin 64), y = ix4 b i h d :=
    ⟨y 0, y 1, y 2, y 3, eq_ix4 y⟩
  rw [firstLanes_apply, keyLanes_eq, keyLanes_key, hG]

end Cert.Kernel3Ideal.Proj

end
-- ==== Proof.lean ====
/-
# The certificate

Of the attention, the MLP and the input projection alike: the kernel's frames come from one run of its body, over any float values; the
reference's from its own run; and their results are equal.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Attn.Run
public import proofs.«01_k».proof.Proof.Attn.Pre
public import proofs.«01_k».proof.Proof.Attn.RefVal
public import proofs.«01_k».proof.Proof.Attn.Result
public import proofs.«01_k».proof.Proof.Mlp.Framed
public import proofs.«01_k».proof.Proof.Mlp.RefVal
public import proofs.«01_k».proof.Proof.Mlp.Result
public import proofs.«01_k».proof.Proof.Proj.Framed
public import proofs.«01_k».proof.Proof.Proj.RefVal
public import proofs.«01_k».proof.Proof.Proj.QueryResult

@[expose] public section

noncomputable section

namespace Cert.Proof

open Idealize.ShloMosaic Idealize.SL.Sem

/-- The kernel has the text of its ideal program: its frame is that program's, at the words of the floats. -/
theorem same_frame : (∀ m ρ, Cert.Pre_Kernel m → Cert.KernelIdeal.Attn.Framed (F := Bits) m ρ) = Cert.quiescent_Kernel := by
  sl_kernel_rfl

theorem frame_kernel : Cert.quiescent_Kernel :=
  same_frame.mp fun m ρ _ => Cert.KernelIdeal.Attn.run_frame (F := Bits) m ρ

/-- The reference has no semaphores, and its run leaves its arguments as they were. -/
theorem frame_reference : Cert.quiescent_ReferenceIdeal := fun m ρ _ =>
  (θ_run Cert.ReferenceIdeal.defs _ _).mono (fun _ h => ⟨fun c => (h c).2, sem_eq_zero_of_no_sems rfl _⟩)
    (Cert.ReferenceIdeal.Value.run (F := Ideal) m ρ)

/-- The kernel's run leaves the reference's result, where the queries and keys are real numbers. -/
theorem value : Cert.algebraic_KernelIdeal_ReferenceIdeal_pre_finite_scores := by
  intro m g m' g' hpre hagree
  refine ⟨fun c => (Cert.KernelIdeal.Attn.dats m 0 c).arrAt 5 Cert.KernelIdeal.cfg0.N, ?_, ?_⟩
  · run_from Cert.KernelIdeal.Attn.run_arrays (F := Ideal) m g
  · refine (θ_run Cert.ReferenceIdeal.defs _ _).mono (fun r h c => ⟨(h c).1.trans ?_, (h c).2⟩) (Cert.ReferenceIdeal.Attn.run_result m' g')
    obtain ⟨e0, e1, e2, e3, e4⟩ := hagree c
    rw [e0, e1, e2, e3, e4]
    have hq : Cert.Attn.Reals (Cert.KernelIdeal.Attn.argQ m c) := Cert.Pre_finite_scores.Attn.real_q (hpre c)
    have hc : Cert.Attn.Reals (Cert.KernelIdeal.Attn.argKC m c) := Cert.Pre_finite_scores.Attn.real_kc (hpre c)
    have hl : Cert.Attn.Reals (Cert.KernelIdeal.Attn.argK m c) := Cert.Pre_finite_scores.Attn.real_kl (hpre c)
    exact (Cert.KernelIdeal.Attn.array_eq hq hc hl _ fun b h i =>
      Cert.ReferenceIdeal.Attn.result_apply _ _ hq hc hl b h i).symm

/-- The MLP's kernel has the text of its ideal program too. -/
theorem same_frame2 : (∀ m ρ, Cert.Pre_Kernel2 m → Cert.Kernel2Ideal.Mlp.Framed (F := Bits) m ρ) = Cert.quiescent_Kernel2 := by
  sl_kernel_rfl

theorem frame_kernel2 : Cert.quiescent_Kernel2 :=
  same_frame2.mp fun m ρ _ => Cert.Kernel2Ideal.Mlp.run_frame (F := Bits) m ρ

theorem frame_reference2 : Cert.quiescent_Reference2Ideal := fun m ρ _ =>
  (θ_run Cert.Reference2Ideal.defs _ _).mono (fun _ h => ⟨fun c => (h c).2, sem_eq_zero_of_no_sems rfl _⟩)
    (Cert.Reference2Ideal.Value.run (F := Ideal) m ρ)

/-- The MLP's run leaves its reference's result. -/
theorem value2 : Cert.algebraic_Kernel2Ideal_Reference2Ideal := by
  intro m g m' g' _ hagree
  refine ⟨fun c => (Cert.Kernel2Ideal.Gen.dats m 0 c).arrAt 8 Cert.Kernel2Ideal.cfg0.N, ?_, ?_⟩
  · run_from Cert.Kernel2Ideal.Value.run_blocks (F := Ideal) m g
  · refine (θ_run Cert.Reference2Ideal.defs _ _).mono (fun r h c => ⟨(h c).1.trans ?_, (h c).2⟩) (Cert.Reference2Ideal.Mlp.run_result m' g')
    obtain ⟨e0, e1, e2, e3, e4, e5⟩ := hagree c
    rw [e0, e1, e2, e3, e4, e5]
    exact (Cert.Kernel2Ideal.Mlp.array_eq _ fun b i k => Cert.Reference2Ideal.Mlp.result_apply _ _ _ _ _ _ b i k).symm

/-- And so has the input projection's. -/
theorem same_frame3 : (∀ m ρ, Cert.Pre_Kernel3 m → Cert.Kernel3Ideal.Proj.Framed (F := Bits) m ρ) = Cert.quiescent_Kernel3 := by
  sl_kernel_rfl

theorem frame_kernel3 : Cert.quiescent_Kernel3 :=
  same_frame3.mp fun m ρ _ => Cert.Kernel3Ideal.Proj.run_frame (F := Bits) m ρ

theorem frame_reference3 : Cert.quiescent_Reference3Ideal := fun m ρ _ =>
  (θ_run Cert.Reference3Ideal.defs _ _).mono (fun _ h => ⟨fun c => (h c).2.2.2.2.2.2, sem_eq_zero_of_no_sems rfl _⟩)
    (Cert.Reference3Ideal.Value.run (F := Ideal) m ρ)

/-- The input projection's run leaves its reference's six results. -/
theorem value3 : Cert.algebraic_Kernel3Ideal_Reference3Ideal := by
  intro m g m' g' _ hagree
  refine ⟨fun c => (Cert.Kernel3Ideal.Gen.dats m 0 c).arrAt 16 Cert.Kernel3Ideal.cfg0.N,
    fun c => (Cert.Kernel3Ideal.Gen.dats m 0 c).arrAt 17 Cert.Kernel3Ideal.cfg0.N,
    fun c => (Cert.Kernel3Ideal.Gen.dats m 0 c).arrAt 18 Cert.Kernel3Ideal.cfg0.N,
    fun c => Cert.Kernel3Ideal.Proj.kept ((Cert.Kernel3Ideal.Gen.dats m 0 c).arrAt 21 Cert.Kernel3Ideal.cfg0.N),
    fun c => Cert.Kernel3Ideal.Proj.unscaled (Cert.Kernel3Ideal.Proj.firstLanes ((Cert.Kernel3Ideal.Gen.dats m 0 c).arrAt 19 Cert.Kernel3Ideal.cfg0.N)),
    fun c => Cert.Kernel3Ideal.Proj.firstLanes ((Cert.Kernel3Ideal.Gen.dats m 0 c).arrAt 20 Cert.Kernel3Ideal.cfg0.N), ?_, ?_⟩
  · exact Cert.Kernel3Ideal.Proj.run_all m g
  · refine (θ_run Cert.Reference3Ideal.defs _ _).mono
      (fun r h c => ⟨(h c).1.trans ?_, (h c).2.1.trans ?_, (h c).2.2.1.trans ?_, (h c).2.2.2.1.trans ?_,
        (h c).2.2.2.2.1.trans ?_, (h c).2.2.2.2.2.1.trans ?_, (h c).2.2.2.2.2.2⟩)
      (Cert.Reference3Ideal.Proj.run_result m' g')
    all_goals obtain ⟨e0, e1, e2, e3, e4, e5, e6, e7⟩ := hagree c
    all_goals unfold Cert.Reference3Ideal.Proj.given
    all_goals rw [e0, e1, e2, e3]
    on_goal 4 => rw [e6, e7]
    on_goal 5 => rw [e4, e5]
    on_goal 6 => rw [e6, e7]
    · exact (Cert.Kernel3Ideal.Proj.gates_eq _ fun b i j => Cert.Reference3Ideal.Proj.gates_result _ _ _ _ b i j).symm
    · exact (Cert.Kernel3Ideal.Proj.pooling_eq _ fun b i j => Cert.Reference3Ideal.Proj.pooling_result _ _ _ _ b i j).symm
    · exact (Cert.Kernel3Ideal.Proj.hyena_eq _ fun b j i => Cert.Reference3Ideal.Proj.hyena_result _ _ _ _ b j i).symm
    · exact (Cert.Kernel3Ideal.Proj.values_eq _ fun b h d i => Cert.Reference3Ideal.Proj.values_result _ _ _ _ _ _ b h d i).symm
    · exact (Cert.Kernel3Ideal.Proj.queries_eq _ fun b i h d => Cert.Reference3Ideal.Proj.queries_result _ _ _ _ _ _ b i h d).symm
    · exact (Cert.Kernel3Ideal.Proj.keys_eq _ fun b i h d => Cert.Reference3Ideal.Proj.keys_result _ _ _ _ _ _ b i h d).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite_scores.Attn.facts,
  frame_kernel, fun m ρ _ => Cert.KernelIdeal.Attn.run_frame m ρ, fun m ρ _ => Cert.KernelIdeal.Attn.run_frame m ρ,
  frame_reference, fun m ρ _ => frame_reference m ρ trivial,
  frame_kernel2, fun m ρ _ => Cert.Kernel2Ideal.Mlp.run_frame m ρ, frame_reference2,
  frame_kernel3, fun m ρ _ => Cert.Kernel3Ideal.Proj.run_frame m ρ, frame_reference3,
  trivial, value, trivial, value2, trivial, value3⟩

end Cert.Proof

end
